-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_comb_finite [hPre_comb_finite : Cert.Pre_comb_finite.Facts] (m : (ℓ : Loc Cert.MoeIdeal.nD Cert.MoeIdeal.τ Cert.MoeIdeal.sig) → Buf (Elt Ideal) ℓ) : Prop :=
  ∀ c : Dev Cert.MoeIdeal.nD,
    (Cert.Pre_comb_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9)) (m ((c.tc : Thread Cert.MoeIdeal.nD Cert.MoeIdeal.τ).loc Cert.MoeIdeal.main_arg10))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_comb_finite [hPre_comb_finite : Cert.Pre_comb_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_comb_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8)) (m ((c.tc : Thread Cert.MoeRefIdeal.nD Cert.MoeRefIdeal.τ).loc Cert.MoeRefIdeal.main_arg9)) (m ((c.tc : Thread Cert.MoeRefIdeal.nD Cert.MoeRefIdeal.τ).loc Cert.MoeRefIdeal.main_arg10))) = (fun _ => 1#1)

def Pre_Sel (m : (ℓ : Loc Cert.Sel.nD Cert.Sel.τ Cert.Sel.sig) → Buf (Elt Bits) ℓ) : Prop :=
  True

def Pre_SelIdeal (m : (ℓ : Loc Cert.SelIdeal.nD Cert.SelIdeal.τ Cert.SelIdeal.sig) → Buf (Elt Ideal) ℓ) : Prop :=
  True

def Pre_SelIdeal_logits_above [hPre_logits_above : Cert.Pre_logits_above.Facts] (m : (ℓ : Loc Cert.SelIdeal.nD Cert.SelIdeal.τ Cert.SelIdeal.sig) → Buf (Elt Ideal) ℓ) : Prop :=
  ∀ c : Dev Cert.SelIdeal.nD,
    (Cert.Pre_logits_above.fn (F := Ideal) (m ((c.tc : Thread Cert.SelIdeal.nD Cert.SelIdeal.τ).loc Cert.SelIdeal.main_arg0)) (m ((c.tc : Thread Cert.SelIdeal.nD Cert.SelIdeal.τ).loc Cert.SelIdeal.main_arg1))) = (fun _ => 1#1)

def Pre_SelRefIdeal (m : (ℓ : Loc Cert.SelRefIdeal.nD Cert.SelRefIdeal.τ Cert.SelRefIdeal.sig) → Buf (Elt Ideal) ℓ) : Prop :=
  True

def Pre_SelRefIdeal_logits_above [hPre_logits_above : Cert.Pre_logits_above.Facts] (m : (ℓ : Loc Cert.SelRefIdeal.nD Cert.SelRefIdeal.τ Cert.SelRefIdeal.sig) → Buf (Elt Ideal) ℓ) : Prop :=
  ∀ c : Dev Cert.SelRefIdeal.nD,
    (Cert.Pre_logits_above.fn (F := Ideal) (m ((c.tc : Thread Cert.SelRefIdeal.nD Cert.SelRefIdeal.τ).loc Cert.SelRefIdeal.main_arg0)) (m ((c.tc : Thread Cert.SelRefIdeal.nD Cert.SelRefIdeal.τ).loc Cert.SelRefIdeal.main_arg1))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Glc (m : (ℓ : Loc Cert.Glc.nD Cert.Glc.τ Cert.Glc.sig) → Buf (Elt Bits) ℓ) : Prop :=
  True

def Pre_GlcIdeal (m : (ℓ : Loc Cert.GlcIdeal.nD Cert.GlcIdeal.τ Cert.GlcIdeal.sig) → Buf (Elt Ideal) ℓ) : Prop :=
  True

def Pre_GlcIdeal_decays_above [hPre_decays_above : Cert.Pre_decays_above.Facts] (m : (ℓ : Loc Cert.GlcIdeal.nD Cert.GlcIdeal.τ Cert.GlcIdeal.sig) → Buf (Elt Ideal) ℓ) : Prop :=
  ∀ c : Dev Cert.GlcIdeal.nD,
    (Cert.Pre_decays_above.fn (F := Ideal) (m ((c.tc : Thread Cert.GlcIdeal.nD Cert.GlcIdeal.τ).loc Cert.GlcIdeal.main_arg0)) (m ((c.tc : Thread Cert.GlcIdeal.nD Cert.GlcIdeal.τ).loc Cert.GlcIdeal.main_arg1)) (m ((c.tc : Thread Cert.GlcIdeal.nD Cert.GlcIdeal.τ).loc Cert.GlcIdeal.main_arg2))) = (fun _ => 1#1)

def Pre_GlcRefIdeal (m : (ℓ : Loc Cert.GlcRefIdeal.nD Cert.GlcRefIdeal.τ Cert.GlcRefIdeal.sig) → Buf (Elt Ideal) ℓ) : Prop :=
  True

def Pre_GlcRefIdeal_decays_above [hPre_decays_above : Cert.Pre_decays_above.Facts] (m : (ℓ : Loc Cert.GlcRefIdeal.nD Cert.GlcRefIdeal.τ Cert.GlcRefIdeal.sig) → Buf (Elt Ideal) ℓ) : Prop :=
  ∀ c : Dev Cert.GlcRefIdeal.nD,
    (Cert.Pre_decays_above.fn (F := Ideal) (m ((c.tc : Thread Cert.GlcRefIdeal.nD Cert.GlcRefIdeal.τ).loc Cert.GlcRefIdeal.main_arg0)) (m ((c.tc : Thread Cert.GlcRefIdeal.nD Cert.GlcRefIdeal.τ).loc Cert.GlcRefIdeal.main_arg1)) (m ((c.tc : Thread Cert.GlcRefIdeal.nD Cert.GlcRefIdeal.τ).loc Cert.GlcRefIdeal.main_arg2))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ r.2.sem = fun _ => 0)

def quiescent_MoeIdeal_pre_comb_finite [hMoeIdeal : Cert.MoeIdeal.Facts] [hPre_comb_finite : Cert.Pre_comb_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_comb_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10))
      ∧ r.2.sem = fun _ => 0)

def quiescent_MoeRefIdeal_pre_comb_finite [hMoeRefIdeal : Cert.MoeRefIdeal.Facts] [hPre_comb_finite : Cert.Pre_comb_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_comb_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10))
      ∧ r.2.sem = fun _ => 0)

def quiescent_Sel [hSel : Cert.Sel.Facts] : Prop :=
  ∀ (m : (ℓ : Loc Cert.Sel.nD Cert.Sel.τ Cert.Sel.sig) → Buf (Elt Bits) ℓ) (g : Dev Cert.Sel.nD → PrngReg), Pre_Sel m →
    θ_run (Cert.Sel.defs (F := Bits)) (onTc (τ := Cert.Sel.τ) (Cert.Sel.main (F := Bits))) ⟨m, fun _ => 0, g⟩ (fun r => (∀ c : Dev Cert.Sel.nD,
      r.2.mem ((c.tc : Thread Cert.Sel.nD Cert.Sel.τ).loc Cert.Sel.main_arg0) = m ((c.tc : Thread Cert.Sel.nD Cert.Sel.τ).loc Cert.Sel.main_arg0)
      ∧ r.2.mem ((c.tc : Thread Cert.Sel.nD Cert.Sel.τ).loc Cert.Sel.main_arg1) = m ((c.tc : Thread Cert.Sel.nD Cert.Sel.τ).loc Cert.Sel.main_arg1))
      ∧ r.2.sem = fun _ => 0)

def quiescent_SelIdeal [hSelIdeal : Cert.SelIdeal.Facts] : Prop :=
  ∀ (m : (ℓ : Loc Cert.SelIdeal.nD Cert.SelIdeal.τ Cert.SelIdeal.sig) → Buf (Elt Ideal) ℓ) (g : Dev Cert.SelIdeal.nD → PrngReg), Pre_SelIdeal m →
    θ_run (Cert.SelIdeal.defs (F := Ideal)) (onTc (τ := Cert.SelIdeal.τ) (Cert.SelIdeal.main (F := Ideal))) ⟨m, fun _ => 0, g⟩ (fun r => (∀ c : Dev Cert.SelIdeal.nD,
      r.2.mem ((c.tc : Thread Cert.SelIdeal.nD Cert.SelIdeal.τ).loc Cert.SelIdeal.main_arg0) = m ((c.tc : Thread Cert.SelIdeal.nD Cert.SelIdeal.τ).loc Cert.SelIdeal.main_arg0)
      ∧ r.2.mem ((c.tc : Thread Cert.SelIdeal.nD Cert.SelIdeal.τ).loc Cert.SelIdeal.main_arg1) = m ((c.tc : Thread Cert.SelIdeal.nD Cert.SelIdeal.τ).loc Cert.SelIdeal.main_arg1))
      ∧ r.2.sem = fun _ => 0)

def quiescent_SelIdeal_pre_logits_above [hSelIdeal : Cert.SelIdeal.Facts] [hPre_logits_above : Cert.Pre_logits_above.Facts] : Prop :=
  ∀ (m : (ℓ : Loc Cert.SelIdeal.nD Cert.SelIdeal.τ Cert.SelIdeal.sig) → Buf (Elt Ideal) ℓ) (g : Dev Cert.SelIdeal.nD → PrngReg), Pre_SelIdeal_logits_above m →
    θ_run (Cert.SelIdeal.defs (F := Ideal)) (onTc (τ := Cert.SelIdeal.τ) (Cert.SelIdeal.main (F := Ideal))) ⟨m, fun _ => 0, g⟩ (fun r => (∀ c : Dev Cert.SelIdeal.nD,
      r.2.mem ((c.tc : Thread Cert.SelIdeal.nD Cert.SelIdeal.τ).loc Cert.SelIdeal.main_arg0) = m ((c.tc : Thread Cert.SelIdeal.nD Cert.SelIdeal.τ).loc Cert.SelIdeal.main_arg0)
      ∧ r.2.mem ((c.tc : Thread Cert.SelIdeal.nD Cert.SelIdeal.τ).loc Cert.SelIdeal.main_arg1) = m ((c.tc : Thread Cert.SelIdeal.nD Cert.SelIdeal.τ).loc Cert.SelIdeal.main_arg1))
      ∧ r.2.sem = fun _ => 0)

def quiescent_SelRefIdeal [hSelRefIdeal : Cert.SelRefIdeal.Facts] : Prop :=
  ∀ (m : (ℓ : Loc Cert.SelRefIdeal.nD Cert.SelRefIdeal.τ Cert.SelRefIdeal.sig) → Buf (Elt Ideal) ℓ) (g : Dev Cert.SelRefIdeal.nD → PrngReg), Pre_SelRefIdeal m →
    θ_run (Cert.SelRefIdeal.defs (F := Ideal)) (onTc (τ := Cert.SelRefIdeal.τ) (Cert.SelRefIdeal.main (F := Ideal))) ⟨m, fun _ => 0, g⟩ (fun r => (∀ c : Dev Cert.SelRefIdeal.nD,
      r.2.mem ((c.tc : Thread Cert.SelRefIdeal.nD Cert.SelRefIdeal.τ).loc Cert.SelRefIdeal.main_arg0) = m ((c.tc : Thread Cert.SelRefIdeal.nD Cert.SelRefIdeal.τ).loc Cert.SelRefIdeal.main_arg0)
      ∧ r.2.mem ((c.tc : Thread Cert.SelRefIdeal.nD Cert.SelRefIdeal.τ).loc Cert.SelRefIdeal.main_arg1) = m ((c.tc : Thread Cert.SelRefIdeal.nD Cert.SelRefIdeal.τ).loc Cert.SelRefIdeal.main_arg1))
      ∧ r.2.sem = fun _ => 0)

def quiescent_SelRefIdeal_pre_logits_above [hSelRefIdeal : Cert.SelRefIdeal.Facts] [hPre_logits_above : Cert.Pre_logits_above.Facts] : Prop :=
  ∀ (m : (ℓ : Loc Cert.SelRefIdeal.nD Cert.SelRefIdeal.τ Cert.SelRefIdeal.sig) → Buf (Elt Ideal) ℓ) (g : Dev Cert.SelRefIdeal.nD → PrngReg), Pre_SelRefIdeal_logits_above m →
    θ_run (Cert.SelRefIdeal.defs (F := Ideal)) (onTc (τ := Cert.SelRefIdeal.τ) (Cert.SelRefIdeal.main (F := Ideal))) ⟨m, fun _ => 0, g⟩ (fun r => (∀ c : Dev Cert.SelRefIdeal.nD,
      r.2.mem ((c.tc : Thread Cert.SelRefIdeal.nD Cert.SelRefIdeal.τ).loc Cert.SelRefIdeal.main_arg0) = m ((c.tc : Thread Cert.SelRefIdeal.nD Cert.SelRefIdeal.τ).loc Cert.SelRefIdeal.main_arg0)
      ∧ r.2.mem ((c.tc : Thread Cert.SelRefIdeal.nD Cert.SelRefIdeal.τ).loc Cert.SelRefIdeal.main_arg1) = m ((c.tc : Thread Cert.SelRefIdeal.nD Cert.SelRefIdeal.τ).loc Cert.SelRefIdeal.main_arg1))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4))
      ∧ r.2.sem = fun _ => 0)

def quiescent_Glc [hGlc : Cert.Glc.Facts] : Prop :=
  ∀ (m : (ℓ : Loc Cert.Glc.nD Cert.Glc.τ Cert.Glc.sig) → Buf (Elt Bits) ℓ) (g : Dev Cert.Glc.nD → PrngReg), Pre_Glc m →
    θ_run (Cert.Glc.defs (F := Bits)) (onTc (τ := Cert.Glc.τ) (Cert.Glc.main (F := Bits))) ⟨m, fun _ => 0, g⟩ (fun r => (∀ c : Dev Cert.Glc.nD,
      r.2.mem ((c.tc : Thread Cert.Glc.nD Cert.Glc.τ).loc Cert.Glc.main_arg0) = m ((c.tc : Thread Cert.Glc.nD Cert.Glc.τ).loc Cert.Glc.main_arg0)
      ∧ r.2.mem ((c.tc : Thread Cert.Glc.nD Cert.Glc.τ).loc Cert.Glc.main_arg1) = m ((c.tc : Thread Cert.Glc.nD Cert.Glc.τ).loc Cert.Glc.main_arg1)
      ∧ r.2.mem ((c.tc : Thread Cert.Glc.nD Cert.Glc.τ).loc Cert.Glc.main_arg2) = m ((c.tc : Thread Cert.Glc.nD Cert.Glc.τ).loc Cert.Glc.main_arg2))
      ∧ r.2.sem = fun _ => 0)

def quiescent_GlcIdeal [hGlcIdeal : Cert.GlcIdeal.Facts] : Prop :=
  ∀ (m : (ℓ : Loc Cert.GlcIdeal.nD Cert.GlcIdeal.τ Cert.GlcIdeal.sig) → Buf (Elt Ideal) ℓ) (g : Dev Cert.GlcIdeal.nD → PrngReg), Pre_GlcIdeal m →
    θ_run (Cert.GlcIdeal.defs (F := Ideal)) (onTc (τ := Cert.GlcIdeal.τ) (Cert.GlcIdeal.main (F := Ideal))) ⟨m, fun _ => 0, g⟩ (fun r => (∀ c : Dev Cert.GlcIdeal.nD,
      r.2.mem ((c.tc : Thread Cert.GlcIdeal.nD Cert.GlcIdeal.τ).loc Cert.GlcIdeal.main_arg0) = m ((c.tc : Thread Cert.GlcIdeal.nD Cert.GlcIdeal.τ).loc Cert.GlcIdeal.main_arg0)
      ∧ r.2.mem ((c.tc : Thread Cert.GlcIdeal.nD Cert.GlcIdeal.τ).loc Cert.GlcIdeal.main_arg1) = m ((c.tc : Thread Cert.GlcIdeal.nD Cert.GlcIdeal.τ).loc Cert.GlcIdeal.main_arg1)
      ∧ r.2.mem ((c.tc : Thread Cert.GlcIdeal.nD Cert.GlcIdeal.τ).loc Cert.GlcIdeal.main_arg2) = m ((c.tc : Thread Cert.GlcIdeal.nD Cert.GlcIdeal.τ).loc Cert.GlcIdeal.main_arg2))
      ∧ r.2.sem = fun _ => 0)

def quiescent_GlcIdeal_pre_decays_above [hGlcIdeal : Cert.GlcIdeal.Facts] [hPre_decays_above : Cert.Pre_decays_above.Facts] : Prop :=
  ∀ (m : (ℓ : Loc Cert.GlcIdeal.nD Cert.GlcIdeal.τ Cert.GlcIdeal.sig) → Buf (Elt Ideal) ℓ) (g : Dev Cert.GlcIdeal.nD → PrngReg), Pre_GlcIdeal_decays_above m →
    θ_run (Cert.GlcIdeal.defs (F := Ideal)) (onTc (τ := Cert.GlcIdeal.τ) (Cert.GlcIdeal.main (F := Ideal))) ⟨m, fun _ => 0, g⟩ (fun r => (∀ c : Dev Cert.GlcIdeal.nD,
      r.2.mem ((c.tc : Thread Cert.GlcIdeal.nD Cert.GlcIdeal.τ).loc Cert.GlcIdeal.main_arg0) = m ((c.tc : Thread Cert.GlcIdeal.nD Cert.GlcIdeal.τ).loc Cert.GlcIdeal.main_arg0)
      ∧ r.2.mem ((c.tc : Thread Cert.GlcIdeal.nD Cert.GlcIdeal.τ).loc Cert.GlcIdeal.main_arg1) = m ((c.tc : Thread Cert.GlcIdeal.nD Cert.GlcIdeal.τ).loc Cert.GlcIdeal.main_arg1)
      ∧ r.2.mem ((c.tc : Thread Cert.GlcIdeal.nD Cert.GlcIdeal.τ).loc Cert.GlcIdeal.main_arg2) = m ((c.tc : Thread Cert.GlcIdeal.nD Cert.GlcIdeal.τ).loc Cert.GlcIdeal.main_arg2))
      ∧ r.2.sem = fun _ => 0)

def quiescent_GlcRefIdeal [hGlcRefIdeal : Cert.GlcRefIdeal.Facts] : Prop :=
  ∀ (m : (ℓ : Loc Cert.GlcRefIdeal.nD Cert.GlcRefIdeal.τ Cert.GlcRefIdeal.sig) → Buf (Elt Ideal) ℓ) (g : Dev Cert.GlcRefIdeal.nD → PrngReg), Pre_GlcRefIdeal m →
    θ_run (Cert.GlcRefIdeal.defs (F := Ideal)) (onTc (τ := Cert.GlcRefIdeal.τ) (Cert.GlcRefIdeal.main (F := Ideal))) ⟨m, fun _ => 0, g⟩ (fun r => (∀ c : Dev Cert.GlcRefIdeal.nD,
      r.2.mem ((c.tc : Thread Cert.GlcRefIdeal.nD Cert.GlcRefIdeal.τ).loc Cert.GlcRefIdeal.main_arg0) = m ((c.tc : Thread Cert.GlcRefIdeal.nD Cert.GlcRefIdeal.τ).loc Cert.GlcRefIdeal.main_arg0)
      ∧ r.2.mem ((c.tc : Thread Cert.GlcRefIdeal.nD Cert.GlcRefIdeal.τ).loc Cert.GlcRefIdeal.main_arg1) = m ((c.tc : Thread Cert.GlcRefIdeal.nD Cert.GlcRefIdeal.τ).loc Cert.GlcRefIdeal.main_arg1)
      ∧ r.2.mem ((c.tc : Thread Cert.GlcRefIdeal.nD Cert.GlcRefIdeal.τ).loc Cert.GlcRefIdeal.main_arg2) = m ((c.tc : Thread Cert.GlcRefIdeal.nD Cert.GlcRefIdeal.τ).loc Cert.GlcRefIdeal.main_arg2))
      ∧ r.2.sem = fun _ => 0)

def quiescent_GlcRefIdeal_pre_decays_above [hGlcRefIdeal : Cert.GlcRefIdeal.Facts] [hPre_decays_above : Cert.Pre_decays_above.Facts] : Prop :=
  ∀ (m : (ℓ : Loc Cert.GlcRefIdeal.nD Cert.GlcRefIdeal.τ Cert.GlcRefIdeal.sig) → Buf (Elt Ideal) ℓ) (g : Dev Cert.GlcRefIdeal.nD → PrngReg), Pre_GlcRefIdeal_decays_above m →
    θ_run (Cert.GlcRefIdeal.defs (F := Ideal)) (onTc (τ := Cert.GlcRefIdeal.τ) (Cert.GlcRefIdeal.main (F := Ideal))) ⟨m, fun _ => 0, g⟩ (fun r => (∀ c : Dev Cert.GlcRefIdeal.nD,
      r.2.mem ((c.tc : Thread Cert.GlcRefIdeal.nD Cert.GlcRefIdeal.τ).loc Cert.GlcRefIdeal.main_arg0) = m ((c.tc : Thread Cert.GlcRefIdeal.nD Cert.GlcRefIdeal.τ).loc Cert.GlcRefIdeal.main_arg0)
      ∧ r.2.mem ((c.tc : Thread Cert.GlcRefIdeal.nD Cert.GlcRefIdeal.τ).loc Cert.GlcRefIdeal.main_arg1) = m ((c.tc : Thread Cert.GlcRefIdeal.nD Cert.GlcRefIdeal.τ).loc Cert.GlcRefIdeal.main_arg1)
      ∧ r.2.mem ((c.tc : Thread Cert.GlcRefIdeal.nD Cert.GlcRefIdeal.τ).loc Cert.GlcRefIdeal.main_arg2) = m ((c.tc : Thread Cert.GlcRefIdeal.nD Cert.GlcRefIdeal.τ).loc Cert.GlcRefIdeal.main_arg2))
      ∧ r.2.sem = fun _ => 0)

def preserves_Moe_MoeIdeal : Prop :=
  True

def algebraic_MoeIdeal_MoeRefIdeal_pre_comb_finite [hMoeIdeal : Cert.MoeIdeal.Facts] [hMoeRefIdeal : Cert.MoeRefIdeal.Facts] [hPre_comb_finite : Cert.Pre_comb_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_comb_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)
      ∧ m' ((c.tc : Thread Cert.MoeRefIdeal.nD Cert.MoeRefIdeal.τ).loc Cert.MoeRefIdeal.main_arg10) = m ((c.tc : Thread Cert.MoeIdeal.nD Cert.MoeIdeal.τ).loc Cert.MoeIdeal.main_arg10)) →
    ∃ (v0 : (c : Dev Cert.MoeIdeal.nD) → Buf (Elt Ideal) ((c.tc : Thread Cert.MoeIdeal.nD Cert.MoeIdeal.τ).loc Cert.MoeIdeal.main_v26)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v26) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v39) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9)
          ∧ r.2.mem ((c.tc : Thread Cert.MoeRefIdeal.nD Cert.MoeRefIdeal.τ).loc Cert.MoeRefIdeal.main_arg10) = m' ((c.tc : Thread Cert.MoeRefIdeal.nD Cert.MoeRefIdeal.τ).loc Cert.MoeRefIdeal.main_arg10))

def preserves_Sel_SelIdeal : Prop :=
  True

def algebraic_SelIdeal_SelRefIdeal_pre_logits_above [hSelIdeal : Cert.SelIdeal.Facts] [hSelRefIdeal : Cert.SelRefIdeal.Facts] [hPre_logits_above : Cert.Pre_logits_above.Facts] : Prop :=
  ∀ (m : (ℓ : Loc Cert.SelIdeal.nD Cert.SelIdeal.τ Cert.SelIdeal.sig) → Buf (Elt Ideal) ℓ) (g : Dev Cert.SelIdeal.nD → PrngReg)
    (m' : (ℓ : Loc Cert.SelRefIdeal.nD Cert.SelRefIdeal.τ Cert.SelRefIdeal.sig) → Buf (Elt Ideal) ℓ) (g' : Dev Cert.SelRefIdeal.nD → PrngReg), Pre_SelIdeal_logits_above m →
    (∀ c : Dev Cert.SelIdeal.nD,
      m' ((c.tc : Thread Cert.SelRefIdeal.nD Cert.SelRefIdeal.τ).loc Cert.SelRefIdeal.main_arg0) = m ((c.tc : Thread Cert.SelIdeal.nD Cert.SelIdeal.τ).loc Cert.SelIdeal.main_arg0)
      ∧ m' ((c.tc : Thread Cert.SelRefIdeal.nD Cert.SelRefIdeal.τ).loc Cert.SelRefIdeal.main_arg1) = m ((c.tc : Thread Cert.SelIdeal.nD Cert.SelIdeal.τ).loc Cert.SelIdeal.main_arg1)) →
    ∃ (v0 : (c : Dev Cert.SelIdeal.nD) → Buf (Elt Ideal) ((c.tc : Thread Cert.SelIdeal.nD Cert.SelIdeal.τ).loc Cert.SelIdeal.main_v2)),
      θ_run (Cert.SelIdeal.defs (F := Ideal)) (onTc (τ := Cert.SelIdeal.τ) (Cert.SelIdeal.main (F := Ideal))) ⟨m, fun _ => 0, g⟩ (fun r => ∀ c : Dev Cert.SelIdeal.nD,
          r.2.mem ((c.tc : Thread Cert.SelIdeal.nD Cert.SelIdeal.τ).loc Cert.SelIdeal.main_v2) = v0 c
          ∧ r.2.mem ((c.tc : Thread Cert.SelIdeal.nD Cert.SelIdeal.τ).loc Cert.SelIdeal.main_arg0) = m ((c.tc : Thread Cert.SelIdeal.nD Cert.SelIdeal.τ).loc Cert.SelIdeal.main_arg0)
          ∧ r.2.mem ((c.tc : Thread Cert.SelIdeal.nD Cert.SelIdeal.τ).loc Cert.SelIdeal.main_arg1) = m ((c.tc : Thread Cert.SelIdeal.nD Cert.SelIdeal.τ).loc Cert.SelIdeal.main_arg1))
      ∧ θ_run (Cert.SelRefIdeal.defs (F := Ideal)) (onTc (τ := Cert.SelRefIdeal.τ) (Cert.SelRefIdeal.main (F := Ideal))) ⟨m', fun _ => 0, g'⟩ (fun r => ∀ c : Dev Cert.SelRefIdeal.nD,
          r.2.mem ((c.tc : Thread Cert.SelRefIdeal.nD Cert.SelRefIdeal.τ).loc Cert.SelRefIdeal.main_v30) = v0 c
          ∧ r.2.mem ((c.tc : Thread Cert.SelRefIdeal.nD Cert.SelRefIdeal.τ).loc Cert.SelRefIdeal.main_arg0) = m' ((c.tc : Thread Cert.SelRefIdeal.nD Cert.SelRefIdeal.τ).loc Cert.SelRefIdeal.main_arg0)
          ∧ r.2.mem ((c.tc : Thread Cert.SelRefIdeal.nD Cert.SelRefIdeal.τ).loc Cert.SelRefIdeal.main_arg1) = m' ((c.tc : Thread Cert.SelRefIdeal.nD Cert.SelRefIdeal.τ).loc Cert.SelRefIdeal.main_arg1))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v13)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v13) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v31) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v12_0)) (v1 : (c : Dev Cert.MixIdeal.nD) → Buf (Elt Ideal) ((c.tc : Thread Cert.MixIdeal.nD Cert.MixIdeal.τ).loc Cert.MixIdeal.main_v12_1)) (v2 : (c : Dev Cert.MixIdeal.nD) → Buf (Elt Ideal) ((c.tc : Thread Cert.MixIdeal.nD Cert.MixIdeal.τ).loc Cert.MixIdeal.main_v12_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v12_0) = v0 c
          ∧ r.2.mem ((c.tc : Thread Cert.MixIdeal.nD Cert.MixIdeal.τ).loc Cert.MixIdeal.main_v12_1) = v1 c
          ∧ r.2.mem ((c.tc : Thread Cert.MixIdeal.nD Cert.MixIdeal.τ).loc Cert.MixIdeal.main_v12_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v46) = v0 c
          ∧ r.2.mem ((c.tc : Thread Cert.MixRefIdeal.nD Cert.MixRefIdeal.τ).loc Cert.MixRefIdeal.main_v69) = v1 c
          ∧ r.2.mem ((c.tc : Thread Cert.MixRefIdeal.nD Cert.MixRefIdeal.τ).loc Cert.MixRefIdeal.main_v70) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)) →
    ∃ (v0 : (c : Dev Cert.CtxIdeal.nD) → Buf (Elt Ideal) ((c.tc : Thread Cert.CtxIdeal.nD Cert.CtxIdeal.τ).loc Cert.CtxIdeal.main_v13)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v13) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v27) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4))

def preserves_Glc_GlcIdeal : Prop :=
  True

def algebraic_GlcIdeal_GlcRefIdeal_pre_decays_above [hGlcIdeal : Cert.GlcIdeal.Facts] [hGlcRefIdeal : Cert.GlcRefIdeal.Facts] [hPre_decays_above : Cert.Pre_decays_above.Facts] : Prop :=
  ∀ (m : (ℓ : Loc Cert.GlcIdeal.nD Cert.GlcIdeal.τ Cert.GlcIdeal.sig) → Buf (Elt Ideal) ℓ) (g : Dev Cert.GlcIdeal.nD → PrngReg)
    (m' : (ℓ : Loc Cert.GlcRefIdeal.nD Cert.GlcRefIdeal.τ Cert.GlcRefIdeal.sig) → Buf (Elt Ideal) ℓ) (g' : Dev Cert.GlcRefIdeal.nD → PrngReg), Pre_GlcIdeal_decays_above m →
    (∀ c : Dev Cert.GlcIdeal.nD,
      m' ((c.tc : Thread Cert.GlcRefIdeal.nD Cert.GlcRefIdeal.τ).loc Cert.GlcRefIdeal.main_arg0) = m ((c.tc : Thread Cert.GlcIdeal.nD Cert.GlcIdeal.τ).loc Cert.GlcIdeal.main_arg0)
      ∧ m' ((c.tc : Thread Cert.GlcRefIdeal.nD Cert.GlcRefIdeal.τ).loc Cert.GlcRefIdeal.main_arg1) = m ((c.tc : Thread Cert.GlcIdeal.nD Cert.GlcIdeal.τ).loc Cert.GlcIdeal.main_arg1)
      ∧ m' ((c.tc : Thread Cert.GlcRefIdeal.nD Cert.GlcRefIdeal.τ).loc Cert.GlcRefIdeal.main_arg2) = m ((c.tc : Thread Cert.GlcIdeal.nD Cert.GlcIdeal.τ).loc Cert.GlcIdeal.main_arg2)) →
    ∃ (v0 : (c : Dev Cert.GlcIdeal.nD) → Buf (Elt Ideal) ((c.tc : Thread Cert.GlcIdeal.nD Cert.GlcIdeal.τ).loc Cert.GlcIdeal.main_v18_0)) (v1 : (c : Dev Cert.GlcIdeal.nD) → Buf (Elt Ideal) ((c.tc : Thread Cert.GlcIdeal.nD Cert.GlcIdeal.τ).loc Cert.GlcIdeal.main_v18_1)),
      θ_run (Cert.GlcIdeal.defs (F := Ideal)) (onTc (τ := Cert.GlcIdeal.τ) (Cert.GlcIdeal.main (F := Ideal))) ⟨m, fun _ => 0, g⟩ (fun r => ∀ c : Dev Cert.GlcIdeal.nD,
          r.2.mem ((c.tc : Thread Cert.GlcIdeal.nD Cert.GlcIdeal.τ).loc Cert.GlcIdeal.main_v18_0) = v0 c
          ∧ r.2.mem ((c.tc : Thread Cert.GlcIdeal.nD Cert.GlcIdeal.τ).loc Cert.GlcIdeal.main_v18_1) = v1 c
          ∧ r.2.mem ((c.tc : Thread Cert.GlcIdeal.nD Cert.GlcIdeal.τ).loc Cert.GlcIdeal.main_arg0) = m ((c.tc : Thread Cert.GlcIdeal.nD Cert.GlcIdeal.τ).loc Cert.GlcIdeal.main_arg0)
          ∧ r.2.mem ((c.tc : Thread Cert.GlcIdeal.nD Cert.GlcIdeal.τ).loc Cert.GlcIdeal.main_arg1) = m ((c.tc : Thread Cert.GlcIdeal.nD Cert.GlcIdeal.τ).loc Cert.GlcIdeal.main_arg1)
          ∧ r.2.mem ((c.tc : Thread Cert.GlcIdeal.nD Cert.GlcIdeal.τ).loc Cert.GlcIdeal.main_arg2) = m ((c.tc : Thread Cert.GlcIdeal.nD Cert.GlcIdeal.τ).loc Cert.GlcIdeal.main_arg2))
      ∧ θ_run (Cert.GlcRefIdeal.defs (F := Ideal)) (onTc (τ := Cert.GlcRefIdeal.τ) (Cert.GlcRefIdeal.main (F := Ideal))) ⟨m', fun _ => 0, g'⟩ (fun r => ∀ c : Dev Cert.GlcRefIdeal.nD,
          r.2.mem ((c.tc : Thread Cert.GlcRefIdeal.nD Cert.GlcRefIdeal.τ).loc Cert.GlcRefIdeal.main_v159) = v0 c
          ∧ r.2.mem ((c.tc : Thread Cert.GlcRefIdeal.nD Cert.GlcRefIdeal.τ).loc Cert.GlcRefIdeal.main_v160) = v1 c
          ∧ r.2.mem ((c.tc : Thread Cert.GlcRefIdeal.nD Cert.GlcRefIdeal.τ).loc Cert.GlcRefIdeal.main_arg0) = m' ((c.tc : Thread Cert.GlcRefIdeal.nD Cert.GlcRefIdeal.τ).loc Cert.GlcRefIdeal.main_arg0)
          ∧ r.2.mem ((c.tc : Thread Cert.GlcRefIdeal.nD Cert.GlcRefIdeal.τ).loc Cert.GlcRefIdeal.main_arg1) = m' ((c.tc : Thread Cert.GlcRefIdeal.nD Cert.GlcRefIdeal.τ).loc Cert.GlcRefIdeal.main_arg1)
          ∧ r.2.mem ((c.tc : Thread Cert.GlcRefIdeal.nD Cert.GlcRefIdeal.τ).loc Cert.GlcRefIdeal.main_arg2) = m' ((c.tc : Thread Cert.GlcRefIdeal.nD Cert.GlcRefIdeal.τ).loc Cert.GlcRefIdeal.main_arg2))

def Claim : Prop :=
  ∃ (hMoe : Cert.Moe.Facts) (hMoeIdeal : Cert.MoeIdeal.Facts) (hMoeRefIdeal : Cert.MoeRefIdeal.Facts) (hSel : Cert.Sel.Facts) (hSelIdeal : Cert.SelIdeal.Facts) (hSelRefIdeal : Cert.SelRefIdeal.Facts) (hInp : Cert.Inp.Facts) (hInpIdeal : Cert.InpIdeal.Facts) (hInpRefIdeal : Cert.InpRefIdeal.Facts) (hMix : Cert.Mix.Facts) (hMixIdeal : Cert.MixIdeal.Facts) (hMixRefIdeal : Cert.MixRefIdeal.Facts) (hMod : Cert.Mod.Facts) (hModIdeal : Cert.ModIdeal.Facts) (hModRefIdeal : Cert.ModRefIdeal.Facts) (hCtx : Cert.Ctx.Facts) (hCtxIdeal : Cert.CtxIdeal.Facts) (hCtxRefIdeal : Cert.CtxRefIdeal.Facts) (hGlc : Cert.Glc.Facts) (hGlcIdeal : Cert.GlcIdeal.Facts) (hGlcRefIdeal : Cert.GlcRefIdeal.Facts) (hPre_comb_finite : Cert.Pre_comb_finite.Facts) (hPre_logits_above : Cert.Pre_logits_above.Facts) (hPre_decays_above : Cert.Pre_decays_above.Facts),
    quiescent_Moe (hMoe := hMoe)
    ∧ quiescent_MoeIdeal (hMoeIdeal := hMoeIdeal)
    ∧ quiescent_MoeIdeal_pre_comb_finite (hMoeIdeal := hMoeIdeal) (hPre_comb_finite := hPre_comb_finite)
    ∧ quiescent_MoeRefIdeal (hMoeRefIdeal := hMoeRefIdeal)
    ∧ quiescent_MoeRefIdeal_pre_comb_finite (hMoeRefIdeal := hMoeRefIdeal) (hPre_comb_finite := hPre_comb_finite)
    ∧ quiescent_Sel (hSel := hSel)
    ∧ quiescent_SelIdeal (hSelIdeal := hSelIdeal)
    ∧ quiescent_SelIdeal_pre_logits_above (hSelIdeal := hSelIdeal) (hPre_logits_above := hPre_logits_above)
    ∧ quiescent_SelRefIdeal (hSelRefIdeal := hSelRefIdeal)
    ∧ quiescent_SelRefIdeal_pre_logits_above (hSelRefIdeal := hSelRefIdeal) (hPre_logits_above := hPre_logits_above)
    ∧ quiescent_Inp (hInp := hInp)
    ∧ quiescent_InpIdeal (hInpIdeal := hInpIdeal)
    ∧ quiescent_InpRefIdeal (hInpRefIdeal := hInpRefIdeal)
    ∧ quiescent_Mix (hMix := hMix)
    ∧ quiescent_MixIdeal (hMixIdeal := hMixIdeal)
    ∧ quiescent_MixRefIdeal (hMixRefIdeal := hMixRefIdeal)
    ∧ quiescent_Mod (hMod := hMod)
    ∧ quiescent_ModIdeal (hModIdeal := hModIdeal)
    ∧ quiescent_ModRefIdeal (hModRefIdeal := hModRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Glc (hGlc := hGlc)
    ∧ quiescent_GlcIdeal (hGlcIdeal := hGlcIdeal)
    ∧ quiescent_GlcIdeal_pre_decays_above (hGlcIdeal := hGlcIdeal) (hPre_decays_above := hPre_decays_above)
    ∧ quiescent_GlcRefIdeal (hGlcRefIdeal := hGlcRefIdeal)
    ∧ quiescent_GlcRefIdeal_pre_decays_above (hGlcRefIdeal := hGlcRefIdeal) (hPre_decays_above := hPre_decays_above)
    ∧ preserves_Moe_MoeIdeal
    ∧ algebraic_MoeIdeal_MoeRefIdeal_pre_comb_finite (hMoeIdeal := hMoeIdeal) (hMoeRefIdeal := hMoeRefIdeal) (hPre_comb_finite := hPre_comb_finite)
    ∧ preserves_Sel_SelIdeal
    ∧ algebraic_SelIdeal_SelRefIdeal_pre_logits_above (hSelIdeal := hSelIdeal) (hSelRefIdeal := hSelRefIdeal) (hPre_logits_above := hPre_logits_above)
    ∧ preserves_Inp_InpIdeal
    ∧ algebraic_InpIdeal_InpRefIdeal (hInpIdeal := hInpIdeal) (hInpRefIdeal := hInpRefIdeal)
    ∧ preserves_Mix_MixIdeal
    ∧ algebraic_MixIdeal_MixRefIdeal (hMixIdeal := hMixIdeal) (hMixRefIdeal := hMixRefIdeal)
    ∧ preserves_Mod_ModIdeal
    ∧ algebraic_ModIdeal_ModRefIdeal (hModIdeal := hModIdeal) (hModRefIdeal := hModRefIdeal)
    ∧ preserves_Ctx_CtxIdeal
    ∧ algebraic_CtxIdeal_CtxRefIdeal (hCtxIdeal := hCtxIdeal) (hCtxRefIdeal := hCtxRefIdeal)
    ∧ preserves_Glc_GlcIdeal
    ∧ algebraic_GlcIdeal_GlcRefIdeal_pre_decays_above (hGlcIdeal := hGlcIdeal) (hGlcRefIdeal := hGlcRefIdeal) (hPre_decays_above := hPre_decays_above)
-- ==== Pre_comb_finite.lean ====
abbrev S65536x1024 : Shape := ⟨2, ![65536, 1024]⟩
abbrev S65536x128 : Shape := ⟨2, ![65536, 128]⟩
abbrev S1x64x1024x256 : Shape := ⟨4, ![1, 64, 1024, 256]⟩
abbrev S1x64x256x1024 : Shape := ⟨4, ![1, 64, 256, 1024]⟩
abbrev S1x1024x256 : Shape := ⟨3, ![1, 1024, 256]⟩
abbrev S1x256x1024 : Shape := ⟨3, ![1, 256, 1024]⟩
abbrev S16x1x1024 : Shape := ⟨3, ![16, 1, 1024]⟩
abbrev S1024 : Shape := ⟨1, ![1024]⟩
abbrev S65536x64 : Shape := ⟨2, ![65536, 64]⟩
abbrev S_ : Shape := ⟨0, ![]⟩

class Facts : Prop where
  slices_S65536x128_S65536x64_0_0 : S65536x128.Slices ![0, 0] S65536x64
  bcast_S_S65536x64 : S_.BroadcastsInDim S65536x64 (![] : Fin 0 → Fin S65536x64.rank)

variable [Facts]

def fn {F : FTy → Type} [FloatOps F] (main_arg0 : FVec F S65536x1024 .bf16) (main_arg1 : FVec F S65536x128 .f32) (main_arg2 : FVec F S1x64x1024x256 .f32) (main_arg3 : FVec F S1x64x1024x256 .f32) (main_arg4 : FVec F S1x64x256x1024 .f32) (main_arg5 : FVec F S1x1024x256 .f32) (main_arg6 : FVec F S1x1024x256 .f32) (main_arg7 : FVec F S1x256x1024 .f32) (main_arg8 : FVec F S65536x1024 .f32) (main_arg9 : FVec F S16x1x1024 .f32) (main_arg10 : FVec F S1024 .f32) : IVec S65536x64 1 :=
  let main_v0 : FVec F S65536x64 .f32 := (extractStridedSlice S65536x64 ![0, 0] · slices_S65536x128_S65536x64_0_0) main_arg1
  let main_v1 : FVec F S65536x64 .f32 := Host.absf main_v0
  let main_cst : FVec F S_ .f32 := constant S_ .f32 0x7F800000#32
  let main_v2 : FVec F S65536x64 .f32 := broadcastInDim S65536x64 ![] bcast_S_S65536x64 main_cst
  let main_v3 : IVec S65536x64 1 := cmpf .olt main_v1 main_v2
  main_v3
-- ==== Pre_decays_above.lean ====
abbrev S16x256x1664 : Shape := ⟨3, ![16, 256, 1664]⟩
abbrev S1x2x16x512 : Shape := ⟨4, ![1, 2, 16, 512]⟩
abbrev S1x2x512 : Shape := ⟨3, ![1, 2, 512]⟩
abbrev S16x256x32 : Shape := ⟨3, ![16, 256, 32]⟩
abbrev S16x256x2x16 : Shape := ⟨4, ![16, 256, 2, 16]⟩
abbrev S2x16x512 : Shape := ⟨3, ![2, 16, 512]⟩
abbrev S2x16x256x512 : Shape := ⟨4, ![2, 16, 256, 512]⟩
abbrev S2x512 : Shape := ⟨2, ![2, 512]⟩
abbrev S2x1x1x512 : Shape := ⟨4, ![2, 1, 1, 512]⟩
abbrev S_ : Shape := ⟨0, ![]⟩

class Facts : Prop where
  bitsLt_bf16_f32 : FTy.bits .bf16 < FTy.bits .f32
  slices_S16x256x1664_S16x256x32_0_0_1536 : S16x256x1664.Slices ![0, 0, 1536] S16x256x32
  shapeCasts_S16x256x32_S16x256x2x16 : S16x256x32.ShapeCasts S16x256x2x16
  shapeCasts_S1x2x16x512_S2x16x512 : S1x2x16x512.ShapeCasts S2x16x512
  shapeCasts_S1x2x512_S2x512 : S1x2x512.ShapeCasts S2x512
  bcast_S2x512_S2x1x1x512_0_3 : S2x512.BroadcastsInDim S2x1x1x512 (![0, 3] : Fin 2 → Fin S2x1x1x512.rank)
  bcast_S2x1x1x512_S2x16x256x512_0_1_2_3 : S2x1x1x512.BroadcastsInDim S2x16x256x512 (![0, 1, 2, 3] : Fin 4 → Fin S2x16x256x512.rank)
  bcast_S_S2x16x256x512 : S_.BroadcastsInDim S2x16x256x512 (![] : Fin 0 → Fin S2x16x256x512.rank)
  dot_S16x256x2x16_S2x16x512_S2x16x256x512_3_1_01_2_2_0_wf : DotDims.WF S16x256x2x16 S2x16x512 S2x16x256x512 [3] [1] [0, 1] [2] [2] [0]

variable [Facts]

def dot_S16x256x2x16_S2x16x512_S2x16x256x512_3_1_01_2_2_0 : DotDims S16x256x2x16 S2x16x512 S2x16x256x512 where
  lhsContracting := [3]
  rhsContracting := [1]
  lhsNonContracting := [0, 1]
  rhsNonContracting := [2]
  lhsBatch := [2]
  rhsBatch := [0]
  wf := dot_S16x256x2x16_S2x16x512_S2x16x256x512_3_1_01_2_2_0_wf
def fn {F : FTy → Type} [FloatOps F] (main_arg0 : FVec F S16x256x1664 .bf16) (main_arg1 : FVec F S1x2x16x512 .f32) (main_arg2 : FVec F S1x2x512 .f32) : IVec S2x16x256x512 1 :=
  let main_v0 : FVec F S16x256x1664 .f32 := (extf .f32 · bitsLt_bf16_f32) main_arg0
  let main_v1 : FVec F S16x256x32 .f32 := (extractStridedSlice S16x256x32 ![0, 0, 1536] · slices_S16x256x1664_S16x256x32_0_0_1536) main_v0
  let main_v2 : FVec F S16x256x2x16 .f32 := shapeCast S16x256x2x16 main_v1 shapeCasts_S16x256x32_S16x256x2x16
  let main_v3 : FVec F S2x16x512 .f32 := shapeCast S2x16x512 main_arg1 shapeCasts_S1x2x16x512_S2x16x512
  let main_v4 : FVec F S2x16x256x512 .f32 := (fun l r => Host.dotGeneral dot_S16x256x2x16_S2x16x512_S2x16x256x512_3_1_01_2_2_0 none l r) main_v2 main_v3
  let main_v5 : FVec F S2x512 .f32 := shapeCast S2x512 main_arg2 shapeCasts_S1x2x512_S2x512
  let main_v6 : FVec F S2x1x1x512 .f32 := broadcastInDim S2x1x1x512 ![0, 3] bcast_S2x512_S2x1x1x512_0_3 main_v5
  let main_v7 : FVec F S2x16x256x512 .f32 := broadcastInDim S2x16x256x512 ![0, 1, 2, 3] bcast_S2x1x1x512_S2x16x256x512_0_1_2_3 main_v6
  let main_v8 : FVec F S2x16x256x512 .f32 := addf main_v4 main_v7
  let main_cst : FVec F S_ .f32 := constant S_ .f32 0xFF800000#32
  let main_v9 : FVec F S2x16x256x512 .f32 := broadcastInDim S2x16x256x512 ![] bcast_S_S2x16x256x512 main_cst
  let main_v10 : IVec S2x16x256x512 1 := cmpf .ogt main_v8 main_v9
  main_v10
-- ==== Pre_logits_above.lean ====
abbrev S16x64x4096 : Shape := ⟨3, ![16, 64, 4096]⟩
abbrev S1x64 : Shape := ⟨2, ![1, 64]⟩
abbrev S_ : Shape := ⟨0, ![]⟩

class Facts : Prop where
  bcast_S_S16x64x4096 : S_.BroadcastsInDim S16x64x4096 (![] : Fin 0 → Fin S16x64x4096.rank)

variable [Facts]

def fn {F : FTy → Type} [FloatOps F] (main_arg0 : FVec F S16x64x4096 .f32) (main_arg1 : FVec F S1x64 .f32) : IVec S16x64x4096 1 :=
  let main_cst : FVec F S_ .f32 := constant S_ .f32 0xFF800000#32
  let main_v0 : FVec F S16x64x4096 .f32 := broadcastInDim S16x64x4096 ![] bcast_S_S16x64x4096 main_cst
  let main_v1 : IVec S16x64x4096 1 := cmpf .ogt main_arg0 main_v0
  main_v1
-- ==== Moe.lean ====
abbrev S65536x1024 : Shape := ⟨2, ![65536, 1024]⟩
abbrev S65536x128 : Shape := ⟨2, ![65536, 128]⟩
abbrev S1x64x1024x256 : Shape := ⟨4, ![1, 64, 1024, 256]⟩
abbrev S1x64x256x1024 : Shape := ⟨4, ![1, 64, 256, 1024]⟩
abbrev S1x1024x256 : Shape := ⟨3, ![1, 1024, 256]⟩
abbrev S1x256x1024 : Shape := ⟨3, ![1, 256, 1024]⟩
abbrev S16x1x1024 : Shape := ⟨3, ![16, 1, 1024]⟩
abbrev S1024 : Shape := ⟨1, ![1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1x1024 : Shape := ⟨2, ![1, 1024]⟩
abbrev S16x128x128 : Shape := ⟨3, ![16, 128, 128]⟩
abbrev S_ : Shape := ⟨0, ![]⟩
abbrev S1024x1024 : Shape := ⟨2, ![1024, 1024]⟩
abbrev S1024x128 : Shape := ⟨2, ![1024, 128]⟩
abbrev S1x128x128 : Shape := ⟨3, ![1, 128, 128]⟩
abbrev S4x1024x256 : Shape := ⟨3, ![4, 1024, 256]⟩
abbrev S4x256x1024 : Shape := ⟨3, ![4, 256, 1024]⟩
abbrev S1x1x1024 : Shape := ⟨3, ![1, 1, 1024]⟩
abbrev S128x128 : Shape := ⟨2, ![128, 128]⟩
abbrev S1024x1 : Shape := ⟨2, ![1024, 1]⟩

abbrev nBuf : Space → Nat
  | .hbm => 44
  | .vmem => 23
  | .smem => 0
  | _ => 0

abbrev bufTy : (tb : Table) → Fin (tcTables nBuf tb) → BufTy
  | .hbm, ⟨0, _⟩ => ⟨S65536x1024, .bf16⟩
  | .hbm, ⟨1, _⟩ => ⟨S65536x128, .f32⟩
  | .hbm, ⟨2, _⟩ => ⟨S1x64x1024x256, .f32⟩
  | .hbm, ⟨3, _⟩ => ⟨S1x64x1024x256, .f32⟩
  | .hbm, ⟨4, _⟩ => ⟨S1x64x256x1024, .f32⟩
  | .hbm, ⟨5, _⟩ => ⟨S1x1024x256, .f32⟩
  | .hbm, ⟨6, _⟩ => ⟨S1x1024x256, .f32⟩
  | .hbm, ⟨7, _⟩ => ⟨S1x256x1024, .f32⟩
  | .hbm, ⟨8, _⟩ => ⟨S65536x1024, .f32⟩
  | .hbm, ⟨9, _⟩ => ⟨S16x1x1024, .f32⟩
  | .hbm, ⟨10, _⟩ => ⟨S1024, .f32⟩
  | .hbm, ⟨11, _⟩ => ⟨S64x1024x256, .f32⟩
  | .hbm, ⟨12, _⟩ => ⟨S64x1024x256, .bf16⟩
  | .hbm, ⟨13, _⟩ => ⟨S64x1024x256, .f32⟩
  | .hbm, ⟨14, _⟩ => ⟨S64x1024x256, .bf16⟩
  | .hbm, ⟨15, _⟩ => ⟨S64x256x1024, .f32⟩
  | .hbm, ⟨16, _⟩ => ⟨S64x256x1024, .bf16⟩
  | .hbm, ⟨17, _⟩ => ⟨S1024x256, .f32⟩
  | .hbm, ⟨18, _⟩ => ⟨S1024x256, .bf16⟩
  | .hbm, ⟨19, _⟩ => ⟨S1024x256, .f32⟩
  | .hbm, ⟨20, _⟩ => ⟨S1024x256, .bf16⟩
  | .hbm, ⟨21, _⟩ => ⟨S256x1024, .f32⟩
  | .hbm, ⟨22, _⟩ => ⟨S256x1024, .bf16⟩
  | .hbm, ⟨23, _⟩ => ⟨S1x1024, .f32⟩
  | .hbm, ⟨24, _⟩ => ⟨S16x128x128, .i32⟩
  | .hbm, ⟨25, _⟩ => ⟨S16x128x128, .i32⟩
  | .hbm, ⟨26, _⟩ => ⟨S_, .i32⟩
  | .hbm, ⟨27, _⟩ => ⟨S16x128x128, .i32⟩
  | .hbm, ⟨28, _⟩ => ⟨S16x128x128, .i32⟩
  | .hbm, ⟨29, _⟩ => ⟨S16x128x128, .i32⟩
  | .hbm, ⟨30, _⟩ => ⟨S16x128x128, .i32⟩
  | .hbm, ⟨31, _⟩ => ⟨S16x128x128, .i1⟩
  | .hbm, ⟨32, _⟩ => ⟨S16x128x128, .i32⟩
  | .hbm, ⟨33, _⟩ => ⟨S_, .i32⟩
  | .hbm, ⟨34, _⟩ => ⟨S16x128x128, .i32⟩
  | .hbm, ⟨35, _⟩ => ⟨S16x128x128, .i1⟩
  | .hbm, ⟨36, _⟩ => ⟨S16x128x128, .i1⟩
  | .hbm, ⟨37, _⟩ => ⟨S_, .f32⟩
  | .hbm, ⟨38, _⟩ => ⟨S_, .f32⟩
  | .hbm, ⟨39, _⟩ => ⟨S16x128x128, .f32⟩
  | .hbm, ⟨40, _⟩ => ⟨S16x128x128, .f32⟩
  | .hbm, ⟨41, _⟩ => ⟨S16x128x128, .f32⟩
  | .hbm, ⟨42, _⟩ => ⟨S16x128x128, .bf16⟩
  | .hbm, ⟨43, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1x128x128, .bf16⟩
  | .local _ .vmem, ⟨5, _⟩ => ⟨S1x128x128, .bf16⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x256x1024, .bf16⟩
  | .local _ .vmem, ⟨11, _⟩ => ⟨S4x256x1024, .bf16⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S1024x1024, .f32⟩
  | .local _ .vmem, ⟨16, _⟩ => ⟨S1024x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v78 : BitVec 1 := Scalar.cmpi .eq arg1 c15_i32
  let v79 : BitVec 32 := Scalar.extui v78
  let c0_i32_48 : BitVec 32 := 0#32
  let v80 : BitVec 1 := Scalar.cmpi .ne v79 c0_i32_48
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MoeRefIdeal.lean ====
abbrev S65536x1024 : Shape := ⟨2, ![65536, 1024]⟩
abbrev S65536x128 : Shape := ⟨2, ![65536, 128]⟩
abbrev S1x64x1024x256 : Shape := ⟨4, ![1, 64, 1024, 256]⟩
abbrev S1x64x256x1024 : Shape := ⟨4, ![1, 64, 256, 1024]⟩
abbrev S1x1024x256 : Shape := ⟨3, ![1, 1024, 256]⟩
abbrev S1x256x1024 : Shape := ⟨3, ![1, 256, 1024]⟩
abbrev S16x1x1024 : Shape := ⟨3, ![16, 1, 1024]⟩
abbrev S1024 : Shape := ⟨1, ![1024]⟩
abbrev S65536x64 : Shape := ⟨2, ![65536, 64]⟩
abbrev S64x1024x256 : Shape := ⟨3, ![64, 1024, 256]⟩
abbrev S65536x64x256 : Shape := ⟨3, ![65536, 64, 256]⟩
abbrev S_ : Shape := ⟨0, ![]⟩
abbrev S65536x64x1 : Shape := ⟨3, ![65536, 64, 1]⟩
abbrev S64x256x1024 : Shape := ⟨3, ![64, 256, 1024]⟩
abbrev S1024x256 : Shape := ⟨2, ![1024, 256]⟩
abbrev S65536x256 : Shape := ⟨2, ![65536, 256]⟩
abbrev S256x1024 : Shape := ⟨2, ![256, 1024]⟩
abbrev S16x4096x1024 : Shape := ⟨3, ![16, 4096, 1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x128, .f32⟩
  | .hbm, ⟨2, _⟩ => ⟨S1x64x1024x256, .f32⟩
  | .hbm, ⟨3, _⟩ => ⟨S1x64x1024x256, .f32⟩
  | .hbm, ⟨4, _⟩ => ⟨S1x64x256x1024, .f32⟩
  | .hbm, ⟨5, _⟩ => ⟨S1x1024x256, .f32⟩
  | .hbm, ⟨6, _⟩ => ⟨S1x1024x256, .f32⟩
  | .hbm, ⟨7, _⟩ => ⟨S1x256x1024, .f32⟩
  | .hbm, ⟨8, _⟩ => ⟨S65536x1024, .f32⟩
  | .hbm, ⟨9, _⟩ => ⟨S16x1x1024, .f32⟩
  | .hbm, ⟨10, _⟩ => ⟨S1024, .f32⟩
  | .hbm, ⟨11, _⟩ => ⟨S65536x1024, .f32⟩
  | .hbm, ⟨12, _⟩ => ⟨S65536x64, .f32⟩
  | .hbm, ⟨13, _⟩ => ⟨S64x1024x256, .f32⟩
  | .hbm, ⟨14, _⟩ => ⟨S65536x64x256, .f32⟩
  | .hbm, ⟨15, _⟩ => ⟨S65536x64x256, .f32⟩
  | .hbm, ⟨16, _⟩ => ⟨S65536x64x256, .f32⟩
  | .hbm, ⟨17, _⟩ => ⟨S_, .f32⟩
  | .hbm, ⟨18, _⟩ => ⟨S65536x64x256, .f32⟩
  | .hbm, ⟨19, _⟩ => ⟨S65536x64x256, .f32⟩
  | .hbm, ⟨20, _⟩ => ⟨S_, .f32⟩
  | .hbm, ⟨21, _⟩ => ⟨S65536x64x256, .f32⟩
  | .hbm, ⟨22, _⟩ => ⟨S65536x64x256, .f32⟩
  | .hbm, ⟨23, _⟩ => ⟨S65536x64x256, .f32⟩
  | .hbm, ⟨24, _⟩ => ⟨S64x1024x256, .f32⟩
  | .hbm, ⟨25, _⟩ => ⟨S65536x64x256, .f32⟩
  | .hbm, ⟨26, _⟩ => ⟨S65536x64x256, .f32⟩
  | .hbm, ⟨27, _⟩ => ⟨S65536x64x1, .f32⟩
  | .hbm, ⟨28, _⟩ => ⟨S65536x64x256, .f32⟩
  | .hbm, ⟨29, _⟩ => ⟨S65536x64x256, .f32⟩
  | .hbm, ⟨30, _⟩ => ⟨S64x256x1024, .f32⟩
  | .hbm, ⟨31, _⟩ => ⟨S65536x1024, .f32⟩
  | .hbm, ⟨32, _⟩ => ⟨S1024x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S_, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S1024x256, .f32⟩
  | .hbm, ⟨44, _⟩ => ⟨S65536x256, .f32⟩
  | .hbm, ⟨45, _⟩ => ⟨S65536x256, .f32⟩
  | .hbm, ⟨46, _⟩ => ⟨S256x1024, .f32⟩
  | .hbm, ⟨47, _⟩ => ⟨S65536x1024, .f32⟩
  | .hbm, ⟨48, _⟩ => ⟨S65536x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S65536x1, .f32⟩
  | .hbm, ⟨65, _⟩ => ⟨S65536x1024, .f32⟩
  | .hbm, ⟨66, _⟩ => ⟨S65536x1024, .f32⟩
  | .hbm, ⟨67, _⟩ => ⟨S1x1024, .f32⟩
  | .hbm, ⟨68, _⟩ => ⟨S65536x1024, .f32⟩
  | .hbm, ⟨69, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst : Ref sig .tc := ⟨.hbm, 55, rfl⟩
abbrev main_v28 : Ref sig .tc := ⟨.hbm, 56, rfl⟩
abbrev main_v29 : Ref sig .tc := ⟨.hbm, 57, rfl⟩
abbrev main_cst_0 : Ref sig .tc := ⟨.hbm, 58, rfl⟩
abbrev main_v30 : Ref sig .tc := ⟨.hbm, 59, rfl⟩
abbrev main_v31 : Ref sig .tc := ⟨.hbm, 60, rfl⟩
abbrev main_cst_1 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩

abbrev nD : Nat := 1
abbrev τ : Topo := Topo.v7x

variable {F : FTy → Type} [FloatOps F]
-- ==== Sel.lean ====
abbrev S16x64x4096 : Shape := ⟨3, ![16, 64, 4096]⟩
abbrev S1x64 : Shape := ⟨2, ![1, 64]⟩
abbrev S64 : Shape := ⟨1, ![64]⟩
abbrev S8x8x1 : Shape := ⟨3, ![8, 8, 1]⟩
abbrev S65536x128 : Shape := ⟨2, ![65536, 128]⟩
abbrev S1x64x512 : Shape := ⟨3, ![1, 64, 512]⟩
abbrev S512x128 : Shape := ⟨2, ![512, 128]⟩
abbrev S64x512 : Shape := ⟨2, ![64, 512]⟩
abbrev S8x8x512 : Shape := ⟨3, ![8, 8, 512]⟩
abbrev S8x512 : Shape := ⟨2, ![8, 512]⟩
abbrev S8x1x512 : Shape := ⟨3, ![8, 1, 512]⟩
abbrev S1x1x512 : Shape := ⟨3, ![1, 1, 512]⟩
abbrev S1x512 : Shape := ⟨2, ![1, 512]⟩
abbrev S128x512 : Shape := ⟨2, ![128, 512]⟩

abbrev nBuf : Space → Nat
  | .hbm => 5
  | .vmem => 5
  | .smem => 0
  | _ => 0

abbrev bufTy : (tb : Table) → Fin (tcTables nBuf tb) → BufTy
  | .hbm, ⟨0, _⟩ => ⟨S16x64x4096, .f32⟩
  | .hbm, ⟨1, _⟩ => ⟨S1x64, .f32⟩
  | .hbm, ⟨2, _⟩ => ⟨S64, .f32⟩
  | .hbm, ⟨3, _⟩ => ⟨S8x8x1, .f32⟩
  | .hbm, ⟨4, _⟩ => ⟨S65536x128, .f32⟩
  | .local _ .vmem, ⟨0, _⟩ => ⟨S1x64x512, .f32⟩
  | .local _ .vmem, ⟨1, _⟩ => ⟨S1x64x512, .f32⟩
  | .local _ .vmem, ⟨2, _⟩ => ⟨S8x8x1, .f32⟩
  | .local _ .vmem, ⟨3, _⟩ => ⟨S512x128, .f32⟩
  | .local _ .vmem, ⟨4, _⟩ => ⟨S512x128, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SelRefIdeal.lean ====
abbrev S16x64x4096 : Shape := ⟨3, ![16, 64, 4096]⟩
abbrev S1x64 : Shape := ⟨2, ![1, 64]⟩
abbrev S16x4096x64 : Shape := ⟨3, ![16, 4096, 64]⟩
abbrev S65536x64 : Shape := ⟨2, ![65536, 64]⟩
abbrev S_ : Shape := ⟨0, ![]⟩
abbrev S64 : Shape := ⟨1, ![64]⟩
abbrev S65536x8x8 : Shape := ⟨3, ![65536, 8, 8]⟩
abbrev S65536x8x2 : Shape := ⟨3, ![65536, 8, 2]⟩
abbrev S65536x8 : Shape := ⟨2, ![65536, 8]⟩
abbrev S65536x4 : Shape := ⟨2, ![65536, 4]⟩
abbrev S65536x4x1 : Shape := ⟨3, ![65536, 4, 1]⟩
abbrev S1x1x8 : Shape := ⟨3, ![1, 1, 8]⟩
abbrev S65536x4x8 : Shape := ⟨3, ![65536, 4, 8]⟩
abbrev S65536x8x1 : Shape := ⟨3, ![65536, 8, 1]⟩
abbrev S1 : Shape := ⟨1, ![1]⟩
abbrev S1x1x1 : Shape := ⟨3, ![1, 1, 1]⟩
abbrev S65536 : Shape := ⟨1, ![65536]⟩
abbrev S65536x1 : Shape := ⟨2, ![65536, 1]⟩
abbrev S1x1x64 : Shape := ⟨3, ![1, 1, 64]⟩
abbrev S65536x8x64 : Shape := ⟨3, ![65536, 8, 64]⟩
abbrev S65536x128 : Shape := ⟨2, ![65536, 128]⟩

abbrev nBuf : Space → Nat
  | .hbm => 82
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S1x64, .f32⟩
  | .hbm, ⟨2, _⟩ => ⟨S16x4096x64, .f32⟩
  | .hbm, ⟨3, _⟩ => ⟨S65536x64, .f32⟩
  | .hbm, ⟨4, _⟩ => ⟨S65536x64, .f32⟩
  | .hbm, ⟨5, _⟩ => ⟨S65536x64, .f32⟩
  | .hbm, ⟨6, _⟩ => ⟨S_, .f32⟩
  | .hbm, ⟨7, _⟩ => ⟨S65536x64, .f32⟩
  | .hbm, ⟨8, _⟩ => ⟨S65536x64, .f32⟩
  | .hbm, ⟨9, _⟩ => ⟨S_, .f32⟩
  | .hbm, ⟨10, _⟩ => ⟨S65536x64, .f32⟩
  | .hbm, ⟨11, _⟩ => ⟨S65536x64, .f32⟩
  | .hbm, ⟨12, _⟩ => ⟨S64, .f32⟩
  | .hbm, ⟨13, _⟩ => ⟨S1x64, .f32⟩
  | .hbm, ⟨14, _⟩ => ⟨S65536x64, .f32⟩
  | .hbm, ⟨15, _⟩ => ⟨S65536x64, .f32⟩
  | .hbm, ⟨16, _⟩ => ⟨S65536x8x8, .f32⟩
  | .hbm, ⟨17, _⟩ => ⟨S65536x8x2, .f32⟩
  | .hbm, ⟨18, _⟩ => ⟨S65536x8x2, .i32⟩
  | .hbm, ⟨19, _⟩ => ⟨S_, .f32⟩
  | .hbm, ⟨20, _⟩ => ⟨S65536x8, .f32⟩
  | .hbm, ⟨21, _⟩ => ⟨S65536x4, .f32⟩
  | .hbm, ⟨22, _⟩ => ⟨S65536x4, .i32⟩
  | .hbm, ⟨23, _⟩ => ⟨S65536x4x1, .i32⟩
  | .hbm, ⟨24, _⟩ => ⟨S1x1x8, .i32⟩
  | .hbm, ⟨25, _⟩ => ⟨S65536x4x8, .i32⟩
  | .hbm, ⟨26, _⟩ => ⟨S65536x4x8, .i32⟩
  | .hbm, ⟨27, _⟩ => ⟨S65536x4x8, .i1⟩
  | .hbm, ⟨28, _⟩ => ⟨S65536x4x8, .f32⟩
  | .hbm, ⟨29, _⟩ => ⟨S_, .f32⟩
  | .hbm, ⟨30, _⟩ => ⟨S65536x8, .f32⟩
  | .hbm, ⟨31, _⟩ => ⟨S65536x8x8, .f32⟩
  | .hbm, ⟨32, _⟩ => ⟨S65536x64, .f32⟩
  | .hbm, ⟨33, _⟩ => ⟨S_, .f32⟩
  | .hbm, ⟨34, _⟩ => ⟨S65536x64, .f32⟩
  | .hbm, ⟨35, _⟩ => ⟨S65536x64, .i1⟩
  | .hbm, ⟨36, _⟩ => ⟨S_, .f32⟩
  | .hbm, ⟨37, _⟩ => ⟨S_, .f32⟩
  | .hbm, ⟨38, _⟩ => ⟨S65536x64, .f32⟩
  | .hbm, ⟨39, _⟩ => ⟨S65536x64, .f32⟩
  | .hbm, ⟨40, _⟩ => ⟨S65536x8, .f32⟩
  | .hbm, ⟨41, _⟩ => ⟨S65536x8, .i32⟩
  | .hbm, ⟨42, _⟩ => ⟨S_, .i32⟩
  | .hbm, ⟨43, _⟩ => ⟨S65536x8, .i32⟩
  | .hbm, ⟨44, _⟩ => ⟨S65536x8, .i1⟩
  | .hbm, ⟨45, _⟩ => ⟨S_, .i32⟩
  | .hbm, ⟨46, _⟩ => ⟨S65536x8, .i32⟩
  | .hbm, ⟨47, _⟩ => ⟨S65536x8, .i32⟩
  | .hbm, ⟨48, _⟩ => ⟨S65536x8, .i32⟩
  | .hbm, ⟨49, _⟩ => ⟨S65536x8x1, .i32⟩
  | .hbm, ⟨50, _⟩ => ⟨S1, .i32⟩
  | .hbm, ⟨51, _⟩ => ⟨S_, .i32⟩
  | .hbm, ⟨52, _⟩ => ⟨S65536x8x1, .i32⟩
  | .hbm, ⟨53, _⟩ => ⟨S65536x8x1, .i1⟩
  | .hbm, ⟨54, _⟩ => ⟨S1x1x1, .i32⟩
  | .hbm, ⟨55, _⟩ => ⟨S65536x8x1, .i32⟩
  | .hbm, ⟨56, _⟩ => ⟨S65536x8x1, .i1⟩
  | .hbm, ⟨57, _⟩ => ⟨S65536x8x1, .i1⟩
  | .hbm, ⟨58, _⟩ => ⟨S_, .i1⟩
  | .hbm, ⟨59, _⟩ => ⟨S65536x8, .i1⟩
  | .hbm, ⟨60, _⟩ => ⟨S65536x8, .f32⟩
  | .hbm, ⟨61, _⟩ => ⟨S_, .f32⟩
  | .hbm, ⟨62, _⟩ => ⟨S65536x8, .f32⟩
  | .hbm, ⟨63, _⟩ => ⟨S65536x8, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S65536x8, .f32⟩
  | .hbm, ⟨68, _⟩ => ⟨S65536x8, .f32⟩
  | .hbm, ⟨69, _⟩ => ⟨S_, .f32⟩
  | .hbm, ⟨70, _⟩ => ⟨S65536x8, .f32⟩
  | .hbm, ⟨71, _⟩ => ⟨S65536x8, .f32⟩
  | .hbm, ⟨72, _⟩ => ⟨S65536x8x1, .i32⟩
  | .hbm, ⟨73, _⟩ => ⟨S1x1x64, .i32⟩
  | .hbm, ⟨74, _⟩ => ⟨S65536x8x64, .i32⟩
  | .hbm, ⟨75, _⟩ => ⟨S65536x8x64, .i32⟩
  | .hbm, ⟨76, _⟩ => ⟨S65536x8x64, .i1⟩
  | .hbm, ⟨77, _⟩ => ⟨S65536x8x64, .f32⟩
  | .hbm, ⟨78, _⟩ => ⟨S65536x64, .f32⟩
  | .hbm, ⟨79, _⟩ => ⟨S_, .i32⟩
  | .hbm, ⟨80, _⟩ => ⟨S_, .f32⟩
  | .hbm, ⟨81, _⟩ => ⟨S65536x128, .f32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_values : Ref sig .tc := ⟨.hbm, 17, rfl⟩
abbrev main_indices : Ref sig .tc := ⟨.hbm, 18, rfl⟩
abbrev main_cst_1 : Ref sig .tc := ⟨.hbm, 19, rfl⟩
abbrev main_v13 : Ref sig .tc := ⟨.hbm, 20, rfl⟩
abbrev main_values_2 : Ref sig .tc := ⟨.hbm, 21, rfl⟩
abbrev main_indices_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_values_7 : Ref sig .tc := ⟨.hbm, 40, rfl⟩
abbrev main_indices_8 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v21 : Ref sig .tc := ⟨.hbm, 63, rfl⟩
abbrev main_cst_9 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_10 : Ref sig .tc := ⟨.hbm, 69, rfl⟩
abbrev main_v26 : Ref sig .tc := ⟨.hbm, 70, rfl⟩
abbrev main_v27 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v28 : Ref sig .tc := ⟨.hbm, 77, rfl⟩
abbrev main_v29 : Ref sig .tc := ⟨.hbm, 78, rfl⟩
abbrev main_c : Ref sig .tc := ⟨.hbm, 79, rfl⟩
abbrev main_call4_v0 : Ref sig .tc := ⟨.hbm, 80, rfl⟩
abbrev main_v30 : Ref sig .tc := ⟨.hbm, 81, rfl⟩

abbrev nD : Nat := 1
abbrev τ : Topo := Topo.v7x

variable {F : FTy → Type} [FloatOps F]
-- ==== Inp.lean ====
abbrev S16x4096x1024 : Shape := ⟨3, ![16, 4096, 1024]⟩
abbrev S1x1024 : Shape := ⟨2, ![1, 1024]⟩
abbrev S16x1x1024 : Shape := ⟨3, ![16, 1, 1024]⟩
abbrev S1x1024x8224 : Shape := ⟨3, ![1, 1024, 8224]⟩
abbrev S1024x8224 : Shape := ⟨2, ![1024, 8224]⟩
abbrev S1024x512 : Shape := ⟨2, ![1024, 512]⟩
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S1024x2048 : Shape := ⟨2, ![1024, 2048]⟩
abbrev S1024x3072 : Shape := ⟨2, ![1024, 3072]⟩
abbrev S1024x8320 : Shape := ⟨2, ![1024, 8320]⟩
abbrev S1024 : Shape := ⟨1, ![1024]⟩
abbrev S16x4096x8320 : Shape := ⟨3, ![16, 4096, 8320]⟩
abbrev S1x1024x1024 : Shape := ⟨3, ![1, 1024, 1024]⟩
abbrev S1x1x1024 : Shape := ⟨3, ![1, 1, 1024]⟩
abbrev S1024x1664 : Shape := ⟨2, ![1024, 1664]⟩
abbrev S1x1024x1664 : Shape := ⟨3, ![1, 1024, 1664]⟩
abbrev S1024x1 : Shape := ⟨2, ![1024, 1]⟩

abbrev nBuf : Space → Nat
  | .hbm => 21
  | .vmem => 12
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1x1024x8224, .f32⟩
  | .hbm, ⟨5, _⟩ => ⟨S1024x8224, .f32⟩
  | .hbm, ⟨6, _⟩ => ⟨S1024x512, .f32⟩
  | .hbm, ⟨7, _⟩ => ⟨S1024x1024, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x2048, .f32⟩
  | .hbm, ⟨13, _⟩ => ⟨S1024x1024, .f32⟩
  | .hbm, ⟨14, _⟩ => ⟨S1024x512, .f32⟩
  | .hbm, ⟨15, _⟩ => ⟨S1024x3072, .f32⟩
  | .hbm, ⟨16, _⟩ => ⟨S1024x8320, .f32⟩
  | .hbm, ⟨17, _⟩ => ⟨S1024x8320, .bf16⟩
  | .hbm, ⟨18, _⟩ => ⟨S1024, .f32⟩
  | .hbm, ⟨19, _⟩ => ⟨S1x1024, .f32⟩
  | .hbm, ⟨20, _⟩ => ⟨S16x4096x8320, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1664, .bf16⟩
  | .local _ .vmem, ⟨8, _⟩ => ⟨S1024x1664, .bf16⟩
  | .local _ .vmem, ⟨9, _⟩ => ⟨S1x1024x1664, .bf16⟩
  | .local _ .vmem, ⟨10, _⟩ => ⟨S1x1024x1664, .bf16⟩
  | .local _ .vmem, ⟨11, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 4, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InpRefIdeal.lean ====
abbrev S16x4096x1024 : Shape := ⟨3, ![16, 4096, 1024]⟩
abbrev S1x1024 : Shape := ⟨2, ![1, 1024]⟩
abbrev S16x1x1024 : Shape := ⟨3, ![16, 1, 1024]⟩
abbrev S1x1024x8224 : Shape := ⟨3, ![1, 1024, 8224]⟩
abbrev S_ : Shape := ⟨0, ![]⟩
abbrev S16x4096 : Shape := ⟨2, ![16, 4096]⟩
abbrev S16x4096x1 : Shape := ⟨3, ![16, 4096, 1]⟩
abbrev S1024 : Shape := ⟨1, ![1024]⟩
abbrev S1x1x1024 : Shape := ⟨3, ![1, 1, 1024]⟩
abbrev S1024x8224 : Shape := ⟨2, ![1024, 8224]⟩
abbrev S16x4096x8224 : Shape := ⟨3, ![16, 4096, 8224]⟩
abbrev S16x4096x512 : Shape := ⟨3, ![16, 4096, 512]⟩
abbrev S16x4096x32 : Shape := ⟨3, ![16, 4096, 32]⟩
abbrev S16x4096x3072 : Shape := ⟨3, ![16, 4096, 3072]⟩
abbrev S16x4096x2048 : Shape := ⟨3, ![16, 4096, 2048]⟩
abbrev S16x4096x96 : Shape := ⟨3, ![16, 4096, 96]⟩
abbrev S16x4096x8320 : Shape := ⟨3, ![16, 4096, 8320]⟩

abbrev nBuf : Space → Nat
  | .hbm => 42
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1x1024x8224, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S1024x8224, .f32⟩
  | .hbm, ⟨30, _⟩ => ⟨S16x4096x8224, .f32⟩
  | .hbm, ⟨31, _⟩ => ⟨S16x4096x512, .f32⟩
  | .hbm, ⟨32, _⟩ => ⟨S16x4096x1024, .f32⟩
  | .hbm, ⟨33, _⟩ => ⟨S16x4096x32, .f32⟩
  | .hbm, ⟨34, _⟩ => ⟨S16x4096x512, .f32⟩
  | .hbm, ⟨35, _⟩ => ⟨S16x4096x1024, .f32⟩
  | .hbm, ⟨36, _⟩ => ⟨S16x4096x3072, .f32⟩
  | .hbm, ⟨37, _⟩ => ⟨S16x4096x2048, .f32⟩
  | .hbm, ⟨38, _⟩ => ⟨S_, .f32⟩
  | .hbm, ⟨39, _⟩ => ⟨S16x4096x96, .f32⟩
  | .hbm, ⟨40, _⟩ => ⟨S16x4096x8320, .f32⟩
  | .hbm, ⟨41, _⟩ => ⟨S16x4096x8320, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Mix.lean ====
abbrev S16x4096x1024 : Shape := ⟨3, ![16, 4096, 1024]⟩
abbrev S16x4096x8320 : Shape := ⟨3, ![16, 4096, 8320]⟩
abbrev S1x1024 : Shape := ⟨2, ![1, 1024]⟩
abbrev S1x1024x1024 : Shape := ⟨3, ![1, 1024, 1024]⟩
abbrev S16x1x1024 : Shape := ⟨3, ![16, 1, 1024]⟩
abbrev S1x1024x64 : Shape := ⟨3, ![1, 1024, 64]⟩
abbrev S1024 : Shape := ⟨1, ![1024]⟩
abbrev S1024x1024 : Shape := ⟨2, ![1024, 1024]⟩
abbrev S1024x64 : Shape := ⟨2, ![1024, 64]⟩
abbrev S64x1024 : Shape := ⟨2, ![64, 1024]⟩
abbrev S16x64x4096 : Shape := ⟨3, ![16, 64, 4096]⟩
abbrev S1x512x1024 : Shape := ⟨3, ![1, 512, 1024]⟩
abbrev S1x512x2048 : Shape := ⟨3, ![1, 512, 2048]⟩
abbrev S1x1x1024 : Shape := ⟨3, ![1, 1, 1024]⟩
abbrev S1x64x512 : Shape := ⟨3, ![1, 64, 512]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S64x512 : Shape := ⟨2, ![64, 512]⟩

abbrev nBuf : Space → Nat
  | .hbm => 29
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S16x4096x1024, .bf16⟩
  | .hbm, ⟨3, _⟩ => ⟨S16x4096x8320, .bf16⟩
  | .hbm, ⟨4, _⟩ => ⟨S16x4096x1024, .bf16⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S16x1x1024, .f32⟩
  | .hbm, ⟨10, _⟩ => ⟨S1x1024, .f32⟩
  | .hbm, ⟨11, _⟩ => ⟨S16x1x1024, .f32⟩
  | .hbm, ⟨12, _⟩ => ⟨S16x1x1024, .f32⟩
  | .hbm, ⟨13, _⟩ => ⟨S1x1024x64, .f32⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x64, .f32⟩
  | .hbm, ⟨25, _⟩ => ⟨S64x1024, .f32⟩
  | .hbm, ⟨26, _⟩ => ⟨S16x4096x1024, .f32⟩
  | .hbm, ⟨27, _⟩ => ⟨S16x4096x1024, .bf16⟩
  | .hbm, ⟨28, _⟩ => ⟨S16x64x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S64x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .bf16⟩
  | .local _ .vmem, ⟨27, _⟩ => ⟨S1x512x1024, .bf16⟩
  | .local _ .vmem, ⟨28, _⟩ => ⟨S1x64x512, .f32⟩
  | .local _ .vmem, ⟨29, _⟩ => ⟨S1x64x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S64x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MixRefIdeal.lean ====
abbrev S16x4096x1024 : Shape := ⟨3, ![16, 4096, 1024]⟩
abbrev S16x4096x8320 : Shape := ⟨3, ![16, 4096, 8320]⟩
abbrev S1x1024 : Shape := ⟨2, ![1, 1024]⟩
abbrev S1x1024x1024 : Shape := ⟨3, ![1, 1024, 1024]⟩
abbrev S16x1x1024 : Shape := ⟨3, ![16, 1, 1024]⟩
abbrev S1x1024x64 : Shape := ⟨3, ![1, 1024, 64]⟩
abbrev S16x4096x2048 : Shape := ⟨3, ![16, 4096, 2048]⟩
abbrev S_ : Shape := ⟨0, ![]⟩
abbrev S16x4096x4x256 : Shape := ⟨4, ![16, 4096, 4, 256]⟩
abbrev S16x4096x4 : Shape := ⟨3, ![16, 4096, 4]⟩
abbrev S16x4096x4x1 : Shape := ⟨4, ![16, 4096, 4, 1]⟩
abbrev S1024 : Shape := ⟨1, ![1024]⟩
abbrev S4x256 : Shape := ⟨2, ![4, 256]⟩
abbrev S1x1x4x256 : Shape := ⟨4, ![1, 1, 4, 256]⟩
abbrev S1024x1024 : Shape := ⟨2, ![1024, 1024]⟩
abbrev S16x4096 : Shape := ⟨2, ![16, 4096]⟩
abbrev S16x4096x1 : Shape := ⟨3, ![16, 4096, 1]⟩
abbrev S1x1x1024 : Shape := ⟨3, ![1, 1, 1024]⟩
abbrev S1024x64 : Shape := ⟨2, ![1024, 64]⟩
abbrev S16x4096x64 : Shape := ⟨3, ![16, 4096, 64]⟩
abbrev S16x64x4096 : Shape := ⟨3, ![16, 64, 4096]⟩

abbrev nBuf : Space → Nat
  | .hbm => 102
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S16x4096x1024, .bf16⟩
  | .hbm, ⟨3, _⟩ => ⟨S16x4096x8320, .bf16⟩
  | .hbm, ⟨4, _⟩ => ⟨S16x4096x1024, .bf16⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S16x1x1024, .f32⟩
  | .hbm, ⟨10, _⟩ => ⟨S1x1024, .f32⟩
  | .hbm, ⟨11, _⟩ => ⟨S16x1x1024, .f32⟩
  | .hbm, ⟨12, _⟩ => ⟨S16x1x1024, .f32⟩
  | .hbm, ⟨13, _⟩ => ⟨S1x1024x64, .f32⟩
  | .hbm, ⟨14, _⟩ => ⟨S16x4096x2048, .bf16⟩
  | .hbm, ⟨15, _⟩ => ⟨S16x4096x2048, .f32⟩
  | .hbm, ⟨16, _⟩ => ⟨S16x4096x2048, .f32⟩
  | .hbm, ⟨17, _⟩ => ⟨S16x4096x2048, .f32⟩
  | .hbm, ⟨18, _⟩ => ⟨S_, .f32⟩
  | .hbm, ⟨19, _⟩ => ⟨S16x4096x2048, .f32⟩
  | .hbm, ⟨20, _⟩ => ⟨S16x4096x2048, .f32⟩
  | .hbm, ⟨21, _⟩ => ⟨S_, .f32⟩
  | .hbm, ⟨22, _⟩ => ⟨S16x4096x2048, .f32⟩
  | .hbm, ⟨23, _⟩ => ⟨S16x4096x2048, .f32⟩
  | .hbm, ⟨24, _⟩ => ⟨S16x4096x1024, .bf16⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x4x256, .f32⟩
  | .hbm, ⟨30, _⟩ => ⟨S16x4096x4x256, .f32⟩
  | .hbm, ⟨31, _⟩ => ⟨S_, .f32⟩
  | .hbm, ⟨32, _⟩ => ⟨S16x4096x4, .f32⟩
  | .hbm, ⟨33, _⟩ => ⟨S16x4096x4x1, .f32⟩
  | .hbm, ⟨34, _⟩ => ⟨S_, .f32⟩
  | .hbm, ⟨35, _⟩ => ⟨S16x4096x4x1, .f32⟩
  | .hbm, ⟨36, _⟩ => ⟨S16x4096x4x1, .f32⟩
  | .hbm, ⟨37, _⟩ => ⟨S_, .f32⟩
  | .hbm, ⟨38, _⟩ => ⟨S16x4096x4x1, .f32⟩
  | .hbm, ⟨39, _⟩ => ⟨S16x4096x4x1, .f32⟩
  | .hbm, ⟨40, _⟩ => ⟨S16x4096x4x1, .f32⟩
  | .hbm, ⟨41, _⟩ => ⟨S16x4096x4x256, .f32⟩
  | .hbm, ⟨42, _⟩ => ⟨S16x4096x4x256, .f32⟩
  | .hbm, ⟨43, _⟩ => ⟨S1024, .f32⟩
  | .hbm, ⟨44, _⟩ => ⟨S4x256, .f32⟩
  | .hbm, ⟨45, _⟩ => ⟨S1x1x4x256, .f32⟩
  | .hbm, ⟨46, _⟩ => ⟨S16x4096x4x256, .f32⟩
  | .hbm, ⟨47, _⟩ => ⟨S16x4096x4x256, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S_, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S1024x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S1024x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S1024x1024, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S16x4096x1024, .f32⟩
  | .hbm, ⟨75, _⟩ => ⟨S_, .f32⟩
  | .hbm, ⟨76, _⟩ => ⟨S16x4096, .f32⟩
  | .hbm, ⟨77, _⟩ => ⟨S16x4096x1, .f32⟩
  | .hbm, ⟨78, _⟩ => ⟨S_, .f32⟩
  | .hbm, ⟨79, _⟩ => ⟨S16x4096x1, .f32⟩
  | .hbm, ⟨80, _⟩ => ⟨S16x4096x1, .f32⟩
  | .hbm, ⟨81, _⟩ => ⟨S_, .f32⟩
  | .hbm, ⟨82, _⟩ => ⟨S16x4096x1, .f32⟩
  | .hbm, ⟨83, _⟩ => ⟨S16x4096x1, .f32⟩
  | .hbm, ⟨84, _⟩ => ⟨S16x4096x1, .f32⟩
  | .hbm, ⟨85, _⟩ => ⟨S16x4096x1024, .f32⟩
  | .hbm, ⟨86, _⟩ => ⟨S16x4096x1024, .f32⟩
  | .hbm, ⟨87, _⟩ => ⟨S1024, .f32⟩
  | .hbm, ⟨88, _⟩ => ⟨S1x1x1024, .f32⟩
  | .hbm, ⟨89, _⟩ => ⟨S16x4096x1024, .f32⟩
  | .hbm, ⟨90, _⟩ => ⟨S16x4096x1024, .f32⟩
  | .hbm, ⟨91, _⟩ => ⟨S_, .f32⟩
  | .hbm, ⟨92, _⟩ => ⟨S16x1x1024, .f32⟩
  | .hbm, ⟨93, _⟩ => ⟨S16x1x1024, .f32⟩
  | .hbm, ⟨94, _⟩ => ⟨S16x4096x1024, .f32⟩
  | .hbm, ⟨95, _⟩ => ⟨S16x4096x1024, .f32⟩
  | .hbm, ⟨96, _⟩ => ⟨S16x4096x1024, .f32⟩
  | .hbm, ⟨97, _⟩ => ⟨S16x4096x1024, .f32⟩
  | .hbm, ⟨98, _⟩ => ⟨S1024x64, .f32⟩
  | .hbm, ⟨99, _⟩ => ⟨S16x4096x64, .f32⟩
  | .hbm, ⟨100, _⟩ => ⟨S16x4096x1024, .bf16⟩
  | .hbm, ⟨101, _⟩ => ⟨S16x64x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_4 : Ref sig .tc := ⟨.hbm, 75, rfl⟩
abbrev main_v48 : Ref sig .tc := ⟨.hbm, 76, rfl⟩
abbrev main_v49 : Ref sig .tc := ⟨.hbm, 77, rfl⟩
abbrev main_cst_5 : Ref sig .tc := ⟨.hbm, 78, rfl⟩
abbrev main_v50 : Ref sig .tc := ⟨.hbm, 79, rfl⟩
abbrev main_v51 : Ref sig .tc := ⟨.hbm, 80, rfl⟩
abbrev main_cst_6 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_7 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Mod.lean ====
abbrev S24x1024 : Shape := ⟨2, ![24, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S24x6144 : Shape := ⟨2, ![24, 6144]⟩
abbrev S1024x1536 : Shape := ⟨2, ![1024, 1536]⟩
abbrev S1x1536 : Shape := ⟨2, ![1, 1536]⟩
abbrev S24x1536 : Shape := ⟨2, ![24, 1536]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S24x6144, .f32⟩
  | .local _ .vmem, ⟨0, _⟩ => ⟨S24x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S24x1536, .f32⟩
  | .local _ .vmem, ⟨6, _⟩ => ⟨S24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S24x1024 : Shape := ⟨2, ![24, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S24x6144 : Shape := ⟨2, ![24, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S1x1024x6144, .f32⟩
  | .hbm, ⟨2, _⟩ => ⟨S1x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1024x6144, .f32⟩
  | .hbm, ⟨13, _⟩ => ⟨S24x6144, .f32⟩
  | .hbm, ⟨14, _⟩ => ⟨S6144, .f32⟩
  | .hbm, ⟨15, _⟩ => ⟨S1x6144, .f32⟩
  | .hbm, ⟨16, _⟩ => ⟨S24x6144, .f32⟩
  | .hbm, ⟨17, _⟩ => ⟨S24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Ctx.lean ====
abbrev S16x256x1024 : Shape := ⟨3, ![16, 256, 1024]⟩
abbrev S1x1024 : Shape := ⟨2, ![1, 1024]⟩
abbrev S1024 : Shape := ⟨1, ![1024]⟩
abbrev S1x1024x8224 : Shape := ⟨3, ![1, 1024, 8224]⟩
abbrev S1024x8224 : Shape := ⟨2, ![1024, 8224]⟩
abbrev S1024x512 : Shape := ⟨2, ![1024, 512]⟩
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S1024x1664 : Shape := ⟨2, ![1024, 1664]⟩
abbrev S1x1x1024 : Shape := ⟨3, ![1, 1, 1024]⟩
abbrev S16x1x1024 : Shape := ⟨3, ![16, 1, 1024]⟩
abbrev S16x256x1664 : Shape := ⟨3, ![16, 256, 1664]⟩
abbrev S1x256x1024 : Shape := ⟨3, ![1, 256, 1024]⟩
abbrev S1x256x1664 : Shape := ⟨3, ![1, 256, 1664]⟩
abbrev S256x1024 : Shape := ⟨2, ![256, 1024]⟩
abbrev S256 : Shape := ⟨1, ![256]⟩
abbrev S256x1 : Shape := ⟨2, ![256, 1]⟩
abbrev S256x1664 : Shape := ⟨2, ![256, 1664]⟩

abbrev nBuf : Space → Nat
  | .hbm => 21
  | .vmem => 11
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1024, .f32⟩
  | .hbm, ⟨3, _⟩ => ⟨S1024, .f32⟩
  | .hbm, ⟨4, _⟩ => ⟨S1x1024x8224, .f32⟩
  | .hbm, ⟨5, _⟩ => ⟨S1024x8224, .f32⟩
  | .hbm, ⟨6, _⟩ => ⟨S1024x512, .f32⟩
  | .hbm, ⟨7, _⟩ => ⟨S1024x1024, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x1664, .f32⟩
  | .hbm, ⟨13, _⟩ => ⟨S1024x1664, .bf16⟩
  | .hbm, ⟨14, _⟩ => ⟨S1x1x1024, .f32⟩
  | .hbm, ⟨15, _⟩ => ⟨S16x1x1024, .f32⟩
  | .hbm, ⟨16, _⟩ => ⟨S1x1x1024, .f32⟩
  | .hbm, ⟨17, _⟩ => ⟨S16x1x1024, .f32⟩
  | .hbm, ⟨18, _⟩ => ⟨S1024, .f32⟩
  | .hbm, ⟨19, _⟩ => ⟨S1x1024, .f32⟩
  | .hbm, ⟨20, _⟩ => ⟨S16x256x1664, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1664, .bf16⟩
  | .local _ .vmem, ⟨8, _⟩ => ⟨S1x256x1664, .bf16⟩
  | .local _ .vmem, ⟨9, _⟩ => ⟨S1x256x1664, .bf16⟩
  | .local _ .vmem, ⟨10, _⟩ => ⟨S256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== CtxRefIdeal.lean ====
abbrev S16x256x1024 : Shape := ⟨3, ![16, 256, 1024]⟩
abbrev S1x1024 : Shape := ⟨2, ![1, 1024]⟩
abbrev S1024 : Shape := ⟨1, ![1024]⟩
abbrev S1x1024x8224 : Shape := ⟨3, ![1, 1024, 8224]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x8224 : Shape := ⟨2, ![1024, 8224]⟩
abbrev S1024x1568 : Shape := ⟨2, ![1024, 1568]⟩
abbrev S16x256x1568 : Shape := ⟨3, ![16, 256, 1568]⟩
abbrev S16x256x96 : Shape := ⟨3, ![16, 256, 96]⟩
abbrev S16x256x1664 : Shape := ⟨3, ![16, 256, 1664]⟩

abbrev nBuf : Space → Nat
  | .hbm => 38
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1024, .f32⟩
  | .hbm, ⟨3, _⟩ => ⟨S1024, .f32⟩
  | .hbm, ⟨4, _⟩ => ⟨S1x1024x8224, .f32⟩
  | .hbm, ⟨5, _⟩ => ⟨S16x256x1024, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x1024, .f32⟩
  | .hbm, ⟨17, _⟩ => ⟨S16x256x1024, .f32⟩
  | .hbm, ⟨18, _⟩ => ⟨S1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S1024x8224, .f32⟩
  | .hbm, ⟨32, _⟩ => ⟨S1024x1568, .f32⟩
  | .hbm, ⟨33, _⟩ => ⟨S16x256x1568, .f32⟩
  | .hbm, ⟨34, _⟩ => ⟨S_, .f32⟩
  | .hbm, ⟨35, _⟩ => ⟨S16x256x96, .f32⟩
  | .hbm, ⟨36, _⟩ => ⟨S16x256x1664, .f32⟩
  | .hbm, ⟨37, _⟩ => ⟨S16x256x1664, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Glc.lean ====
abbrev S16x256x1664 : Shape := ⟨3, ![16, 256, 1664]⟩
abbrev S1x2x16x512 : Shape := ⟨4, ![1, 2, 16, 512]⟩
abbrev S1x2x512 : Shape := ⟨3, ![1, 2, 512]⟩
abbrev S904x64 : Shape := ⟨2, ![904, 64]⟩
abbrev S7x64x64 : Shape := ⟨3, ![7, 64, 64]⟩
abbrev S2x16x512 : Shape := ⟨3, ![2, 16, 512]⟩
abbrev S2x16x4x128 : Shape := ⟨4, ![2, 16, 4, 128]⟩
abbrev S2x4x16x128 : Shape := ⟨4, ![2, 4, 16, 128]⟩
abbrev S1x4x16x128 : Shape := ⟨4, ![1, 4, 16, 128]⟩
abbrev S4x16x128 : Shape := ⟨3, ![4, 16, 128]⟩
abbrev S_ : Shape := ⟨0, ![]⟩
abbrev S4x128x128 : Shape := ⟨3, ![4, 128, 128]⟩
abbrev S2x512 : Shape := ⟨2, ![2, 512]⟩
abbrev S2x4x1x128 : Shape := ⟨4, ![2, 4, 1, 128]⟩
abbrev S16x4x256x128 : Shape := ⟨4, ![16, 4, 256, 128]⟩
abbrev S1x4x1x128 : Shape := ⟨4, ![1, 4, 1, 128]⟩
abbrev S4x1x128 : Shape := ⟨3, ![4, 1, 128]⟩
abbrev S1x256x128 : Shape := ⟨3, ![1, 256, 128]⟩
abbrev S1x256x256 : Shape := ⟨3, ![1, 256, 256]⟩
abbrev S1x128x128 : Shape := ⟨3, ![1, 128, 128]⟩
abbrev S1x1x128 : Shape := ⟨3, ![1, 1, 128]⟩
abbrev S1x1x256x128 : Shape := ⟨4, ![1, 1, 256, 128]⟩
abbrev S256x128 : Shape := ⟨2, ![256, 128]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S128x128 : Shape := ⟨2, ![128, 128]⟩
abbrev S1x128 : Shape := ⟨2, ![1, 128]⟩
abbrev S64x384 : Shape := ⟨2, ![64, 384]⟩
abbrev S904x384 : Shape := ⟨2, ![904, 384]⟩
abbrev S904x128 : Shape := ⟨2, ![904, 128]⟩

abbrev nBuf : Space → Nat
  | .hbm => 32
  | .vmem => 34
  | .smem => 0
  | _ => 0

abbrev bufTy : (tb : Table) → Fin (tcTables nBuf tb) → BufTy
  | .hbm, ⟨0, _⟩ => ⟨S16x256x1664, .bf16⟩
  | .hbm, ⟨1, _⟩ => ⟨S1x2x16x512, .f32⟩
  | .hbm, ⟨2, _⟩ => ⟨S1x2x512, .f32⟩
  | .hbm, ⟨3, _⟩ => ⟨S904x64, .bf16⟩
  | .hbm, ⟨4, _⟩ => ⟨S904x64, .bf16⟩
  | .hbm, ⟨5, _⟩ => ⟨S7x64x64, .f32⟩
  | .hbm, ⟨6, _⟩ => ⟨S7x64x64, .f32⟩
  | .hbm, ⟨7, _⟩ => ⟨S2x16x512, .f32⟩
  | .hbm, ⟨8, _⟩ => ⟨S2x16x4x128, .f32⟩
  | .hbm, ⟨9, _⟩ => ⟨S2x4x16x128, .f32⟩
  | .hbm, ⟨10, _⟩ => ⟨S1x4x16x128, .f32⟩
  | .hbm, ⟨11, _⟩ => ⟨S4x16x128, .f32⟩
  | .hbm, ⟨12, _⟩ => ⟨S_, .i32⟩
  | .hbm, ⟨13, _⟩ => ⟨S_, .f32⟩
  | .hbm, ⟨14, _⟩ => ⟨S4x128x128, .f32⟩
  | .hbm, ⟨15, _⟩ => ⟨S4x128x128, .bf16⟩
  | .hbm, ⟨16, _⟩ => ⟨S1x4x16x128, .f32⟩
  | .hbm, ⟨17, _⟩ => ⟨S4x16x128, .f32⟩
  | .hbm, ⟨18, _⟩ => ⟨S_, .i32⟩
  | .hbm, ⟨19, _⟩ => ⟨S_, .f32⟩
  | .hbm, ⟨20, _⟩ => ⟨S4x128x128, .f32⟩
  | .hbm, ⟨21, _⟩ => ⟨S4x128x128, .bf16⟩
  | .hbm, ⟨22, _⟩ => ⟨S2x512, .f32⟩
  | .hbm, ⟨23, _⟩ => ⟨S2x4x1x128, .f32⟩
  | .hbm, ⟨24, _⟩ => ⟨S_, .f32⟩
  | .hbm, ⟨25, _⟩ => ⟨S16x4x256x128, .f32⟩
  | .hbm, ⟨26, _⟩ => ⟨S1x4x1x128, .f32⟩
  | .hbm, ⟨27, _⟩ => ⟨S4x1x128, .f32⟩
  | .hbm, ⟨28, _⟩ => ⟨S1x4x1x128, .f32⟩
  | .hbm, ⟨29, _⟩ => ⟨S4x1x128, .f32⟩
  | .hbm, ⟨30, _⟩ => ⟨S16x4x256x128, .f32⟩
  | .hbm, ⟨31, _⟩ => ⟨S16x4x256x128, .f32⟩
  | .local _ .vmem, ⟨0, _⟩ => ⟨S1x256x128, .bf16⟩
  | .local _ .vmem, ⟨1, _⟩ => ⟨S1x256x128, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S904x64, .bf16⟩
  | .local _ .vmem, ⟨21, _⟩ => ⟨S904x64, .bf16⟩
  | .local _ .vmem, ⟨22, _⟩ => ⟨S7x64x64, .f32⟩
  | .local _ .vmem, ⟨23, _⟩ => ⟨S7x64x64, .f32⟩
  | .local _ .vmem, ⟨24, _⟩ => ⟨S1x1x256x128, .f32⟩
  | .local _ .vmem, ⟨25, _⟩ => ⟨S1x1x256x128, .f32⟩
  | .local _ .vmem, ⟨26, _⟩ => ⟨S1x1x256x128, .f32⟩
  | .local _ .vmem, ⟨27, _⟩ => ⟨S1x1x256x128, .f32⟩
  | .local _ .vmem, ⟨28, _⟩ => ⟨S1x1x256x128, .f32⟩
  | .local _ .vmem, ⟨29, _⟩ => ⟨S1x1x256x128, .f32⟩
  | .local _ .vmem, ⟨30, _⟩ => ⟨S1x1x256x128, .f32⟩
  | .local _ .vmem, ⟨31, _⟩ => ⟨S1x1x256x128, .f32⟩
  | .local _ .vmem, ⟨32, _⟩ => ⟨S256x128, .f32⟩
  | .local _ .vmem, ⟨33, _⟩ => ⟨S256x128, .f32⟩
  | _, _ => ⟨S16x256x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, arg2.toNat, c12_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  let v1 : BitVec 32 := Scalar.addi c0_i32_0 arg1
  let c0_i32_1 : BitVec 32 := 0#32
  ![arg0.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c2_i32 : BitVec 32 := 2#32
  let v1 : BitVec 32 := Scalar.addi c2_i32 arg1
  let c0_i32_0 : BitVec 32 := 0#32
  ![arg0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c12_i32 : BitVec 32 := 12#32
  let c0_i32_0 : BitVec 32 := 0#32
  ![arg0.toNat, v0.toNat, c12_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 1 → Memref sig .tc .vmem S904x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S904x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S7x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S7x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1x1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1x1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]
-- ==== GlcRefIdeal.lean ====
abbrev S16x256x1664 : Shape := ⟨3, ![16, 256, 1664]⟩
abbrev S1x2x16x512 : Shape := ⟨4, ![1, 2, 16, 512]⟩
abbrev S1x2x512 : Shape := ⟨3, ![1, 2, 512]⟩
abbrev S16x256x512 : Shape := ⟨3, ![16, 256, 512]⟩
abbrev S16x256x1024 : Shape := ⟨3, ![16, 256, 1024]⟩
abbrev S16x256x32 : Shape := ⟨3, ![16, 256, 32]⟩
abbrev S16x256x2x16 : Shape := ⟨4, ![16, 256, 2, 16]⟩
abbrev S2x16x512 : Shape := ⟨3, ![2, 16, 512]⟩
abbrev S2x16x256x512 : Shape := ⟨4, ![2, 16, 256, 512]⟩
abbrev S2x512 : Shape := ⟨2, ![2, 512]⟩
abbrev S2x1x1x512 : Shape := ⟨4, ![2, 1, 1, 512]⟩
abbrev S_ : Shape := ⟨0, ![]⟩
abbrev S16x256x4x128 : Shape := ⟨4, ![16, 256, 4, 128]⟩
abbrev S16x4x256x128 : Shape := ⟨4, ![16, 4, 256, 128]⟩
abbrev S16x256x4x256 : Shape := ⟨4, ![16, 256, 4, 256]⟩
abbrev S16x4x256x256 : Shape := ⟨4, ![16, 4, 256, 256]⟩
abbrev S1x16x256x512 : Shape := ⟨4, ![1, 16, 256, 512]⟩
abbrev S16x4x128x256 : Shape := ⟨4, ![16, 4, 128, 256]⟩
abbrev S16x4x64x128 : Shape := ⟨4, ![16, 4, 64, 128]⟩
abbrev S16x4x64x256 : Shape := ⟨4, ![16, 4, 64, 256]⟩
abbrev S16x4x1x128 : Shape := ⟨4, ![16, 4, 1, 128]⟩
abbrev S16x4x128 : Shape := ⟨3, ![16, 4, 128]⟩
abbrev S16x4x128x1 : Shape := ⟨4, ![16, 4, 128, 1]⟩

abbrev nBuf : Space → Nat
  | .hbm => 198
  | .vmem => 0
  | .smem => 0
  | _ => 0

abbrev hbmTy0_0 (i : Nat) : BufTy := match i % 128 with
  | 0 => ⟨S16x256x1664, .bf16⟩
  | 1 => ⟨S1x2x16x512, .f32⟩
  | 2 => ⟨S1x2x512, .f32⟩
  | 3 => ⟨S16x256x1664, .f32⟩
  | 4 => ⟨S16x256x512, .f32⟩
  | 5 => ⟨S16x256x1024, .f32⟩
  | 6 => ⟨S16x256x32, .f32⟩
  | 7 => ⟨S16x256x2x16, .f32⟩
  | 8 => ⟨S2x16x512, .f32⟩
  | 9 => ⟨S2x16x256x512, .f32⟩
  | 10 => ⟨S2x512, .f32⟩
  | 11 => ⟨S2x1x1x512, .f32⟩
  | 12 => ⟨S2x16x256x512, .f32⟩
  | 13 => ⟨S2x16x256x512, .f32⟩
  | 14 => ⟨S2x16x256x512, .f32⟩
  | 15 => ⟨S_, .f32⟩
  | 16 => ⟨S2x16x256x512, .f32⟩
  | 17 => ⟨S2x16x256x512, .f32⟩
  | 18 => ⟨S2x16x256x512, .f32⟩
  | 19 => ⟨S2x16x256x512, .f32⟩
  | 20 => ⟨S2x16x256x512, .i1⟩
  | 21 => ⟨S2x16x256x512, .f32⟩
  | 22 => ⟨S2x16x256x512, .f32⟩
  | 23 => ⟨S2x16x256x512, .f32⟩
  | 24 => ⟨S2x16x256x512, .f32⟩
  | 25 => ⟨S2x16x256x512, .f32⟩
  | 26 => ⟨S2x16x256x512, .f32⟩
  | 27 => ⟨S2x16x256x512, .f32⟩
  | 28 => ⟨S2x16x256x512, .f32⟩
  | 29 => ⟨S2x16x256x512, .f32⟩
  | 30 => ⟨S_, .f32⟩
  | 31 => ⟨S2x16x256x512, .f32⟩
  | 32 => ⟨S2x16x256x512, .f32⟩
  | 33 => ⟨S16x256x4x128, .f32⟩
  | 34 => ⟨S16x4x256x128, .f32⟩
  | 35 => ⟨S16x256x4x256, .f32⟩
  | 36 => ⟨S16x4x256x256, .f32⟩
  | 37 => ⟨S1x16x256x512, .f32⟩
  | 38 => ⟨S16x256x512, .f32⟩
  | 39 => ⟨S16x256x4x128, .f32⟩
  | 40 => ⟨S16x4x256x128, .f32⟩
  | 41 => ⟨S1x16x256x512, .f32⟩
  | 42 => ⟨S16x256x512, .f32⟩
  | 43 => ⟨S16x256x4x128, .f32⟩
  | 44 => ⟨S16x4x256x128, .f32⟩
  | 45 => ⟨S_, .f32⟩
  | 46 => ⟨S16x4x128x256, .f32⟩
  | 47 => ⟨S16x4x64x128, .f32⟩
  | 48 => ⟨S16x4x64x256, .f32⟩
  | 49 => ⟨S16x4x64x128, .f32⟩
  | 50 => ⟨S_, .f32⟩
  | 51 => ⟨S_, .f32⟩
  | 52 => ⟨S16x4x64x128, .f32⟩
  | 53 => ⟨S16x4x1x128, .f32⟩
  | 54 => ⟨S16x4x128, .f32⟩
  | 55 => ⟨S16x4x128, .f32⟩
  | 56 => ⟨S16x4x128x1, .f32⟩
  | 57 => ⟨S16x4x128x256, .f32⟩
  | 58 => ⟨S16x4x128x256, .f32⟩
  | 59 => ⟨S16x4x64x128, .f32⟩
  | 60 => ⟨S16x4x64x128, .f32⟩
  | 61 => ⟨S16x4x64x128, .f32⟩
  | 62 => ⟨S16x4x64x128, .f32⟩
  | 63 => ⟨S16x4x128x256, .f32⟩
  | 64 => ⟨S16x4x128x256, .f32⟩
  | 65 => ⟨S16x4x64x128, .f32⟩
  | 66 => ⟨S16x4x64x256, .f32⟩
  | 67 => ⟨S16x4x64x128, .f32⟩
  | 68 => ⟨S_, .f32⟩
  | 69 => ⟨S_, .f32⟩
  | 70 => ⟨S16x4x64x128, .f32⟩
  | 71 => ⟨S16x4x1x128, .f32⟩
  | 72 => ⟨S16x4x128, .f32⟩
  | 73 => ⟨S16x4x128, .f32⟩
  | 74 => ⟨S16x4x128x1, .f32⟩
  | 75 => ⟨S16x4x128x256, .f32⟩
  | 76 => ⟨S16x4x128x256, .f32⟩
  | 77 => ⟨S16x4x64x128, .f32⟩
  | 78 => ⟨S16x4x64x128, .f32⟩
  | 79 => ⟨S16x4x64x128, .f32⟩
  | 80 => ⟨S16x4x64x128, .f32⟩
  | 81 => ⟨S16x4x128x256, .f32⟩
  | 82 => ⟨S16x4x128x256, .f32⟩
  | 83 => ⟨S16x4x64x128, .f32⟩
  | 84 => ⟨S16x4x64x256, .f32⟩
  | 85 => ⟨S16x4x64x128, .f32⟩
  | 86 => ⟨S_, .f32⟩
  | 87 => ⟨S_, .f32⟩
  | 88 => ⟨S16x4x64x128, .f32⟩
  | 89 => ⟨S16x4x1x128, .f32⟩
  | 90 => ⟨S16x4x128, .f32⟩
  | 91 => ⟨S16x4x128, .f32⟩
  | 92 => ⟨S16x4x128x1, .f32⟩
  | 93 => ⟨S16x4x128x256, .f32⟩
  | 94 => ⟨S16x4x128x256, .f32⟩
  | 95 => ⟨S16x4x64x128, .f32⟩
  | 96 => ⟨S16x4x64x128, .f32⟩
  | 97 => ⟨S16x4x64x128, .f32⟩
  | 98 => ⟨S16x4x64x128, .f32⟩
  | 99 => ⟨S16x4x128x256, .f32⟩
  | 100 => ⟨S16x4x128x256, .f32⟩
  | 101 => ⟨S16x4x64x128, .f32⟩
  | 102 => ⟨S16x4x64x256, .f32⟩
  | 103 => ⟨S16x4x64x128, .f32⟩
  | 104 => ⟨S_, .f32⟩
  | 105 => ⟨S_, .f32⟩
  | 106 => ⟨S16x4x64x128, .f32⟩
  | 107 => ⟨S16x4x1x128, .f32⟩
  | 108 => ⟨S16x4x128, .f32⟩
  | 109 => ⟨S16x4x128, .f32⟩
  | 110 => ⟨S16x4x128x1, .f32⟩
  | 111 => ⟨S16x4x128x256, .f32⟩
  | 112 => ⟨S16x4x128x256, .f32⟩
  | 113 => ⟨S16x4x64x128, .f32⟩
  | 114 => ⟨S16x4x64x128, .f32⟩
  | 115 => ⟨S16x4x64x128, .f32⟩
  | 116 => ⟨S16x4x64x128, .f32⟩
  | 117 => ⟨S16x4x128x256, .f32⟩
  | 118 => ⟨S16x4x128x256, .f32⟩
  | 119 => ⟨S16x4x256x128, .f32⟩
  | 120 => ⟨S16x4x256x256, .f32⟩
  | 121 => ⟨S16x4x256x128, .f32⟩
  | 122 => ⟨S_, .f32⟩
  | 123 => ⟨S16x4x128x256, .f32⟩
  | 124 => ⟨S16x4x64x128, .f32⟩
  | 125 => ⟨S16x4x64x256, .f32⟩
  | 126 => ⟨S16x4x64x128, .f32⟩
  | 127 => ⟨S_, .f32⟩
  | _ => ⟨S16x256x1664, .bf16⟩

abbrev hbmTy0_1 (i : Nat) : BufTy := match i % 128 with
  | 0 => ⟨S_, .f32⟩
  | 1 => ⟨S16x4x64x128, .f32⟩
  | 2 => ⟨S16x4x1x128, .f32⟩
  | 3 => ⟨S16x4x128, .f32⟩
  | 4 => ⟨S16x4x128, .f32⟩
  | 5 => ⟨S16x4x128x1, .f32⟩
  | 6 => ⟨S16x4x128x256, .f32⟩
  | 7 => ⟨S16x4x128x256, .f32⟩
  | 8 => ⟨S16x4x64x128, .f32⟩
  | 9 => ⟨S16x4x64x128, .f32⟩
  | 10 => ⟨S16x4x64x128, .f32⟩
  | 11 => ⟨S16x4x64x128, .f32⟩
  | 12 => ⟨S16x4x128x256, .f32⟩
  | 13 => ⟨S16x4x128x256, .f32⟩
  | 14 => ⟨S16x4x64x128, .f32⟩
  | 15 => ⟨S16x4x64x256, .f32⟩
  | 16 => ⟨S16x4x64x128, .f32⟩
  | 17 => ⟨S_, .f32⟩
  | 18 => ⟨S_, .f32⟩
  | 19 => ⟨S16x4x64x128, .f32⟩
  | 20 => ⟨S16x4x1x128, .f32⟩
  | 21 => ⟨S16x4x128, .f32⟩
  | 22 => ⟨S16x4x128, .f32⟩
  | 23 => ⟨S16x4x128x1, .f32⟩
  | 24 => ⟨S16x4x128x256, .f32⟩
  | 25 => ⟨S16x4x128x256, .f32⟩
  | 26 => ⟨S16x4x64x128, .f32⟩
  | 27 => ⟨S16x4x64x128, .f32⟩
  | 28 => ⟨S16x4x64x128, .f32⟩
  | 29 => ⟨S16x4x64x128, .f32⟩
  | 30 => ⟨S16x4x128x256, .f32⟩
  | 31 => ⟨S16x4x128x256, .f32⟩
  | 32 => ⟨S16x4x64x128, .f32⟩
  | 33 => ⟨S16x4x64x256, .f32⟩
  | 34 => ⟨S16x4x64x128, .f32⟩
  | 35 => ⟨S_, .f32⟩
  | 36 => ⟨S_, .f32⟩
  | 37 => ⟨S16x4x64x128, .f32⟩
  | 38 => ⟨S16x4x1x128, .f32⟩
  | 39 => ⟨S16x4x128, .f32⟩
  | 40 => ⟨S16x4x128, .f32⟩
  | 41 => ⟨S16x4x128x1, .f32⟩
  | 42 => ⟨S16x4x128x256, .f32⟩
  | 43 => ⟨S16x4x128x256, .f32⟩
  | 44 => ⟨S16x4x64x128, .f32⟩
  | 45 => ⟨S16x4x64x128, .f32⟩
  | 46 => ⟨S16x4x64x128, .f32⟩
  | 47 => ⟨S16x4x64x128, .f32⟩
  | 48 => ⟨S16x4x128x256, .f32⟩
  | 49 => ⟨S16x4x128x256, .f32⟩
  | 50 => ⟨S16x4x64x128, .f32⟩
  | 51 => ⟨S16x4x64x256, .f32⟩
  | 52 => ⟨S16x4x64x128, .f32⟩
  | 53 => ⟨S_, .f32⟩
  | 54 => ⟨S_, .f32⟩
  | 55 => ⟨S16x4x64x128, .f32⟩
  | 56 => ⟨S16x4x1x128, .f32⟩
  | 57 => ⟨S16x4x128, .f32⟩
  | 58 => ⟨S16x4x128, .f32⟩
  | 59 => ⟨S16x4x128x1, .f32⟩
  | 60 => ⟨S16x4x128x256, .f32⟩
  | 61 => ⟨S16x4x128x256, .f32⟩
  | 62 => ⟨S16x4x64x128, .f32⟩
  | 63 => ⟨S16x4x64x128, .f32⟩
  | 64 => ⟨S16x4x64x128, .f32⟩
  | 65 => ⟨S16x4x64x128, .f32⟩
  | 66 => ⟨S16x4x128x256, .f32⟩
  | 67 => ⟨S16x4x128x256, .f32⟩
  | 68 => ⟨S16x4x256x128, .f32⟩
  | 69 => ⟨S16x4x256x128, .f32⟩
  | _ => ⟨S16x256x1664, .bf16⟩

abbrev hbmTy (i : Nat) : BufTy := match i / 128 with
  | 0 => hbmTy0_0 i
  | 1 => hbmTy0_1 i
  | _ => ⟨S16x256x1664, .bf16⟩

abbrev bufTy : (tb : Table) → Fin (tcTables nBuf tb) → BufTy
  | .hbm, ⟨i, _⟩ => hbmTy i
  | _, _ => ⟨S16x256x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_call0_cst : Ref sig .tc := ⟨.hbm, 50, rfl⟩
abbrev main_call1_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_call0_cst : Ref sig .tc := ⟨.hbm, 68, rfl⟩
abbrev main_call2_call0_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call3_call0_cst : Ref sig .tc := ⟨.hbm, 86, rfl⟩
abbrev main_call3_call0_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call4_call0_cst : Ref sig .tc := ⟨.hbm, 104, rfl⟩
abbrev main_call4_call0_v0 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_1 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_call8_call0_cst : Ref sig .tc := ⟨.hbm, 127, rfl⟩
abbrev main_call8_call0_v0 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_call9_call0_cst : Ref sig .tc := ⟨.hbm, 145, rfl⟩
abbrev main_call9_call0_v0 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_call10_call0_cst : Ref sig .tc := ⟨.hbm, 163, rfl⟩
abbrev main_call10_call0_v0 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_call11_call0_cst : Ref sig .tc := ⟨.hbm, 181, rfl⟩
abbrev main_call11_call0_v0 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩

abbrev nD : Nat := 1
abbrev τ : Topo := Topo.v7x

variable {F : FTy → Type} [FloatOps F]
-- ==== Proof.MoeBlocks.lean ====
/-
  The blocks a grid point of the expert kernel reads, as entries of the program's arguments.
-/
module

public import proofs.«01_k».proof.Proof.Gen.MoeIdeal.Value
public import Idealize.ShloMosaic.Lib.Pipeline.ValueKit
public import Idealize.ShloMosaic.Lib.Pointwise
public import Idealize.ShloMosaic.Lib.Claim

@[expose] public section

set_option maxRecDepth 16384

noncomputable section

namespace Cert.MoeIdeal.Blocks

open Cert.MoeIdeal Cert.MoeIdeal.Gen Idealize.ShloMosaic Idealize.ShloMosaic.TcCoe Idealize.SL.Sem

/-- Where each window's block stands: the row tile is `t / 16`, the expert group `t % 16`, the sequence `t / 64`. -/
theorem idx : ∀ t : Fin grid0.N,
    win0_0.index t = ![t.val / 16, 0] ∧ win0_1.index t = ![t.val / 16, 0] ∧ win0_2.index t = ![t.val % 16, 0, 0]
    ∧ win0_3.index t = ![t.val % 16, 0, 0] ∧ win0_4.index t = ![t.val % 16, 0, 0] ∧ win0_5.index t = ![t.val % 16, 0, 0]
    ∧ win0_6.index t = ![0, 0] ∧ win0_7.index t = ![0, 0] ∧ win0_8.index t = ![0, 0]
    ∧ win0_9.index t = ![t.val / 16, 0] ∧ win0_10.index t = ![t.val / 64, 0, 0] ∧ win0_11.index t = ![0, 0]
    ∧ win0_12.index t = ![t.val / 16, 0] := by decide +kernel

variable (m : (ℓ : Loc nD τ sig) → Buf (Elt Ideal) ℓ)

/-- The row of the whole array that row `r` of point `t`'s tile is. -/
def row (t : Fin cfg0.N) (r : Fin 1024) : Fin 65536 :=
  ⟨1024 * (t.val / 16) + r.val, by have := lt_of_lt_of_eq t.isLt N_0; have := r.isLt; omega⟩

/-- The expert that expert `e` of point `t`'s group is. -/
def expert (t : Fin cfg0.N) (e : Fin 4) : Fin 64 := ⟨4 * (t.val % 16) + e.val, by have := e.isLt; omega⟩

/-- The sequence the row tile of point `t` lies in. -/
def seq (t : Fin cfg0.N) : Fin 16 := ⟨t.val / 64, by have := lt_of_lt_of_eq t.isLt N_0; omega⟩

/-! The region's entry: the host casts and reshapes, read at an index. -/

theorem e1 (c : Dev nD) (e : Fin 64) (k : Fin 1024) (f : Fin 256) :
    V m c main_v1 (ix3 e k f) = m ((c : Thread nD τ).loc main_arg2) (ix4 0 e k f) := by
  unfold V
  simp only [hostOps0, hostOps0_1, hostOps0_2, List.flatten_cons, List.flatten_nil, List.append_nil, List.cons_append, List.nil_append]
  entry_read
  pointwise

theorem e3 (c : Dev nD) (e : Fin 64) (k : Fin 1024) (f : Fin 256) :
    V m c main_v3 (ix3 e k f) = m ((c : Thread nD τ).loc main_arg3) (ix4 0 e k f) := by
  unfold V
  simp only [hostOps0, hostOps0_1, hostOps0_2, List.flatten_cons, List.flatten_nil, List.append_nil, List.cons_append, List.nil_append]
  entry_read
  pointwise

theorem e5 (c : Dev nD) (e : Fin 64) (k : Fin 256) (f : Fin 1024) :
    V m c main_v5 (ix3 e k f) = m ((c : Thread nD τ).loc main_arg4) (ix4 0 e k f) := by
  unfold V
  simp only [hostOps0, hostOps0_1, hostOps0_2, List.flatten_cons, List.flatten_nil, List.append_nil, List.cons_append, List.nil_append]
  entry_read
  pointwise

theorem e7 (c : Dev nD) (k : Fin 1024) (f : Fin 256) :
    V m c main_v7 (ix2 k f) = m ((c : Thread nD τ).loc main_arg5) (ix3 0 k f) := by
  unfold V
  simp only [hostOps0, hostOps0_1, hostOps0_2, List.flatten_cons, List.flatten_nil, List.append_nil, List.cons_append, List.nil_append]
  entry_read
  pointwise

theorem e9 (c : Dev nD) (k : Fin 1024) (f : Fin 256) :
    V m c main_v9 (ix2 k f) = m ((c : Thread nD τ).loc main_arg6) (ix3 0 k f) := by
  unfold V
  simp only [hostOps0, hostOps0_1, hostOps0_2, List.flatten_cons, List.flatten_nil, List.append_nil, List.cons_append, List.nil_append]
  entry_read
  pointwise

theorem e11 (c : Dev nD) (k : Fin 256) (f : Fin 1024) :
    V m c main_v11 (ix2 k f) = m ((c : Thread nD τ).loc main_arg7) (ix3 0 k f) := by
  unfold V
  simp only [hostOps0, hostOps0_1, hostOps0_2, List.flatten_cons, List.flatten_nil, List.append_nil, List.cons_append, List.nil_append]
  entry_read
  pointwise

theorem e12 (c : Dev nD) (k : Fin 1024) :
    V m c main_v12 (ix2 0 k) = m ((c : Thread nD τ).loc main_arg10) (ix1 k) := by
  unfold V
  simp only [hostOps0, hostOps0_1, hostOps0_2, List.flatten_cons, List.flatten_nil, List.append_nil, List.cons_append, List.nil_append]
  entry_read
  pointwise

/-- The pick table the host builds: one where the lane is `4 g + e` and the column `e` is below four. -/
def pick : FVec Ideal S16x128x128 .bf16 :=
  truncf .bf16 (select
    (andi (cmpi .eq (iotaInDim S16x128x128 32 1)
        (addi (muli (iotaInDim S16x128x128 32 0) (broadcastInDim S16x128x128 ![] bcast_S_S16x128x128 (constantI S_ 32 4#32)))
          (iotaInDim S16x128x128 32 2)))
      (cmpi .slt (iotaInDim S16x128x128 32 2) (broadcastInDim S16x128x128 ![] bcast_S_S16x128x128 (constantI S_ 32 4#32))))
    (broadcastInDim S16x128x128 ![] bcast_S_S16x128x128 (constant (F := Ideal) S_ .f32 0x3F800000#32))
    (broadcastInDim S16x128x128 ![] bcast_S_S16x128x128 (constant (F := Ideal) S_ .f32 0x00000000#32))) bitsLt_bf16_f32

/-- The region's entry holds that table. -/
theorem e25 (c : Dev nD) : V m c main_v25 = pick := by
  unfold V
  simp only [hostOps0, hostOps0_1, hostOps0_2, List.flatten_cons, List.flatten_nil, List.append_nil, List.cons_append, List.nil_append]
  entry_read
  rfl

/-- The table at an index. -/
theorem pick_apply (g : Fin 16) (k e : Fin 128) :
    pick (ix3 g k e) = if k.val = 4 * g.val + e.val ∧ e.val < 4 then (1 : EReal) else 0 := by
  pointwise [pick]
  have hg := g.isLt
  have hk := k.isLt
  have he := e.isLt
  have h1 : IntOp.cmpi .eq (BitVec.ofNat 32 k.val) (IntOp.addi (IntOp.muli (BitVec.ofNat 32 g.val) 4#32) (BitVec.ofNat 32 e.val))
      = BitVec.ofBool (decide (k.val = 4 * g.val + e.val)) := by
    unfold IntOp.cmpi IntOp.addi IntOp.muli
    congr 1
    rw [Bool.eq_iff_iff, beq_iff_eq, decide_eq_true_iff, ← BitVec.toNat_inj]
    simp only [BitVec.toNat_ofNat, BitVec.toNat_add, BitVec.toNat_mul]
    omega
  have h2 : IntOp.cmpi .slt (BitVec.ofNat 32 e.val) 4#32 = BitVec.ofBool (decide (e.val < 4)) := by
    have : ∀ e : Fin 128, IntOp.cmpi .slt (BitVec.ofNat 32 e.val) 4#32 = BitVec.ofBool (decide (e.val < 4)) := by decide +kernel
    exact this e
  rw [h1, h2]
  by_cases a : k.val = 4 * g.val + e.val <;> by_cases b : e.val < 4 <;> simp [a, b, Scalar.select, IntOp.andi]

/-! The blocks. -/

theorem b0 (c : Dev nD) (t : Fin cfg0.N) (r k : Fin 1024) :
    iblk m c 0 t (ix2 r k) = m ((c : Thread nD τ).loc main_arg0) (ix2 (row t r) k) := by
  unfold row
  blk_ext! [iblk, V, idx t]

theorem b1 (c : Dev nD) (t : Fin cfg0.N) (r : Fin 1024) (k : Fin 128) :
    iblk m c 1 t (ix2 r k) = m ((c : Thread nD τ).loc main_arg1) (ix2 (row t r) k) := by
  unfold row
  blk_ext! [iblk, V, idx t]

theorem b3 (c : Dev nD) (t : Fin cfg0.N) (e : Fin 4) (k : Fin 1024) (f : Fin 256) :
    iblk m c 3 t (ix3 e k f) = m ((c : Thread nD τ).loc main_arg2) (ix4 0 (expert t e) k f) := by
  refine Eq.trans ?_ (e1 m c _ _ _)
  unfold expert
  show V m c main_v1 _ = V m c main_v1 _
  blk_ext [idx t]

theorem b4 (c : Dev nD) (t : Fin cfg0.N) (e : Fin 4) (k : Fin 1024) (f : Fin 256) :
    iblk m c 4 t (ix3 e k f) = m ((c : Thread nD τ).loc main_arg3) (ix4 0 (expert t e) k f) := by
  refine Eq.trans ?_ (e3 m c _ _ _)
  unfold expert
  show V m c main_v3 _ = V m c main_v3 _
  blk_ext [idx t]

theorem b5 (c : Dev nD) (t : Fin cfg0.N) (e : Fin 4) (k : Fin 256) (f : Fin 1024) :
    iblk m c 5 t (ix3 e k f) = m ((c : Thread nD τ).loc main_arg4) (ix4 0 (expert t e) k f) := by
  refine Eq.trans ?_ (e5 m c _ _ _)
  unfold expert
  show V m c main_v5 _ = V m c main_v5 _
  blk_ext [idx t]

theorem b6 (c : Dev nD) (t : Fin cfg0.N) (k : Fin 1024) (f : Fin 256) :
    iblk m c 6 t (ix2 k f) = m ((c : Thread nD τ).loc main_arg5) (ix3 0 k f) := by
  refine Eq.trans ?_ (e7 m c _ _)
  show V m c main_v7 _ = V m c main_v7 _
  blk_ext [idx t]

theorem b7 (c : Dev nD) (t : Fin cfg0.N) (k : Fin 1024) (f : Fin 256) :
    iblk m c 7 t (ix2 k f) = m ((c : Thread nD τ).loc main_arg6) (ix3 0 k f) := by
  refine Eq.trans ?_ (e9 m c _ _)
  show V m c main_v9 _ = V m c main_v9 _
  blk_ext [idx t]

theorem b8 (c : Dev nD) (t : Fin cfg0.N) (k : Fin 256) (f : Fin 1024) :
    iblk m c 8 t (ix2 k f) = m ((c : Thread nD τ).loc main_arg7) (ix3 0 k f) := by
  refine Eq.trans ?_ (e11 m c _ _)
  show V m c main_v11 _ = V m c main_v11 _
  blk_ext [idx t]

theorem b9 (c : Dev nD) (t : Fin cfg0.N) (r k : Fin 1024) :
    iblk m c 9 t (ix2 r k) = m ((c : Thread nD τ).loc main_arg8) (ix2 (row t r) k) := by
  unfold row
  blk_ext! [iblk, V, idx t]

theorem b10 (c : Dev nD) (t : Fin cfg0.N) (k : Fin 1024) :
    iblk m c 10 t (ix3 0 0 k) = m ((c : Thread nD τ).loc main_arg9) (ix3 (seq t) 0 k) := by
  unfold seq
  blk_ext! [iblk, V, idx t]

theorem b11 (c : Dev nD) (t : Fin cfg0.N) (k : Fin 1024) :
    iblk m c 11 t (ix2 0 k) = m ((c : Thread nD τ).loc main_arg10) (ix1 k) := by
  refine Eq.trans ?_ (e12 m c _)
  show V m c main_v12 _ = V m c main_v12 _
  blk_ext [idx t]

/-- The pick table of point `t`'s group: one at column `e < 4` in the lane of the group's expert `e`, zero elsewhere. -/
theorem b2 (c : Dev nD) (t : Fin cfg0.N) (k e : Fin 128) :
    (iblk m c 2 t : Vec Ideal S1x128x128 .bf16) (ix3 0 k e)
      = if k.val = 4 * (t.val % 16) + e.val ∧ e.val < 4 then (1 : EReal) else 0 := by
  rw [← pick_apply ⟨t.val % 16, Nat.mod_lt _ (by decide)⟩ k e, ← e25 m c]
  show V m c main_v25 _ = V m c main_v25 _
  blk_ext [idx t]

end Cert.MoeIdeal.Blocks

end
-- ==== Proof.MoePay.lean ====
/-
  What one grid point of the expert kernel computes, read at an index over the extended reals: the gate columns of the
  group, one expert's gated activation, the group's contribution to the accumulator, the shared expert, and the last
  point's residual and root-mean-square normalisation.
-/
module

public import proofs.«01_k».proof.Proof.Gen.MoeIdeal.Skeleton
public import Idealize.ShloMosaic.Lib.Pointwise

@[expose] public section

set_option maxRecDepth 16384

noncomputable section

namespace Cert.MoeIdeal.Pay

open Cert.MoeIdeal Cert.MoeIdeal.Gen Idealize.ShloMosaic Idealize.ShloMosaic.TcCoe Idealize.SL.Sem

/-- `x · sigmoid x`. -/
def silu (x : EReal) : EReal := x * Ideal.logistic x

/-- A sum over four runs of 256 positions. -/
theorem sum_four_runs (g : Fin 1024 → EReal) :
    ∑ x : Fin 1024, g x = ∑ e : Fin 4, ∑ f : Fin 256, g ⟨256 * e.val + f.val, by omega⟩ := by
  rw [← Equiv.sum_comp (finProdFinEquiv (m := 4) (n := 256)) g, Fintype.sum_prod_type]
  refine Finset.sum_congr rfl fun e _ => Finset.sum_congr rfl fun f _ => congrArg g (Fin.ext ?_)
  show f.val + 256 * e.val = 256 * e.val + f.val
  omega

/-- The gate columns of a group: the kept part of the weights and the rest, each times the group's pick table. -/
theorem pay4_apply (v4 : Vec Ideal S1024x128 .f32) (v9 v12 : Vec Ideal S1x128x128 .bf16) (r : Fin 1024) (e : Fin 128) :
    k0_pay4 v4 v9 v12 (ix2 r e)
      = (∑ k : Fin 128, v4 (ix2 r k) * v9 (ix3 0 k e))
        + ∑ k : Fin 128, (v4 (ix2 r k) - v4 (ix2 r k)) * v12 (ix3 0 k e) := by
  pointwise [k0_pay4]

/-- One expert's gated hidden value: `silu (x · w1) · (x · w3)` at a row and a hidden unit. -/
def hidden (x : Fin 1024 → EReal) (w1 w3 : Fin 1024 → EReal) : EReal :=
  silu (∑ k, x k * w1 k) * ∑ k, x k * w3 k

/-- The four experts of a group: the hidden value times the expert's gate column. -/
theorem act0_apply (x : Vec Ideal S1024x1024 .bf16) (v4 : Vec Ideal S1024x128 .f32) (v9 v12 : Vec Ideal S1x128x128 .bf16)
    (w1 w3 : Vec Ideal S1x1024x256 .bf16) (r : Fin 1024) (f : Fin 256) :
    k0_pay5 x v4 v9 v12 w1 w3 (ix2 r f)
      = hidden (fun k => x (ix2 r k)) (fun k => w1 (ix3 0 k f)) (fun k => w3 (ix3 0 k f)) * k0_pay4 v4 v9 v12 (ix2 r 0) := by
  unfold hidden silu
  pointwise [k0_pay5]

theorem act1_apply (x : Vec Ideal S1024x1024 .bf16) (cg : FVec Ideal S1024x128 .f32)
    (w1 w3 : Vec Ideal S1x1024x256 .bf16) (r : Fin 1024) (f : Fin 256) :
    k0_pay7 x cg (k0_pay6 w1) (constant S1024x256 .f32 0x00000000#32) w3 (ix2 r f)
      = hidden (fun k => x (ix2 r k)) (fun k => w1 (ix3 0 k f)) (fun k => w3 (ix3 0 k f)) * cg (ix2 r 1) := by
  unfold hidden silu
  pointwise [k0_pay7, k0_pay6]

theorem act2_apply (x : Vec Ideal S1024x1024 .bf16) (cg : FVec Ideal S1024x128 .f32)
    (w1 w3 : Vec Ideal S1x1024x256 .bf16) (r : Fin 1024) (f : Fin 256) :
    k0_pay8 x cg w1 w3 (ix2 r f)
      = hidden (fun k => x (ix2 r k)) (fun k => w1 (ix3 0 k f)) (fun k => w3 (ix3 0 k f)) * cg (ix2 r 2) := by
  unfold hidden silu
  pointwise [k0_pay8]

theorem act3_apply (x : Vec Ideal S1024x1024 .bf16) (cg : FVec Ideal S1024x128 .f32)
    (w1 w3 : Vec Ideal S1x1024x256 .bf16) (r : Fin 1024) (f : Fin 256) :
    k0_pay9 x cg w1 w3 (ix2 r f)
      = hidden (fun k => x (ix2 r k)) (fun k => w1 (ix3 0 k f)) (fun k => w3 (ix3 0 k f)) * cg (ix2 r 3) := by
  unfold hidden silu
  pointwise [k0_pay9]

/-- A group's contribution: the four experts' gated values against the group's second weights, one expert at a time. -/
theorem pay1_apply (a0 a1 a2 a3 : FVec Ideal S1024x256 .bf16) (w : Vec Ideal S4x256x1024 .bf16)
    (acc : Vec Ideal S1024x1024 .f32) (r d : Fin 1024) :
    k0_pay1 a0 a1 a2 a3 w acc (ix2 r d) = acc (ix2 r d)
      + ((∑ f : Fin 256, a0 (ix2 r f) * w (ix3 0 f d)) + (∑ f : Fin 256, a1 (ix2 r f) * w (ix3 1 f d))
      + (∑ f : Fin 256, a2 (ix2 r f) * w (ix3 2 f d)) + ∑ f : Fin 256, a3 (ix2 r f) * w (ix3 3 f d)) := by
  pointwise [k0_pay1]
  rw [sum_four_runs, Fin.sum_univ_four]
  refine congrArg (acc (ix2 r d) + ·) ?_
  refine congrArg₂ (· + ·) (congrArg₂ (· + ·) (congrArg₂ (· + ·) ?_ ?_) ?_) ?_ <;>
    refine Finset.sum_congr rfl fun f _ => ?_ <;> have hf := f.isLt
  · refine congrArg₂ (· * ·) ((dif_pos (show 256 * 0 + f.val < 256 by omega)).trans ?_) (congrArg w ?_)
    · refine congrArg a0 (congrArg (ix2 r) (Fin.ext ?_))
      show 256 * 0 + f.val = f.val
      omega
    · refine congrArg₂ (ix3 · · d) (Fin.ext ?_) (Fin.ext ?_)
      · show (256 * 0 + f.val) / 256 = 0
        omega
      · show (256 * 0 + f.val) % 256 = f.val
        omega
  · refine congrArg₂ (· * ·) ((dif_neg (show ¬(256 * 1 + f.val < 256) by omega)).trans ((dif_pos (show 256 * 1 + f.val - 256 < 256 by omega)).trans ?_)) (congrArg w ?_)
    · refine congrArg a1 (congrArg (ix2 r) (Fin.ext ?_))
      show 256 * 1 + f.val - 256 = f.val
      omega
    · refine congrArg₂ (ix3 · · d) (Fin.ext ?_) (Fin.ext ?_)
      · show (256 * 1 + f.val) / 256 = 1
        omega
      · show (256 * 1 + f.val) % 256 = f.val
        omega
  · refine congrArg₂ (· * ·) ((dif_neg (show ¬(256 * 2 + f.val < 256) by omega)).trans ((dif_neg (show ¬(256 * 2 + f.val - 256 < 256) by omega)).trans ((dif_pos (show 256 * 2 + f.val - 256 - 256 < 256 by omega)).trans ?_))) (congrArg w ?_)
    · refine congrArg a2 (congrArg (ix2 r) (Fin.ext ?_))
      show 256 * 2 + f.val - 256 - 256 = f.val
      omega
    · refine congrArg₂ (ix3 · · d) (Fin.ext ?_) (Fin.ext ?_)
      · show (256 * 2 + f.val) / 256 = 2
        omega
      · show (256 * 2 + f.val) % 256 = f.val
        omega
  · refine congrArg₂ (· * ·) ((dif_neg (show ¬(256 * 3 + f.val < 256) by omega)).trans ((dif_neg (show ¬(256 * 3 + f.val - 256 < 256) by omega)).trans ((dif_neg (show ¬(256 * 3 + f.val - 256 - 256 < 256) by omega)).trans (?_)))) (congrArg w ?_)
    · refine congrArg a3 (congrArg (ix2 r) (Fin.ext ?_))
      show 256 * 3 + f.val - 256 - 256 - 256 = f.val
      omega
    · refine congrArg₂ (ix3 · · d) (Fin.ext ?_) (Fin.ext ?_)
      · show (256 * 3 + f.val) / 256 = 3
        omega
      · show (256 * 3 + f.val) % 256 = f.val
        omega

/-- What a group adds at a row and a column, in the blocks it reads: over its four experts and their hidden units, the
    hidden value times the expert's gate times its second weights. -/
def group (x : Vec Ideal S1024x1024 .bf16) (cb : Vec Ideal S1024x128 .f32) (pk : Vec Ideal S1x128x128 .bf16)
    (w1 w3 : Vec Ideal S4x1024x256 .bf16) (w2 : Vec Ideal S4x256x1024 .bf16) (r d : Fin 1024) : EReal :=
  ∑ e : Fin 4, ∑ f : Fin 256,
    hidden (fun k => x (ix2 r k)) (fun k => w1 (ix3 e k f)) (fun k => w3 (ix3 e k f))
      * k0_pay4 cb pk pk (ix2 r ⟨e.val, by omega⟩) * w2 (ix3 e f d)

/-- One point's update of the accumulator. -/
def upd (x : Vec Ideal S1024x1024 .bf16) (cb : Vec Ideal S1024x128 .f32) (pk : Vec Ideal S1x128x128 .bf16)
    (w1 w3 : Vec Ideal S4x1024x256 .bf16) (w2 : Vec Ideal S4x256x1024 .bf16) (acc : Vec Ideal S1024x1024 .f32) :
    Vec Ideal S1024x1024 .f32 :=
  k0_pay1
    (k0_pay5 x cb pk pk
      (View.ld w1 (Rect.unit ![0, 0, 0] ![1, 1024, 256] inb_S4x1024x256_S1x1024x256_0_0_0))
      (View.ld w3 (Rect.unit ![0, 0, 0] ![1, 1024, 256] inb_S4x1024x256_S1x1024x256_0_0_0)))
    (k0_pay7 x (k0_pay4 cb pk pk)
      (k0_pay6 (View.ld w1 (Rect.unit ![1, 0, 0] ![1, 1024, 256] inb_S4x1024x256_S1x1024x256_1_0_0)))
      (constant S1024x256 FTy.f32 0#32)
      (View.ld w3 (Rect.unit ![1, 0, 0] ![1, 1024, 256] inb_S4x1024x256_S1x1024x256_1_0_0)))
    (k0_pay8 x (k0_pay4 cb pk pk)
      (View.ld w1 (Rect.unit ![2, 0, 0] ![1, 1024, 256] inb_S4x1024x256_S1x1024x256_2_0_0))
      (View.ld w3 (Rect.unit ![2, 0, 0] ![1, 1024, 256] inb_S4x1024x256_S1x1024x256_2_0_0)))
    (k0_pay9 x (k0_pay4 cb pk pk)
      (View.ld w1 (Rect.unit ![3, 0, 0] ![1, 1024, 256] inb_S4x1024x256_S1x1024x256_3_0_0))
      (View.ld w3 (Rect.unit ![3, 0, 0] ![1, 1024, 256] inb_S4x1024x256_S1x1024x256_3_0_0)))
    w2 acc

theorem ld0 (w : Vec Ideal S4x1024x256 .bf16) (k : Fin 1024) (f : Fin 256) :
    View.ld w (Rect.unit ![0, 0, 0] ![1, 1024, 256] inb_S4x1024x256_S1x1024x256_0_0_0) (ix3 0 k f) = w (ix3 0 k f) := by
  pointwise

theorem ld1 (w : Vec Ideal S4x1024x256 .bf16) (k : Fin 1024) (f : Fin 256) :
    View.ld w (Rect.unit ![1, 0, 0] ![1, 1024, 256] inb_S4x1024x256_S1x1024x256_1_0_0) (ix3 0 k f) = w (ix3 1 k f) := by
  pointwise

theorem ld2 (w : Vec Ideal S4x1024x256 .bf16) (k : Fin 1024) (f : Fin 256) :
    View.ld w (Rect.unit ![2, 0, 0] ![1, 1024, 256] inb_S4x1024x256_S1x1024x256_2_0_0) (ix3 0 k f) = w (ix3 2 k f) := by
  pointwise

theorem ld3 (w : Vec Ideal S4x1024x256 .bf16) (k : Fin 1024) (f : Fin 256) :
    View.ld w (Rect.unit ![3, 0, 0] ![1, 1024, 256] inb_S4x1024x256_S1x1024x256_3_0_0) (ix3 0 k f) = w (ix3 3 k f) := by
  pointwise

theorem upd_apply (x : Vec Ideal S1024x1024 .bf16) (cb : Vec Ideal S1024x128 .f32) (pk : Vec Ideal S1x128x128 .bf16)
    (w1 w3 : Vec Ideal S4x1024x256 .bf16) (w2 : Vec Ideal S4x256x1024 .bf16) (acc : Vec Ideal S1024x1024 .f32)
    (r d : Fin 1024) :
    upd x cb pk w1 w3 w2 acc (ix2 r d) = acc (ix2 r d) + group x cb pk w1 w3 w2 r d := by
  unfold upd group
  rw [pay1_apply, Fin.sum_univ_four]
  simp only [act0_apply, act1_apply, act2_apply, act3_apply]
  refine congrArg (acc (ix2 r d) + ·) ?_
  refine congrArg₂ (· + ·) (congrArg₂ (· + ·) (congrArg₂ (· + ·) ?_ ?_) ?_) ?_ <;>
    refine Finset.sum_congr rfl fun f _ => ?_
  · exact congrArg (fun z => z * k0_pay4 cb pk pk (ix2 r 0) * w2 (ix3 0 f d))
      (congrArg₂ (hidden _) (funext fun k => ld0 w1 k f) (funext fun k => ld0 w3 k f))
  · exact congrArg (fun z => z * k0_pay4 cb pk pk (ix2 r 1) * w2 (ix3 1 f d))
      (congrArg₂ (hidden _) (funext fun k => ld1 w1 k f) (funext fun k => ld1 w3 k f))
  · exact congrArg (fun z => z * k0_pay4 cb pk pk (ix2 r 2) * w2 (ix3 2 f d))
      (congrArg₂ (hidden _) (funext fun k => ld2 w1 k f) (funext fun k => ld2 w3 k f))
  · exact congrArg (fun z => z * k0_pay4 cb pk pk (ix2 r 3) * w2 (ix3 3 f d))
      (congrArg₂ (hidden _) (funext fun k => ld3 w1 k f) (funext fun k => ld3 w3 k f))

/-- The last point: the residual row `x1 + g2 · acc`, over its root mean square, times the closing weights. -/
def closing (x1 g2 acc : Fin 1024 → EReal) (w : EReal) (d : Fin 1024) : EReal :=
  (x1 d + g2 d * acc d)
    * Ideal.rsqrt (Ideal.div (∑ k, (x1 k + g2 k * acc k) * (x1 k + g2 k * acc k)) (Ideal.ofBits FTy.f32 0x44800000#32)
        + Ideal.ofBits FTy.f32 0x358637BD#32) * w

theorem pay2_apply (x1 : Vec Ideal S1024x1024 .f32) (g2 : Vec Ideal S1x1x1024 .f32)
    (acc : Vec Ideal S1024x1024 .f32) (w : Vec Ideal S1x1024 .f32) (r d : Fin 1024) :
    k0_pay2 x1 g2 acc w (ix2 r d)
      = closing (fun k => x1 (ix2 r k)) (fun k => g2 (ix3 0 0 k)) (fun k => acc (ix2 r k)) (w (ix2 0 d)) d := by
  unfold closing
  pointwise [k0_pay2]

/-- The first point: the shared expert. -/
theorem pay3_apply (x : Vec Ideal S1024x1024 .bf16) (w1 w3 : Vec Ideal S1024x256 .bf16)
    (w2 : Vec Ideal S256x1024 .bf16) (r d : Fin 1024) :
    k0_pay3 x w1 w3 w2 (ix2 r d)
      = ∑ f : Fin 256, hidden (fun k => x (ix2 r k)) (fun k => w1 (ix2 k f)) (fun k => w3 (ix2 k f)) * w2 (ix2 f d) := by
  unfold hidden silu
  pointwise [k0_pay3]

end Cert.MoeIdeal.Pay

end
-- ==== Proof.MoeFold.lean ====
/-
  What the expert kernel's accumulator and output block hold after each grid point, in the blocks the point reads.
-/
module

public import proofs.«01_k».proof.Proof.Gen.MoeIdeal.Value
public import proofs.«01_k».proof.Proof.MoePay
public import Idealize.ShloMosaic.Lib.Pipeline.ValueKit
public import Idealize.ShloMosaic.Lib.Pipeline.ReadBack

@[expose] public section

set_option maxRecDepth 16384

noncomputable section

namespace Cert.MoeIdeal.Fold

open Cert.MoeIdeal Cert.MoeIdeal.Gen Cert.MoeIdeal.Pay Idealize.ShloMosaic Idealize.ShloMosaic.TcCoe Idealize.SL.Sem

variable (m : (ℓ : Loc nD τ sig) → Buf (Elt Ideal) ℓ)

/-- A group's first point: the shared expert, then the group's update. -/
theorem acc_A (c : Dev nD) (t : Fin cfg0.N) (h0 : t.val % 16 = 0) (h1 : ¬t.val % 16 = 15) :
    (outsAt0 m c t.val t.isLt).2 = upd (iblk m c 0 t) (iblk m c 1 t) (iblk m c 2 t) (iblk m c 3 t) (iblk m c 4 t) (iblk m c 5 t)
      (k0_pay3 (iblk m c 0 t) (iblk m c 6 t) (iblk m c 7 t) (iblk m c 8 t)) := by
  rw [outsAt0_A m c t h0 h1]; frame_out
  rfl

/-- A later point: the group's update of what the point before left. -/
theorem acc_B (c : Dev nD) (t : Fin cfg0.N) (h0 : ¬t.val % 16 = 0) (h1 : ¬t.val % 16 = 15) :
    (outsAt0 m c t.val t.isLt).2 = upd (iblk m c 0 t) (iblk m c 1 t) (iblk m c 2 t) (iblk m c 3 t) (iblk m c 4 t) (iblk m c 5 t)
      (outsAt0 m c (t.val - 1) (Nat.lt_of_le_of_lt (Nat.sub_le _ _) t.isLt)).2 := by
  rw [outsAt0_B m c t h0 h1]; frame_out
  simp only [read_unread_whole]
  rfl

/-- The last point: the update as before … -/
theorem acc_C (c : Dev nD) (t : Fin cfg0.N) (h0 : ¬t.val % 16 = 0) (h1 : t.val % 16 = 15) :
    (outsAt0 m c t.val t.isLt).2 = upd (iblk m c 0 t) (iblk m c 1 t) (iblk m c 2 t) (iblk m c 3 t) (iblk m c 4 t) (iblk m c 5 t)
      (outsAt0 m c (t.val - 1) (Nat.lt_of_le_of_lt (Nat.sub_le _ _) t.isLt)).2 := by
  rw [outsAt0_C m c t h0 h1]; frame_out
  simp only [read_unread_whole]
  rfl

/-- … and the output block is the residual and the normalisation of what it leaves. -/
theorem out_C (c : Dev nD) (t : Fin cfg0.N) (h0 : ¬t.val % 16 = 0) (h1 : t.val % 16 = 15) :
    (outsAt0 m c t.val t.isLt).1 = k0_pay2 (iblk m c 9 t) (iblk m c 10 t) (outsAt0 m c t.val t.isLt).2 (iblk m c 11 t) := by
  rw [acc_C m c t h0 h1, outsAt0_C m c t h0 h1]; frame_out
  simp only [read_unread_whole]
  rfl

/-- What a point adds to the accumulator: its group's contribution, and at a tile's first point the shared expert's. -/
def term (c : Dev nD) (t : Fin cfg0.N) (r d : Fin 1024) : EReal :=
  (if t.val % 16 = 0 then
    ∑ f : Fin 256, hidden (fun k => iblk m c 0 t (ix2 r k)) (fun k => iblk m c 6 t (ix2 k f)) (fun k => iblk m c 7 t (ix2 k f))
      * iblk m c 8 t (ix2 f d)
   else 0)
  + group (iblk m c 0 t) (iblk m c 1 t) (iblk m c 2 t) (iblk m c 3 t) (iblk m c 4 t) (iblk m c 5 t) r d

/-- At a tile's last point the accumulator is the sum of what the tile's sixteen points add. -/
theorem acc_sum (c : Dev nD) (t : Fin cfg0.N) (hr : t.val % 16 = 15) (r d : Fin 1024) :
    (outsAt0 m c t.val t.isLt).2 (ix2 r d)
      = ∑ s : Fin 16, term m c ⟨16 * (t.val / 16) + s.val, Pipeline.run_point_lt_of_flush t hr s⟩ r d := by
  have key := Pipeline.eq_sum_fin_of_reset_step_apply_of_flush (N := cfg0.N)
    (fun n hn (i : Fin 1024 × Fin 1024) => ((outsAt0 m c n hn).2 (ix2 i.1 i.2) : EReal)) 16 (fun _ => 0)
    (fun t i => term m c t i.1 i.2) (fun t h i => ?_) (fun t h i => ?_) t hr (r, d)
  · exact key.trans (zero_add _)
  · have h1 : ¬t.val % 16 = 15 := by omega
    show (outsAt0 m c t.val t.isLt).2 (ix2 i.1 i.2) = 0 + term m c t i.1 i.2
    rw [acc_A m c t h h1, upd_apply, pay3_apply, zero_add]
    unfold term
    rw [if_pos h]
  · show (outsAt0 m c t.val t.isLt).2 (ix2 i.1 i.2)
      = (outsAt0 m c (t.val - 1) (Nat.lt_of_le_of_lt (Nat.sub_le _ _) t.isLt)).2 (ix2 i.1 i.2) + term m c t i.1 i.2
    unfold term
    rw [if_neg h, zero_add]
    by_cases h1 : t.val % 16 = 15
    · rw [acc_C m c t h h1, upd_apply]
    · rw [acc_B m c t h h1, upd_apply]

end Cert.MoeIdeal.Fold

end
-- ==== Proof.MoeRefValue.lean ====
/-
  The reference of the expert call, read at an index over the extended reals.
-/
module

public import proofs.«01_k».proof.Proof.Gen.MoeRefIdeal.Read
public import proofs.«01_k».proof.Proof.MoePay
public import Idealize.ShloMosaic.Lib.Pointwise

@[expose] public section

set_option maxRecDepth 16384

noncomputable section

namespace Cert.MoeRefIdeal.At

open Cert.MoeRefIdeal Cert.MoeRefIdeal.Gen Cert.MoeRefIdeal.Read Idealize.ShloMosaic Idealize.ShloMosaic.TcCoe Idealize.SL.Sem
open Cert.MoeIdeal.Pay (hidden silu closing)

variable (x0 : (⟨S65536x1024, .bf16⟩ : BufTy).Contents (Elt Ideal)) (x1 : (⟨S65536x128, .f32⟩ : BufTy).Contents (Elt Ideal)) (x2 : (⟨S1x64x1024x256, .f32⟩ : BufTy).Contents (Elt Ideal)) (x3 : (⟨S1x64x1024x256, .f32⟩ : BufTy).Contents (Elt Ideal)) (x4 : (⟨S1x64x256x1024, .f32⟩ : BufTy).Contents (Elt Ideal)) (x5 : (⟨S1x1024x256, .f32⟩ : BufTy).Contents (Elt Ideal)) (x6 : (⟨S1x1024x256, .f32⟩ : BufTy).Contents (Elt Ideal)) (x7 : (⟨S1x256x1024, .f32⟩ : BufTy).Contents (Elt Ideal)) (x8 : (⟨S65536x1024, .f32⟩ : BufTy).Contents (Elt Ideal)) (x9 : (⟨S16x1x1024, .f32⟩ : BufTy).Contents (Elt Ideal)) (x10 : (⟨S1024, .f32⟩ : BufTy).Contents (Elt Ideal))

/-- The hidden values times the routing weight. -/
theorem v10_apply (t : Fin 65536) (e : Fin 64) (f : Fin 256) :
    val_main_v10 (F := Ideal) x0 x1 x2 x3 (ix3 t e f)
      = hidden (fun k => x0 (ix2 t k)) (fun k => x2 (ix4 0 e k f)) (fun k => x3 (ix4 0 e k f)) * x1 (ix2 t ⟨e.val, by omega⟩) := by
  unfold Cert.MoeIdeal.Pay.hidden silu
  pointwise [val_main_v10, val_main_v9, val_main_v8, val_main_v7, val_main_v6, val_main_v5, val_main_v4, val_main_v3, val_main_v2,
    val_main_v1, val_main_v0, val_main_call0_v0, val_main_call0_v1, val_main_call0_v2, val_main_call0_v3, val_main_call0_v4,
    val_main_call0_v5, val_main_call0_cst, val_main_call0_cst_0]
  rfl

/-- The routed experts: a sum over all experts and hidden units. -/
theorem v12_apply (t : Fin 65536) (d : Fin 1024) :
    val_main_v12 (F := Ideal) x0 x1 x2 x3 x4 (ix2 t d)
      = ∑ e : Fin 64, ∑ f : Fin 256, val_main_v10 (F := Ideal) x0 x1 x2 x3 (ix3 t e f) * x4 (ix4 0 e f d) := by
  unfold val_main_v12
  generalize val_main_v10 (F := Ideal) x0 x1 x2 x3 = A
  pointwise [val_main_v11]

/-- The shared expert. -/
theorem v20_apply (t : Fin 65536) (d : Fin 1024) :
    val_main_v20 (F := Ideal) x0 x5 x6 x7 (ix2 t d)
      = ∑ f : Fin 256, hidden (fun k => x0 (ix2 t k)) (fun k => x5 (ix3 0 k f)) (fun k => x6 (ix3 0 k f)) * x7 (ix3 0 f d) := by
  unfold Cert.MoeIdeal.Pay.hidden silu
  pointwise [val_main_v20, val_main_v19, val_main_v18, val_main_v17, val_main_v16, val_main_v15, val_main_v14, val_main_v13,
    val_main_v0, val_main_call1_v0, val_main_call1_v1, val_main_call1_v2, val_main_call1_v3, val_main_call1_v4,
    val_main_call1_v5, val_main_call1_cst, val_main_call1_cst_0]
  rfl

/-- The closing of the reference: the residual row over its root mean square. -/
theorem v39_apply (t : Fin 65536) (d : Fin 1024) :
    val_main_v39 (F := Ideal) x0 x1 x2 x3 x4 x5 x6 x7 x8 x9 x10 (ix2 t d)
      = closing (fun k => x8 (ix2 t k)) (fun k => x9 (ix3 ⟨t.val / 4096, by omega⟩ 0 k))
          (fun k => val_main_v12 (F := Ideal) x0 x1 x2 x3 x4 (ix2 t k) + val_main_v20 (F := Ideal) x0 x5 x6 x7 (ix2 t k))
          (x10 (ix1 d)) d := by
  unfold closing val_main_v39 val_main_v36 val_main_v35 val_main_v34 val_main_v33 val_main_v31 val_main_v29 val_main_v28 val_main_v27
    val_main_v26 val_main_v25 val_main_v24 val_main_v22 val_main_v21
  generalize val_main_v12 (F := Ideal) x0 x1 x2 x3 x4 = A
  generalize val_main_v20 (F := Ideal) x0 x5 x6 x7 = B
  pointwise [val_main_v38, val_main_v37, val_main_v32, val_main_cst_1, val_main_v30, val_main_cst_0, val_main_cst, val_main_v23]

end Cert.MoeRefIdeal.At

end
-- ==== Proof.MoeEq.lean ====
/-
  The expert kernel's result is the reference's, index by index.
-/
module

public import proofs.«01_k».proof.Pre_comb_finite
public import proofs.«01_k».proof.Proof.MoeBlocks
public import proofs.«01_k».proof.Proof.MoeFold
public import proofs.«01_k».proof.Proof.MoeRefValue

@[expose] public section

set_option maxRecDepth 16384

noncomputable section

/-- The precondition's side conditions. -/
theorem Cert.Pre_comb_finite.facts : Cert.Pre_comb_finite.Facts where
  slices_S65536x128_S65536x64_0_0 := by decide
  bcast_S_S65536x64 := by decide

namespace Cert.MoeIdeal.Eq

open Cert.MoeIdeal Cert.MoeIdeal.Gen Cert.MoeIdeal.Pay Cert.MoeIdeal.Blocks Cert.MoeIdeal.Fold
open Idealize.ShloMosaic Idealize.ShloMosaic.TcCoe Idealize.SL.Sem

/-- A number of finite magnitude less itself is zero. -/
theorem sub_self_of_lt (v : EReal) (h : max v (-v) < ⊤) : v - v = 0 := by
  obtain ⟨ha, hb⟩ := max_lt_iff.mp h
  induction v using EReal.rec with
  | bot => simp at hb
  | top => simp at ha
  | coe a => rw [← EReal.coe_sub, sub_self, EReal.coe_zero]

/-- The weights the precondition speaks of are real numbers, so that each less itself is zero. -/
theorem sub_self_of_pre [Cert.Pre_comb_finite.Facts] (x0 : FVec Ideal S65536x1024 .bf16) (x1 : FVec Ideal S65536x128 .f32)
    (x2 x3 : FVec Ideal S1x64x1024x256 .f32) (x4 : FVec Ideal S1x64x256x1024 .f32) (x5 x6 : FVec Ideal S1x1024x256 .f32)
    (x7 : FVec Ideal S1x256x1024 .f32) (x8 : FVec Ideal S65536x1024 .f32) (x9 : FVec Ideal S16x1x1024 .f32)
    (x10 : FVec Ideal S1024 .f32)
    (h : Cert.Pre_comb_finite.fn (F := Ideal) x0 x1 x2 x3 x4 x5 x6 x7 x8 x9 x10 = fun _ => 1#1) (T : Fin 65536) (e : Fin 64) :
    (x1 (ix2 T ⟨e.val, by omega⟩) : EReal) - x1 (ix2 T ⟨e.val, by omega⟩) = 0 := by
  have h1 := congrFun h (ix2 T e)
  pointwise [Cert.Pre_comb_finite.fn] at h1
  refine sub_self_of_lt _ ?_
  by_contra hh
  have hd : ¬ (FloatOps.absf (x1 (ix2 T ⟨e.val, by omega⟩)) : EReal) < Ideal.ofBits FTy.f32 0x7F800000#32 := by
    rw [show Ideal.ofBits FTy.f32 0x7F800000#32 = (⊤ : EReal) by simp [Ideal.ofBits, Ideal.ieee]]
    exact hh
  rw [decide_eq_false hd] at h1
  exact absurd h1 (by decide)

/-- A sum against a one-hot column. -/
theorem sum_pick (v : Fin 128 → EReal) (n : Fin 128) (p : Prop) [Decidable p] (hp : p) :
    ∑ k : Fin 128, v k * (if k.val = n.val ∧ p then (1 : EReal) else 0) = v n := by
  rw [Finset.sum_eq_single n]
  · rw [if_pos ⟨rfl, hp⟩, mul_one]
  · intro k _ hk
    rw [if_neg (fun h => hk (Fin.ext h.1)), mul_zero]
  · intro h
    exact absurd (Finset.mem_univ n) h

/-- The gate of a group's expert is that expert's routing weight. -/
theorem gate (cb : Vec Ideal S1024x128 .f32) (pk : Vec Ideal S1x128x128 .bf16) (g : ℕ)
    (hpk : ∀ k e : Fin 128, pk (ix3 0 k e) = if k.val = 4 * g + e.val ∧ e.val < 4 then (1 : EReal) else 0)
    (r : Fin 1024) (e : Fin 4) (n : Fin 128) (hn : n.val = 4 * g + e.val)
    (h : (cb (ix2 r n) : EReal) - cb (ix2 r n) = 0) :
    k0_pay4 cb pk pk (ix2 r ⟨e.val, by omega⟩) = cb (ix2 r n) := by
  rw [pay4_apply]
  simp only [hpk, ← hn]
  rw [sum_pick (fun k => cb (ix2 r k)) n _ e.isLt, sum_pick (fun k => cb (ix2 r k) - cb (ix2 r k)) n _ e.isLt, h, add_zero]

variable (m : (ℓ : Loc nD τ sig) → Buf (Elt Ideal) ℓ)

/-- What a point's group adds, in the arguments: over the group's experts and their hidden units. -/
theorem group_eq (c : Dev nD) (x0 : FVec Ideal S65536x1024 .bf16) (x1 : FVec Ideal S65536x128 .f32)
    (x2 x3 : FVec Ideal S1x64x1024x256 .f32) (x4 : FVec Ideal S1x64x256x1024 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4)
    (hs : ∀ (T : Fin 65536) (e : Fin 64), (x1 (ix2 T ⟨e.val, by omega⟩) : EReal) - x1 (ix2 T ⟨e.val, by omega⟩) = 0)
    (t : Fin cfg0.N) (r d : Fin 1024) :
    group (iblk m c 0 t) (iblk m c 1 t) (iblk m c 2 t) (iblk m c 3 t) (iblk m c 4 t) (iblk m c 5 t) r d
      = ∑ e : Fin 4, ∑ f : Fin 256,
        Cert.MoeRefIdeal.Read.val_main_v10 (F := Ideal) x0 x1 x2 x3 (ix3 (row t r) (expert t e) f)
          * x4 (ix4 0 (expert t e) f d) := by
  unfold group
  refine Finset.sum_congr rfl fun e _ => Finset.sum_congr rfl fun f _ => ?_
  have hx := (expert t e).isLt
  have hc : (iblk m c 1 t : Vec Ideal S1024x128 .f32) (ix2 r ⟨(expert t e).val, by omega⟩)
      = x1 (ix2 (row t r) ⟨(expert t e).val, by omega⟩) := (b1 m c t r _).trans (congrFun h1 _)
  rw [Cert.MoeRefIdeal.At.v10_apply]
  refine congrArg₂ (· * ·) (congrArg₂ (· * ·) ?_ ?_) ?_
  · have e0 : (fun k : Fin 1024 => (iblk m c 0 t : Vec Ideal S1024x1024 .bf16) (ix2 r k)) = fun k => x0 (ix2 (row t r) k) :=
      funext fun k => (b0 m c t r k).trans (congrFun h0 _)
    have e3 : (fun k : Fin 1024 => (iblk m c 3 t : Vec Ideal S4x1024x256 .bf16) (ix3 e k f)) = fun k => x2 (ix4 0 (expert t e) k f) :=
      funext fun k => (b3 m c t e k f).trans (congrFun h2 _)
    have e4 : (fun k : Fin 1024 => (iblk m c 4 t : Vec Ideal S4x1024x256 .bf16) (ix3 e k f)) = fun k => x3 (ix4 0 (expert t e) k f) :=
      funext fun k => (b4 m c t e k f).trans (congrFun h3 _)
    rw [e0, e3, e4]
  · refine (gate _ _ (t.val % 16) (b2 m c t) r e ⟨(expert t e).val, by omega⟩ rfl ?_).trans hc
    rw [hc]
    exact hs (row t r) (expert t e)
  · exact (b5 m c t e f d).trans (congrFun h4 _)

/-- A sum over sixteen groups of four is a sum over the sixty-four experts. -/
theorem sum_groups (g : Fin 64 → EReal) :
    ∑ s : Fin 16, ∑ e : Fin 4, g ⟨4 * s.val + e.val, by omega⟩ = ∑ e : Fin 64, g e := by
  rw [← Equiv.sum_comp (finProdFinEquiv (m := 16) (n := 4)) g, Fintype.sum_prod_type]
  refine Finset.sum_congr rfl fun s _ => Finset.sum_congr rfl fun e _ => congrArg g (Fin.ext ?_)
  show 4 * s.val + e.val = e.val + 4 * s.val
  omega

/-- The shared expert of a point's rows, in the arguments. -/
theorem shared_eq (c : Dev nD) (x0 : FVec Ideal S65536x1024 .bf16) (x5 x6 : FVec Ideal S1x1024x256 .f32)
    (x7 : FVec Ideal S1x256x1024 .f32)
    (h0 : m ((c : Thread nD τ).loc main_arg0) = x0) (h5 : m ((c : Thread nD τ).loc main_arg5) = x5)
    (h6 : m ((c : Thread nD τ).loc main_arg6) = x6) (h7 : m ((c : Thread nD τ).loc main_arg7) = x7)
    (t : Fin cfg0.N) (r d : Fin 1024) :
    ∑ f : Fin 256, Pay.hidden (fun k => iblk m c 0 t (ix2 r k)) (fun k => iblk m c 6 t (ix2 k f)) (fun k => iblk m c 7 t (ix2 k f))
      * iblk m c 8 t (ix2 f d)
      = Cert.MoeRefIdeal.Read.val_main_v20 (F := Ideal) x0 x5 x6 x7 (ix2 (row t r) d) := by
  rw [Cert.MoeRefIdeal.At.v20_apply]
  refine Finset.sum_congr rfl fun f _ => ?_
  have e0 : (fun k : Fin 1024 => (iblk m c 0 t : Vec Ideal S1024x1024 .bf16) (ix2 r k)) = fun k => x0 (ix2 (row t r) k) :=
    funext fun k => (b0 m c t r k).trans (congrFun h0 _)
  have e6 : (fun k : Fin 1024 => (iblk m c 6 t : Vec Ideal S1024x256 .bf16) (ix2 k f)) = fun k => x5 (ix3 0 k f) :=
    funext fun k => (b6 m c t k f).trans (congrFun h5 _)
  have e7 : (fun k : Fin 1024 => (iblk m c 7 t : Vec Ideal S1024x256 .bf16) (ix2 k f)) = fun k => x6 (ix3 0 k f) :=
    funext fun k => (b7 m c t k f).trans (congrFun h6 _)
  have e8 : (iblk m c 8 t : Vec Ideal S256x1024 .bf16) (ix2 f d) = x7 (ix3 0 f d) := (b8 m c t f d).trans (congrFun h7 _)
  refine (congrArg₂ (· * ·) (congr (congr (congrArg Pay.hidden e0) e6) e7) e8)

/-- The accumulator at a tile's last point: the routed experts and the shared one, at that row. -/
theorem acc_eq (c : Dev nD) (x0 : FVec Ideal S65536x1024 .bf16) (x1 : FVec Ideal S65536x128 .f32)
    (x2 x3 : FVec Ideal S1x64x1024x256 .f32) (x4 : FVec Ideal S1x64x256x1024 .f32) (x5 x6 : FVec Ideal S1x1024x256 .f32)
    (x7 : FVec Ideal S1x256x1024 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (h7 : m ((c : Thread nD τ).loc main_arg7) = x7)
    (hs : ∀ (T : Fin 65536) (e : Fin 64), (x1 (ix2 T ⟨e.val, by omega⟩) : EReal) - x1 (ix2 T ⟨e.val, by omega⟩) = 0)
    (t : Fin cfg0.N) (hr : t.val % 16 = 15) (r d : Fin 1024) :
    (outsAt0 m c t.val t.isLt).2 (ix2 r d)
      = (Cert.MoeRefIdeal.Read.val_main_v12 (F := Ideal) x0 x1 x2 x3 x4 (ix2 (row t r) d)
        + Cert.MoeRefIdeal.Read.val_main_v20 (F := Ideal) x0 x5 x6 x7 (ix2 (row t r) d) : EReal) := by
  have hrow : ∀ s : Fin 16, row ⟨16 * (t.val / 16) + s.val, Pipeline.run_point_lt_of_flush t hr s⟩ r = row t r := fun s =>
    Fin.ext (by
      show 1024 * ((16 * (t.val / 16) + s.val) / 16) + r.val = 1024 * (t.val / 16) + r.val
      have := s.isLt; omega)
  have hx : ∀ (s : Fin 16) (e : Fin 4),
      expert ⟨16 * (t.val / 16) + s.val, Pipeline.run_point_lt_of_flush t hr s⟩ e = ⟨4 * s.val + e.val, by omega⟩ := fun s e =>
    Fin.ext (by
      show 4 * ((16 * (t.val / 16) + s.val) % 16) + e.val = 4 * s.val + e.val
      have := s.isLt; omega)
  have hterm : ∀ s : Fin 16, term m c ⟨16 * (t.val / 16) + s.val, Pipeline.run_point_lt_of_flush t hr s⟩ r d
      = (if s = 0 then Cert.MoeRefIdeal.Read.val_main_v20 (F := Ideal) x0 x5 x6 x7 (ix2 (row t r) d) else (0 : EReal))
        + ∑ e : Fin 4, ∑ f : Fin 256,
          Cert.MoeRefIdeal.Read.val_main_v10 (F := Ideal) x0 x1 x2 x3 (ix3 (row t r) ⟨4 * s.val + e.val, by omega⟩ f)
            * x4 (ix4 0 ⟨4 * s.val + e.val, by omega⟩ f d) := by
    intro s
    unfold term
    refine congrArg₂ (· + ·) ?_ ?_
    · by_cases h : s = 0
      · rw [if_pos h, if_pos (show (16 * (t.val / 16) + s.val) % 16 = 0 by
          have h' : s.val = 0 := congrArg Fin.val h
          omega), shared_eq m c x0 x5 x6 x7 h0 h5 h6 h7, hrow]
      · rw [if_neg h, if_neg (show ¬(16 * (t.val / 16) + s.val) % 16 = 0 by
          have h' : s.val ≠ 0 := fun h' => h (Fin.ext h')
          have := s.isLt
          omega)]
    · rw [group_eq m c x0 x1 x2 x3 x4 h0 h1 h2 h3 h4 hs, hrow]
      exact Finset.sum_congr rfl fun e _ => by rw [hx]
  rw [acc_sum m c t hr r d, Finset.sum_congr rfl fun s _ => hterm s, Finset.sum_add_distrib, Cert.MoeRefIdeal.At.v12_apply, add_comm]
  generalize (Cert.MoeRefIdeal.Read.val_main_v20 (F := Ideal) x0 x5 x6 x7 (ix2 (row t r) d) : EReal) = S
  refine congrArg₂ (· + ·) (sum_groups fun e => ∑ f : Fin 256,
    Cert.MoeRefIdeal.Read.val_main_v10 (F := Ideal) x0 x1 x2 x3 (ix3 (row t r) e f) * x4 (ix4 0 e f d)) ?_
  rw [Finset.sum_ite_eq' Finset.univ (0 : Fin 16), if_pos (Finset.mem_univ _)]

/-- The kernel's result at a row and a column is the reference's. -/
theorem result_apply (c : Dev nD) (x0 : FVec Ideal S65536x1024 .bf16) (x1 : FVec Ideal S65536x128 .f32)
    (x2 x3 : FVec Ideal S1x64x1024x256 .f32) (x4 : FVec Ideal S1x64x256x1024 .f32) (x5 x6 : FVec Ideal S1x1024x256 .f32)
    (x7 : FVec Ideal S1x256x1024 .f32) (x8 : FVec Ideal S65536x1024 .f32) (x9 : FVec Ideal S16x1x1024 .f32)
    (x10 : FVec Ideal S1024 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (h7 : m ((c : Thread nD τ).loc main_arg7) = x7)
    (h8 : m ((c : Thread nD τ).loc main_arg8) = x8) (h9 : m ((c : Thread nD τ).loc main_arg9) = x9)
    (h10 : m ((c : Thread nD τ).loc main_arg10) = x10)
    (hs : ∀ (T : Fin 65536) (e : Fin 64), (x1 (ix2 T ⟨e.val, by omega⟩) : EReal) - x1 (ix2 T ⟨e.val, by omega⟩) = 0)
    (T : Fin 65536) (d : Fin 1024) :
    Value.G12 m c (ix2 T d) = Cert.MoeRefIdeal.Read.val_main_v39 (F := Ideal) x0 x1 x2 x3 x4 x5 x6 x7 x8 x9 x10 (ix2 T d) := by
  have hT := T.isLt
  have hd := d.isLt
  have hp : Value.pt12Of (ix2 T d) = 16 * (T.val / 1024) + 15 := by
    show 16 * (1 * (T.val / 1024 - 0) + 1 * (d.val / 1024 - 0)) + 15 = _
    omega
  have hlt : 16 * (T.val / 1024) + 15 < cfg0.N := by rw [show cfg0.N = 1024 from N_0]; omega
  have hl : Value.loc12Of (ix2 T d) = ix2 (⟨T.val % 1024, Nat.mod_lt _ (by decide)⟩ : Fin 1024) d := by
    funext a
    match a with
    | ⟨0, _⟩ => rfl
    | ⟨1, _⟩ => exact Fin.ext (Nat.mod_eq_of_lt hd)
  have hrow : row ⟨16 * (T.val / 1024) + 15, hlt⟩ ⟨T.val % 1024, Nat.mod_lt _ (by decide)⟩ = T := Fin.ext (by
    show 1024 * ((16 * (T.val / 1024) + 15) / 16) + T.val % 1024 = T.val
    omega)
  have hseq : seq ⟨16 * (T.val / 1024) + 15, hlt⟩ = ⟨T.val / 4096, by omega⟩ := Fin.ext (by
    show (16 * (T.val / 1024) + 15) / 64 = T.val / 4096
    omega)
  have hG : Value.G12 m c (ix2 T d)
      = (outsAt0 m c (16 * (T.val / 1024) + 15) hlt).1 (ix2 (⟨T.val % 1024, Nat.mod_lt _ (by decide)⟩ : Fin 1024) d) := by
    unfold Value.G12
    rw [dif_pos (by rw [hp]; exact hlt), ← Value.outsAt0_sweep m c _ (by rw [hp]; exact hlt), hl]
    simp only [hp]
  rw [hG, Cert.MoeRefIdeal.At.v39_apply]
  have hC := out_C m c ⟨16 * (T.val / 1024) + 15, hlt⟩ (by show ¬(16 * (T.val / 1024) + 15) % 16 = 0; omega)
    (by show (16 * (T.val / 1024) + 15) % 16 = 15; omega)
  refine (congrFun hC _).trans ((pay2_apply _ _ _ _ _ _).trans ?_)
  have e8 : (fun k : Fin 1024 => (iblk m c 9 ⟨16 * (T.val / 1024) + 15, hlt⟩ : Vec Ideal S1024x1024 .f32)
      (ix2 (⟨T.val % 1024, Nat.mod_lt _ (by decide)⟩ : Fin 1024) k)) = fun k => x8 (ix2 T k) :=
    funext fun k => (b9 m c _ _ k).trans ((congrArg (fun T => m ((c : Thread nD τ).loc main_arg8) (ix2 T k)) hrow).trans (congrFun h8 _))
  have e9 : (fun k : Fin 1024 => (iblk m c 10 ⟨16 * (T.val / 1024) + 15, hlt⟩ : Vec Ideal S1x1x1024 .f32) (ix3 0 0 k))
      = fun k => x9 (ix3 ⟨T.val / 4096, by omega⟩ 0 k) :=
    funext fun k => (b10 m c _ k).trans ((congrArg (fun T => m ((c : Thread nD τ).loc main_arg9) (ix3 T 0 k)) hseq).trans (congrFun h9 _))
  have e10 : (iblk m c 11 ⟨16 * (T.val / 1024) + 15, hlt⟩ : Vec Ideal S1x1024 .f32) (ix2 0 d) = x10 (ix1 d) :=
    (b11 m c _ d).trans (congrFun h10 _)
  rw [e8, e9, e10]
  refine congrArg (fun a => closing _ _ a _ d) (funext fun k => ?_)
  refine (acc_eq m c x0 x1 x2 x3 x4 x5 x6 x7 h0 h1 h2 h3 h4 h5 h6 h7 hs ⟨16 * (T.val / 1024) + 15, hlt⟩
    (by show (16 * (T.val / 1024) + 15) % 16 = 15; omega) _ k).trans ?_
  rw [hrow]

end Cert.MoeIdeal.Eq

end
-- ==== Proof.MoeClaims.lean ====
/-
  The claims about the expert call: its run, the reference's, and that they end with the same result.
-/
module

public import proofs.«01_k».proof.Defs
public import proofs.«01_k».proof.Proof.MoeEq
public import proofs.«01_k».proof.Proof.Gen.Moe.Frame
public import proofs.«01_k».proof.Proof.Gen.Moe
public import proofs.«01_k».proof.Proof.Gen.MoeIdeal
public import proofs.«01_k».proof.Proof.Gen.MoeRefIdeal
public import Idealize.ShloMosaic.Lib.Claim
public import Idealize.ShloMosaic.Adequacy
public import Idealize.ShloMosaic.Lib.Quiescent

@[expose] public section

set_option maxRecDepth 16384

noncomputable section

namespace Cert.MoeClaims

open Idealize.ShloMosaic Idealize.SL.Sem

theorem frameP : quiescent_Moe (hMoe := Cert.Moe.Gen.facts) := fun m g _ => Cert.Moe.Gen.frame m g

theorem framePI : quiescent_MoeIdeal (hMoeIdeal := Cert.MoeIdeal.Gen.facts) := fun m g _ => Cert.MoeIdeal.Gen.frame m g

theorem framePI_pre : quiescent_MoeIdeal_pre_comb_finite (hMoeIdeal := Cert.MoeIdeal.Gen.facts)
    (hPre_comb_finite := Cert.Pre_comb_finite.facts) := fun m g _ => Cert.MoeIdeal.Gen.frame m g

theorem frameRI : quiescent_MoeRefIdeal (hMoeRefIdeal := Cert.MoeRefIdeal.Gen.facts) := fun m g _ =>
  (θ_run Cert.MoeRefIdeal.defs _ _).mono (fun r h => ⟨fun c => (h c).2, Idealize.ShloMosaic.sem_eq_zero_of_no_sems (by decide) r.2⟩)
    (Cert.MoeRefIdeal.Value.run (F := Ideal) m g)

theorem frameRI_pre : quiescent_MoeRefIdeal_pre_comb_finite (hMoeRefIdeal := Cert.MoeRefIdeal.Gen.facts)
    (hPre_comb_finite := Cert.Pre_comb_finite.facts) := fun m g _ => frameRI m g trivial

/-- From memories that agree on the arguments and with finite routing weights, the kernel and the reference end with the
    same result. -/
theorem algebraic : algebraic_MoeIdeal_MoeRefIdeal_pre_comb_finite (hMoeIdeal := Cert.MoeIdeal.Gen.facts)
    (hMoeRefIdeal := Cert.MoeRefIdeal.Gen.facts) (hPre_comb_finite := Cert.Pre_comb_finite.facts) := by
  intro m g m' g' hpre hag
  refine ⟨fun c => Cert.MoeIdeal.Value.G12 m c, Cert.MoeIdeal.Value.run m g,
    (θ_run Cert.MoeRefIdeal.defs _ _).mono (fun r h c => ⟨(h c).1.trans ?_, (h c).2⟩) (Cert.MoeRefIdeal.Value.run (F := Ideal) m' g')⟩
  obtain ⟨h0, h1, h2, h3, h4, h5, h6, h7, h8, h9, h10⟩ := hag c
  refine (Cert.MoeRefIdeal.Read.val_main_v39_eq m' c).trans ?_
  refine funext fun i => ?_
  obtain ⟨T, d, rfl⟩ : ∃ (T : Fin 65536) (d : Fin 1024), i = ix2 T d := ⟨i 0, i 1, by idx_ext⟩
  exact (Cert.MoeIdeal.Eq.result_apply m c _ _ _ _ _ _ _ _ _ _ _ h0.symm h1.symm h2.symm h3.symm h4.symm h5.symm h6.symm h7.symm
    h8.symm h9.symm h10.symm (fun T e => by
      rw [h1]
      haveI := Cert.Pre_comb_finite.facts
      exact Cert.MoeIdeal.Eq.sub_self_of_pre _ _ _ _ _ _ _ _ _ _ _ (hpre c) T e) T d).symm

end Cert.MoeClaims

end
-- ==== Proof.SelRank.lean ====
/- Ranks and stable sorts: the place of an element in a stable descending sort is the number of elements that precede
   it, so "among the first k" can be said by the sort (the reference) or by counting (the kernel). Plain mathematics. -/
module

public import Idealize.ShloMosaic.PureOps.Ideal
public import Idealize.ShloMosaic.PureOps.Vector
public import Idealize.ShloMosaic.PureOps.Reduce
public import Idealize.ShloMosaic.Lib.SortFacts

@[expose] public section

noncomputable section

namespace Cert.SelIdeal.Rank

open Idealize.ShloMosaic
open scoped Classical

variable {n : Nat} (f : Fin n → EReal)

/-- `a` comes before `b` in the descending order of `f`, equal values in the order of their positions. -/
def Prec (a b : Fin n) : Prop := f b < f a ∨ (f a = f b ∧ a < b)

/-- How many positions come before `b`. -/
def rk (b : Fin n) : Nat := (Finset.univ.filter fun a => Prec f a b).card

/-- The order of the positions in the stable descending sort. -/
def pos : Fin n → Fin n := sortedFrom fun a b => decide (f b < f a)

theorem stableSort_prec (l : List (Fin n)) (h : l.Pairwise (· < ·)) :
    stableSort (fun a b => decide (f b < f a)) l = stableSort (fun a b => decide (Prec f a b)) l := by
  induction l with
  | nil => rfl
  | cons a l ih =>
    rw [List.pairwise_cons] at h
    unfold stableSort
    rw [ih h.2]
    refine insertBefore_congr _ _ a _ fun b hb => ?_
    have hb' : b ∈ l := (perm_stableSort _ l).mem_iff.mp hb
    have hab : a < b := h.1 b hb'
    refine decide_eq_decide.mpr ⟨fun h => Or.inl h, fun h => ?_⟩
    rcases h with h | ⟨_, h⟩
    · exact h
    · exact absurd h (not_lt.mpr hab.le)

theorem pos_eq : pos f = sortedFrom fun a b => decide (Prec f a b) := by
  funext k
  unfold pos sortedFrom
  rw [List.get_of_eq (show sortPositions n (fun a b => decide (f b < f a)) = sortPositions n (fun a b => decide (Prec f a b)) from
    stableSort_prec f _ (List.pairwise_lt_finRange n))]
  rfl

theorem prec_irrefl (a : Fin n) : ¬ Prec f a a := by
  rintro (h | ⟨_, h⟩)
  · exact lt_irrefl _ h
  · exact lt_irrefl _ h

theorem prec_total {a b : Fin n} (h : a ≠ b) : Prec f a b ∨ Prec f b a := by
  rcases lt_trichotomy (f a) (f b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

theorem prec_asymm {a b : Fin n} (h : Prec f a b) : ¬ Prec f b a := by
  rcases h with h | ⟨h1, h2⟩ <;> rintro (h' | ⟨h3, h4⟩)
  · exact lt_asymm h h'
  · exact absurd h (by rw [h3]; exact lt_irrefl _)
  · exact absurd h' (by rw [h1]; exact lt_irrefl _)
  · exact lt_asymm h2 h4

theorem prec_trans {a b c : Fin n} (h : Prec f a b) (h' : Prec f b c) : Prec f a c := by
  rcases h with h | ⟨h1, h2⟩ <;> rcases h' with h' | ⟨h3, h4⟩
  · exact Or.inl (h'.trans h)
  · exact Or.inl (h3 ▸ h)
  · exact Or.inl (h1 ▸ h')
  · exact Or.inr ⟨h1.trans h3, h2.trans h4⟩

/-- Earlier in the sort is earlier in the order. -/
theorem prec_pos {i j : Fin n} (h : i < j) : Prec f (pos f i) (pos f j) := by
  have hne : pos f i ≠ pos f j := fun e => absurd (sortedFrom_injective _ e) (ne_of_lt h)
  rcases prec_total f hne with h1 | h1
  · exact h1
  · exfalso
    rw [pos_eq] at h1
    have := sortedFrom_noInversion (fun a b => decide (Prec f a b)) (fun a b => decide (Prec f a b))
      (fun a b h => decide_eq_false (prec_asymm f (of_decide_eq_true h))) (fun _ _ h => h)
      (fun a b c h h' => by
        rw [decide_eq_false_iff_not] at h h' ⊢
        intro hac
        by_cases e1 : a = b
        · exact h' (e1 ▸ hac)
        by_cases e2 : b = c
        · exact h (e2 ▸ hac)
        have hba := (prec_total f e1).resolve_left h
        have hcb := (prec_total f e2).resolve_left h'
        exact prec_asymm f hac (prec_trans f hcb hba))
      i j h
    exact absurd (decide_eq_true h1) (by rw [this]; exact Bool.false_ne_true)

theorem prec_pos_iff (i j : Fin n) : Prec f (pos f i) (pos f j) ↔ i < j := by
  refine ⟨fun h => ?_, prec_pos f⟩
  rcases lt_trichotomy i j with h1 | h1 | h1
  · exact h1
  · exact absurd h (h1 ▸ prec_irrefl f _)
  · exact absurd h (prec_asymm f (prec_pos f h1))

theorem pos_bijective : Function.Bijective (pos f) := ⟨sortedFrom_injective _, sortedFrom_surjective _⟩

/-- The place in the sort is the number of positions that come before. -/
theorem rk_pos (k : Fin n) : rk f (pos f k) = k.val := by
  unfold rk
  have : (Finset.univ.filter fun a => Prec f a (pos f k)) = (Finset.Iio k).map ⟨pos f, (pos_bijective f).1⟩ := by
    ext a
    obtain ⟨i, rfl⟩ := (pos_bijective f).2 a
    simp only [Finset.mem_filter, Finset.mem_univ, true_and, Finset.mem_map, Finset.mem_Iio, Function.Embedding.coeFn_mk,
      prec_pos_iff]
    exact ⟨fun h => ⟨i, h, rfl⟩, fun ⟨x, hx, e⟩ => (pos_bijective f).1 e ▸ hx⟩
  rw [this, Finset.card_map, Fin.card_Iio]

/-- A sum over the first `K` places of the sort is the sum over the positions with fewer than `K` before them. -/
theorem sum_pos {K : Nat} (hK : K ≤ n) (g : Fin n → EReal) :
    ∑ k : Fin K, g (pos f (k.castLE hK)) = ∑ e : Fin n, if rk f e < K then g e else 0 := by
  rw [← (Equiv.ofBijective _ (pos_bijective f)).sum_comp]
  simp only [Equiv.ofBijective_apply, rk_pos]
  rw [← Finset.sum_filter]
  refine Finset.sum_bij (fun k _ => k.castLE hK) ?_ ?_ ?_ ?_
  · intro k _; simp
  · intro a _ b _ h; exact Fin.castLE_injective hK h
  · intro b hb; exact ⟨⟨b.val, (Finset.mem_filter.mp hb).2⟩, Finset.mem_univ _, rfl⟩
  · intro _ _; rfl

/-- A weighted sum against the indicator of one position over the first `K` places. -/
theorem sum_pos_pick {K : Nat} (hK : K ≤ n) (g : Fin n → EReal) (e : Fin n) :
    ∑ k : Fin K, g (pos f (k.castLE hK)) * (if pos f (k.castLE hK) = e then (1 : EReal) else 0) = if rk f e < K then g e else 0 := by
  rw [sum_pos f hK (fun a => g a * (if a = e then (1 : EReal) else 0)), Finset.sum_eq_single e]
  · rw [if_pos rfl, mul_one]
  · intro b _ hb; rw [if_neg hb, mul_zero, ite_self]
  · intro h; exact absurd (Finset.mem_univ _) h

/-- Some of the first `K` places holds a position just when fewer than `K` come before it. -/
theorem sum_pos_ind {K : Nat} (hK : K ≤ n) (e : Fin n) :
    0 < ∑ k : Fin K, (if pos f (k.castLE hK) = e then (1 : EReal) else 0) ↔ rk f e < K := by
  have := sum_pos_pick f hK (fun _ => 1) e
  simp only [one_mul] at this
  rw [this]
  split <;> simp [*]

/-- The counting of the positions before `b`, one after another. -/
def upto (b : Fin n) : Nat → Nat
  | 0 => 0
  | j + 1 => upto b j + if h : j < n then (if Prec f ⟨j, h⟩ b then 1 else 0) else 0

theorem upto_eq (b : Fin n) (j : Nat) (h : j ≤ n) :
    upto f b j = (Finset.univ.filter fun a : Fin n => a.val < j ∧ Prec f a b).card := by
  induction j with
  | zero => simp [upto]
  | succ j ih =>
    have hj : j < n := h
    rw [upto, ih hj.le, dif_pos hj]
    have : (Finset.univ.filter fun a : Fin n => a.val < j + 1 ∧ Prec f a b)
        = (Finset.univ.filter fun a : Fin n => a.val < j ∧ Prec f a b)
          ∪ (Finset.univ.filter fun a : Fin n => a = ⟨j, hj⟩ ∧ Prec f ⟨j, hj⟩ b) := by
      ext a
      simp only [Finset.mem_filter, Finset.mem_univ, true_and, Finset.mem_union, Fin.ext_iff]
      constructor
      · rintro ⟨h1, h2⟩
        rcases Nat.lt_succ_iff_lt_or_eq.mp h1 with h3 | h3
        · exact Or.inl ⟨h3, h2⟩
        · have e : a = ⟨j, hj⟩ := Fin.ext h3
          exact Or.inr ⟨h3, e ▸ h2⟩
      · rintro (⟨h1, h2⟩ | ⟨h1, h2⟩)
        · exact ⟨h1.trans (Nat.lt_succ_self j), h2⟩
        · have e : a = ⟨j, hj⟩ := Fin.ext h1
          exact ⟨h1 ▸ Nat.lt_succ_self j, e ▸ h2⟩
    rw [this, Finset.card_union_of_disjoint]
    · congr 1
      by_cases hp : Prec f ⟨j, hj⟩ b
      · simp only [hp, and_true, if_true]
        exact (Finset.card_eq_one.mpr ⟨⟨j, hj⟩, by ext x; simp⟩).symm
      · simp [hp]
    · rw [Finset.disjoint_left]
      intro a h1 h2
      have e := (Finset.mem_filter.mp h2).2.1
      have h3 := (Finset.mem_filter.mp h1).2.1
      rw [e] at h3
      exact lt_irrefl _ h3

theorem upto_all (b : Fin n) : upto f b n = rk f b := by
  rw [upto_eq f b n le_rfl]
  unfold rk
  congr 1
  ext a
  simp [a.isLt]

theorem rk_lt (b : Fin n) : rk f b ≤ n := by
  unfold rk
  exact (Finset.card_le_univ _).trans (by simp)

/-- The first of the sort is the greatest value. -/
theorem le_pos_zero (h : 0 < n) (a : Fin n) : f a ≤ f (pos f ⟨0, h⟩) := by
  obtain ⟨i, rfl⟩ := (pos_bijective f).2 a
  rcases Nat.eq_zero_or_pos i.val with h0 | h0
  · exact le_of_eq (congrArg (fun i => f (pos f i)) (Fin.ext h0))
  · rcases prec_pos f (i := ⟨0, h⟩) (j := i) h0 with h1 | ⟨h1, _⟩
    · exact h1.le
    · exact h1.ge

/-- Among the positions of the greatest value the first of the sort is the lowest. -/
theorem pos_zero_le (h : 0 < n) (a : Fin n) (ha : f a = f (pos f ⟨0, h⟩)) : pos f ⟨0, h⟩ ≤ a := by
  obtain ⟨i, rfl⟩ := (pos_bijective f).2 a
  rcases Nat.eq_zero_or_pos i.val with h0 | h0
  · exact le_of_eq (congrArg (pos f) (Fin.ext h0.symm))
  · rcases prec_pos f (i := ⟨0, h⟩) (j := i) h0 with h1 | ⟨_, h1⟩
    · exact absurd ha (ne_of_lt h1)
    · exact h1.le

/-- The second of the sort is the greatest of the rest. -/
theorem le_pos_one (h : 1 < n) (a : Fin n) (ha : a ≠ pos f ⟨0, by omega⟩) : f a ≤ f (pos f ⟨1, h⟩) := by
  obtain ⟨i, rfl⟩ := (pos_bijective f).2 a
  have h0 : i.val ≠ 0 := fun e => ha (congrArg (pos f) (Fin.ext e))
  rcases Nat.lt_or_ge 1 i.val with h1 | h1
  · rcases prec_pos f (i := ⟨1, h⟩) (j := i) h1 with h2 | ⟨h2, _⟩
    · exact h2.le
    · exact h2.ge
  · exact le_of_eq (congrArg (fun i => f (pos f i)) (Fin.ext (by show i.val = 1; omega)))

theorem pos_one_ne (h : 1 < n) : pos f ⟨1, h⟩ ≠ pos f ⟨0, by omega⟩ := fun e => by
  have := congrArg Fin.val ((pos_bijective f).1 e)
  exact absurd this (by simp)

/-! ## The kernel's counting in 32-bit words -/

/-- The signed comparison of two small words. -/
theorem slt_ofNat (a b : Nat) (ha : a < 2 ^ 31) (hb : b < 2 ^ 31) :
    (BitVec.ofNat 32 a).slt (BitVec.ofNat 32 b) = decide (a < b) := by
  have h1 : (BitVec.ofNat 32 a).toNat = a := by rw [BitVec.toNat_ofNat]; exact Nat.mod_eq_of_lt (by omega)
  have h2 : (BitVec.ofNat 32 b).toNat = b := by rw [BitVec.toNat_ofNat]; exact Nat.mod_eq_of_lt (by omega)
  rw [BitVec.slt_eq_decide, BitVec.toInt_eq_toNat_of_lt (by rw [h1]; omega), BitVec.toInt_eq_toNat_of_lt (by rw [h2]; omega), h1, h2]
  exact decide_eq_decide.mpr Int.ofNat_lt

/-- One comparison of the kernel, as the word it adds to a rank. -/
theorem hit_eq (h64 : n ≤ 64) (b : Fin n) (j : Nat) (hj : j < n) (o c : EReal) [Decidable (c < o)] [Decidable (o = c)]
    (ho : o = f ⟨j, hj⟩) (hc : c = f b) :
    Scalar.select (IntOp.ori (BitVec.ofBool (decide (c < o))) (IntOp.andi (BitVec.ofBool (decide (o = c)))
      (IntOp.cmpi .sgt (BitVec.ofNat 32 b.val) (BitVec.ofNat 32 j)))) 1#32 0#32
      = BitVec.ofNat 32 (if Prec f ⟨j, hj⟩ b then 1 else 0) := by
  have hb := b.isLt
  have hs : (BitVec.ofNat 32 j).slt (BitVec.ofNat 32 b.val) = decide ((⟨j, hj⟩ : Fin n) < b) :=
    slt_ofNat _ _ (by omega) (by omega)
  subst ho hc
  unfold IntOp.cmpi IntOp.ori IntOp.andi Scalar.select Prec
  dsimp only
  rw [hs]
  by_cases h1 : f b < f ⟨j, hj⟩ <;> by_cases h2 : f ⟨j, hj⟩ = f b <;> by_cases h3 : (⟨j, hj⟩ : Fin n) < b <;>
    simp [h1, h2, h3]

/-- One round of the kernel's counting. -/
theorem step (h64 : n ≤ 64) (b : Fin n) (j : Nat) (hj : j < n) (o c : EReal) (x : BitVec 32)
    {d1 : Decidable (c < o)} {d2 : Decidable (o = c)} (ho : o = f ⟨j, hj⟩) (hc : c = f b)
    (hx : x = BitVec.ofNat 32 (upto f b j)) :
    IntOp.addi x (Scalar.select (IntOp.ori (BitVec.ofBool (decide (c < o))) (IntOp.andi (BitVec.ofBool (decide (o = c)))
      (IntOp.cmpi .sgt (BitVec.ofNat 32 b.val) (BitVec.ofNat 32 j)))) 1#32 0#32)
      = BitVec.ofNat 32 (upto f b (j + 1)) := by
  rw [hit_eq f h64 b j hj o c ho hc, hx, upto, dif_pos hj]
  exact (BitVec.ofNat_add _ _).symm

/-- The kernel's test of a finished count. -/
theorem count_lt (h64 : n ≤ 64) (b : Fin n) (K : Nat) (hK : K ≤ 64) (x y : EReal) :
    Scalar.select (IntOp.cmpi .slt (BitVec.ofNat 32 (upto f b n)) (BitVec.ofNat 32 K)) x y = if rk f b < K then x else y := by
  have hr := (rk_lt f b).trans h64
  rw [upto_all]
  have hs : (BitVec.ofNat 32 (rk f b)).slt (BitVec.ofNat 32 K) = decide (rk f b < K) :=
    slt_ofNat _ _ (by omega) (by omega)
  unfold IntOp.cmpi Scalar.select
  dsimp only
  rw [hs]
  by_cases h : rk f b < K <;> simp [h]

/-- The smaller of two small words. -/
theorem minsi_ofNat (a b : Nat) (ha : a < 2 ^ 31) (hb : b < 2 ^ 31) :
    IntOp.minsi (BitVec.ofNat 32 a) (BitVec.ofNat 32 b) = BitVec.ofNat 32 (min a b) := by
  have hs : (BitVec.ofNat 32 a).slt (BitVec.ofNat 32 b) = decide (a < b) :=
    slt_ofNat _ _ (by omega) (by omega)
  unfold IntOp.minsi
  rw [hs]
  by_cases h : a < b
  · simp [h, min_eq_left h.le]
  · simp [h, min_eq_right (not_lt.mp h)]

/-- The least of small words is the word of the least. -/
theorem fold_minsi (g : Fin n → Nat) (hg : ∀ a, g a < 2 ^ 31) (s : Finset (Fin n)) :
    Finset.fold IntOp.minsi (2147483647#32) (fun a => BitVec.ofNat 32 (g a)) s = BitVec.ofNat 32 (Finset.fold min 2147483647 g s)
      ∧ Finset.fold min 2147483647 g s < 2 ^ 31 := by
  induction s using Finset.induction_on with
  | empty => exact ⟨rfl, by rw [Finset.fold_empty]; norm_num⟩
  | insert a s ha ih =>
    rw [Finset.fold_insert ha, Finset.fold_insert ha, ih.1]
    exact ⟨minsi_ofNat _ _ (hg a) ih.2, lt_of_le_of_lt (min_le_left _ _) (hg a)⟩

/-- The greatest value is the first of the sort. -/
theorem fold_max_eq (h : 0 < n) : Finset.fold max (⊥ : EReal) f Finset.univ = f (pos f ⟨0, h⟩) := by
  refine le_antisymm ?_ ?_
  · exact (Finset.fold_max_le _).mpr ⟨bot_le, fun a _ => le_pos_zero f h a⟩
  · exact (Finset.le_fold_max _).mpr (Or.inr ⟨_, Finset.mem_univ _, le_rfl⟩)

/-- The lowest position of the greatest value is the first of the sort. -/
theorem fold_min_eq (h : 0 < n) (h8 : n = 8) [∀ a : Fin n, Decidable (f a = f (pos f ⟨0, h⟩))] :
    Finset.fold IntOp.minsi (2147483647#32) (fun a : Fin n => if f a = f (pos f ⟨0, h⟩) then BitVec.ofNat 32 a.val else 8#32) Finset.univ
      = BitVec.ofNat 32 (pos f ⟨0, h⟩).val := by
  have e : (fun a : Fin n => if f a = f (pos f ⟨0, h⟩) then BitVec.ofNat 32 a.val else 8#32)
      = fun a => BitVec.ofNat 32 (if f a = f (pos f ⟨0, h⟩) then a.val else 8) := by
    funext a; split <;> rfl
  have hg : ∀ a : Fin n, (if f a = f (pos f ⟨0, h⟩) then a.val else 8) < 2 ^ 31 := by
    intro a; have := a.isLt; split <;> omega
  rw [e, (fold_minsi (fun a : Fin n => if f a = f (pos f ⟨0, h⟩) then a.val else 8) hg Finset.univ).1]
  congr 1
  have hp := (pos f ⟨0, h⟩).isLt
  refine le_antisymm ?_ ?_
  · exact (Finset.fold_min_le _).mpr (Or.inr ⟨pos f ⟨0, h⟩, Finset.mem_univ _, by rw [if_pos rfl]⟩)
  · refine (Finset.le_fold_min _).mpr ⟨by omega, fun a _ => ?_⟩
    split
    · next ha => exact pos_zero_le f h a ha
    · omega

/-- The greatest value of the rest is the second of the sort. -/
theorem fold_rest_eq (h : 1 < n) (h8 : n = 8) :
    Finset.fold max (⊥ : EReal) (fun a : Fin n => Scalar.select (IntOp.cmpi .eq (BitVec.ofNat 32 a.val)
      (BitVec.ofNat 32 (pos f ⟨0, by omega⟩).val)) (⊥ : EReal) (f a)) Finset.univ = f (pos f ⟨1, h⟩) := by
  have e : ∀ a : Fin n, Scalar.select (IntOp.cmpi .eq (BitVec.ofNat 32 a.val) (BitVec.ofNat 32 (pos f ⟨0, by omega⟩).val))
      (⊥ : EReal) (f a) = if a = pos f ⟨0, by omega⟩ then ⊥ else f a := by
    intro a
    have ha := a.isLt
    have hp := (pos f ⟨0, by omega⟩).isLt
    have hs : (BitVec.ofNat 32 a.val == BitVec.ofNat 32 (pos f ⟨0, by omega⟩).val) = decide (a = pos f ⟨0, by omega⟩) := by
      rw [beq_eq_decide]
      refine decide_eq_decide.mpr ⟨fun he => Fin.ext ?_, fun he => by rw [he]⟩
      have := congrArg BitVec.toNat he
      rw [BitVec.toNat_ofNat, BitVec.toNat_ofNat] at this
      omega
    unfold IntOp.cmpi Scalar.select
    dsimp only
    rw [hs]
    by_cases h : a = pos f ⟨0, by omega⟩ <;> simp [h]
  simp only [e]
  refine le_antisymm ?_ ?_
  · refine (Finset.fold_max_le _).mpr ⟨bot_le, fun a _ => ?_⟩
    split
    · exact bot_le
    · next ha => exact le_pos_one f h a ha
  · exact (Finset.le_fold_max _).mpr (Or.inr ⟨pos f ⟨1, h⟩, Finset.mem_univ _, by rw [if_neg (pos_one_ne f h)]⟩)

/-- Eight groups of eight are sixty-four. -/
theorem sum_groups (g : Fin 64 → EReal) :
    ∑ a : Fin 8, ∑ b : Fin 8, g ⟨a.val * 8 + b.val, by omega⟩ = ∑ e : Fin 64, g e := by
  rw [← Fintype.sum_prod_type']
  refine Fintype.sum_equiv (finProdFinEquiv (m := 8) (n := 8)) _ _ fun p => congrArg g (Fin.ext ?_)
  show p.1.val * 8 + p.2.val = p.2.val + 8 * p.1.val
  omega

/-! ## The routing of one token -/

theorem bits_neg_inf : Ideal.ofBits .f32 0xFF800000#32 = (⊥ : EReal) := by simp [Ideal.ofBits, Ideal.ieee]

/-- A group's score: its greatest biased score and its second. -/
def groupScore (b : Fin 64 → EReal) (g : Fin 8) : EReal :=
  b ⟨g.val * 8 + (pos (fun e : Fin 8 => b ⟨g.val * 8 + e.val, by omega⟩) 0).val, by omega⟩
    + b ⟨g.val * 8 + (pos (fun e : Fin 8 => b ⟨g.val * 8 + e.val, by omega⟩) 1).val, by omega⟩

/-- The biased score of an expert whose group is one of the four best, and nothing for the others. -/
def candidate (b : Fin 64 → EReal) (a : Fin 64) : EReal :=
  if rk (groupScore b) ⟨a.val / 8, by omega⟩ < 4 then b a else ⊥

/-- The sum of the scores of the eight best candidates. -/
def total (s c : Fin 64 → EReal) : EReal := ∑ a : Fin 64, if rk c a < 8 then s a else 0

/-- The routing weight of an expert: its score over that sum, times the scale, if it is one of the eight. -/
def weight (s c : Fin 64 → EReal) (e : Fin 64) : EReal :=
  Ideal.div (if rk c e < 8 then s e else 0) (total s c) * Ideal.ofBits .f32 0x40200000#32

end Cert.SelIdeal.Rank

end
-- ==== Proof.SelPay.lean ====
/-
  What one grid point of the routing kernel computes, read at an index over the extended reals: the scores, the group
  scores, the two countings of how many come before (one among the eight groups, one among the sixty-four experts), and
  the normalised weights.
-/
module

public import proofs.«01_k».proof.Proof.Gen.SelIdeal.Frame
public import proofs.«01_k».proof.Proof.SelRank
public import Idealize.ShloMosaic.Lib.Pointwise

@[expose] public section

set_option maxRecDepth 16384

noncomputable section

namespace Cert.SelIdeal.Pay

open Cert.SelIdeal Cert.SelIdeal.Gen Cert.SelIdeal.Rank Idealize.ShloMosaic Idealize.ShloMosaic.TcCoe Idealize.SL.Sem

/-- The sixty-four values of a token, in the experts' order. -/
def flat (v : FVec Ideal S8x8x512 .f32) (l : Fin 512) (a : Fin 64) : EReal :=
  v (ix3 ⟨a.val / 8, by omega⟩ ⟨a.val % 8, by omega⟩ l)

theorem flat_lit (v : FVec Ideal S8x8x512 .f32) (l : Fin 512) (g e : Fin 8) (j : Nat) (h : g.val * 8 + e.val = j) (hj : j < 64) :
    v (ix3 g e l) = flat v l ⟨j, hj⟩ := by
  subst h
  unfold flat
  congr 2
  · exact Fin.ext (by show g.val = (g.val * 8 + e.val) / 8; omega)
  · exact Fin.ext (by show e.val = (g.val * 8 + e.val) % 8; omega)

theorem flat_at (v : FVec Ideal S8x8x512 .f32) (l : Fin 512) (g e : Fin 8) :
    v (ix3 g e l) = flat v l ⟨g.val * 8 + e.val, by omega⟩ := by
  unfold flat
  congr 2
  · exact Fin.ext (by show g.val = (g.val * 8 + e.val) / 8; omega)
  · exact Fin.ext (by show e.val = (g.val * 8 + e.val) % 8; omega)

/-- The first three experts counted. -/
theorem pay13_apply (v8 v138 : IVec S8x8x512 32) (v135 : FVec Ideal S8x8x512 .f32) (g e : Fin 8) (l : Fin 512)
    (hf : IntOp.addi (v138 (ix3 g e l)) (v8 (ix3 g e l)) = BitVec.ofNat 32 (g.val * 8 + e.val)) :
    k0_pay13 v8 v135 v138 (ix3 g e l) = BitVec.ofNat 32 (upto (flat v135 l) ⟨g.val * 8 + e.val, by omega⟩ 3) := by
  pointwise [k0_pay13, k0_pay12]
  rw [hf]
  exact (step (flat v135 l) (by decide) ⟨g.val * 8 + e.val, by omega⟩ 2 (by decide) _ _ _ (flat_lit v135 l 0 2 2 rfl (by decide)) (flat_at v135 l g e) (step (flat v135 l) (by decide) ⟨g.val * 8 + e.val, by omega⟩ 1 (by decide) _ _ _ (flat_lit v135 l 0 1 1 rfl (by decide)) (flat_at v135 l g e) (step (flat v135 l) (by decide) ⟨g.val * 8 + e.val, by omega⟩ 0 (by decide) _ _ _ (flat_lit v135 l 0 0 0 rfl (by decide)) (flat_at v135 l g e) rfl)))

/-- The experts before the 7th counted. -/
theorem pay17_apply (v8 v138 : IVec S8x8x512 32) (v135 : FVec Ideal S8x8x512 .f32) (v139 X : IVec S8x8x512 32) (g e : Fin 8) (l : Fin 512)
    (hf : v139 (ix3 g e l) = BitVec.ofNat 32 (g.val * 8 + e.val))
    (hf' : IntOp.addi (v138 (ix3 g e l)) (v8 (ix3 g e l)) = BitVec.ofNat 32 (g.val * 8 + e.val))
    (hX : X (ix3 g e l) = BitVec.ofNat 32 (upto (flat v135 l) ⟨g.val * 8 + e.val, by omega⟩ 3)) :
    k0_pay17 v135 v139 X (k0_pay15 v135) (k0_pay16 v8 v135 v138) (ix3 g e l)
      = BitVec.ofNat 32 (upto (flat v135 l) ⟨g.val * 8 + e.val, by omega⟩ 7) := by
  pointwise [k0_pay17, k0_pay15, k0_pay16, k0_pay14, k0_pay12]
  rw [hf, hf']
  exact (step (flat v135 l) (by decide) ⟨g.val * 8 + e.val, by omega⟩ 6 (by decide) _ _ _ (flat_lit v135 l 0 6 6 rfl (by decide)) (flat_at v135 l g e) (step (flat v135 l) (by decide) ⟨g.val * 8 + e.val, by omega⟩ 5 (by decide) _ _ _ (flat_lit v135 l 0 5 5 rfl (by decide)) (flat_at v135 l g e) (step (flat v135 l) (by decide) ⟨g.val * 8 + e.val, by omega⟩ 4 (by decide) _ _ _ (flat_lit v135 l 0 4 4 rfl (by decide)) (flat_at v135 l g e) (step (flat v135 l) (by decide) ⟨g.val * 8 + e.val, by omega⟩ 3 (by decide) _ _ _ (flat_lit v135 l 0 3 3 rfl (by decide)) (flat_at v135 l g e) hX))))

/-- The experts before number 11 counted. -/
theorem pay21_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 7)) :
    k0_pay21 v135 v139 X (k0_pay19 v135) (k0_pay20 v135) (ix3 g e l)
      = BitVec.ofNat 32 (upto (flat v135 l) ⟨g.val * 8 + e.val, by omega⟩ 11) := by
  pointwise [k0_pay21, k0_pay19, k0_pay20, k0_pay18]
  rw [hf]
  exact (step (flat v135 l) (by decide) ⟨g.val * 8 + e.val, by omega⟩ 10 (by decide) _ _ _ (flat_lit v135 l 1 2 10 rfl (by decide)) (flat_at v135 l g e) (step (flat v135 l) (by decide) ⟨g.val * 8 + e.val, by omega⟩ 9 (by decide) _ _ _ (flat_lit v135 l 1 1 9 rfl (by decide)) (flat_at v135 l g e) (step (flat v135 l) (by decide) ⟨g.val * 8 + e.val, by omega⟩ 8 (by decide) _ _ _ (flat_lit v135 l 1 0 8 rfl (by decide)) (flat_at v135 l g e) (step (flat v135 l) (by decide) ⟨g.val * 8 + e.val, by omega⟩ 7 (by decide) _ _ _ (flat_lit v135 l 0 7 7 rfl (by decide)) (flat_at v135 l g e) hX))))

/-- The experts before number 14 counted. -/
theorem pay23_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 11)) :
    k0_pay23 v135 v139 X (k0_pay22 v135) (ix3 g e l)
      = BitVec.ofNat 32 (upto (flat v135 l) ⟨g.val * 8 + e.val, by omega⟩ 14) := by
  pointwise [k0_pay23, k0_pay22]
  rw [hf]
  exact (step (flat v135 l) (by decide) ⟨g.val * 8 + e.val, by omega⟩ 13 (by decide) _ _ _ (flat_lit v135 l 1 5 13 rfl (by decide)) (flat_at v135 l g e) (step (flat v135 l) (by decide) ⟨g.val * 8 + e.val, by omega⟩ 12 (by decide) _ _ _ (flat_lit v135 l 1 4 12 rfl (by decide)) (flat_at v135 l g e) (step (flat v135 l) (by decide) ⟨g.val * 8 + e.val, by omega⟩ 11 (by decide) _ _ _ (flat_lit v135 l 1 3 11 rfl (by decide)) (flat_at v135 l g e) hX)))

/-- The experts before number 18 counted. -/
theorem pay26_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 14)) :
    k0_pay26 v135 v139 X (k0_pay24 v135 v139) 0#32 k0_pay25 (ix3 g e l)
      = BitVec.ofNat 32 (upto (flat v135 l) ⟨g.val * 8 + e.val, by omega⟩ 18) := by
  pointwise [k0_pay26, k0_pay24, k0_pay25]
  rw [hf]
  exact (step (flat v135 l) (by decide) ⟨g.val * 8 + e.val, by omega⟩ 17 (by decide) _ _ _ (flat_lit v135 l 2 1 17 rfl (by decide)) (flat_at v135 l g e) (step (flat v135 l) (by decide) ⟨g.val * 8 + e.val, by omega⟩ 16 (by decide) _ _ _ (flat_lit v135 l 2 0 16 rfl (by decide)) (flat_at v135 l g e) (step (flat v135 l) (by decide) ⟨g.val * 8 + e.val, by omega⟩ 15 (by decide) _ _ _ (flat_lit v135 l 1 7 15 rfl (by decide)) (flat_at v135 l g e) (step (flat v135 l) (by decide) ⟨g.val * 8 + e.val, by omega⟩ 14 (by decide) _ _ _ (flat_lit v135 l 1 6 14 rfl (by decide)) (flat_at v135 l g e) hX))))

/-- The experts before number 22 counted. -/
theorem pay30_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 18)) :
    k0_pay30 v135 v139 X (k0_pay28 v135) (k0_pay29 v135 v139) (ix3 g e l)
      = BitVec.ofNat 32 (upto (flat v135 l) ⟨g.val * 8 + e.val, by omega⟩ 22) := by
  pointwise [k0_pay30, k0_pay27, k0_pay28, k0_pay29]
  rw [hf]
  exact (step (flat v135 l) (by decide) ⟨g.val * 8 + e.val, by omega⟩ 21 (by decide) _ _ _ (flat_lit v135 l 2 5 21 rfl (by decide)) (flat_at v135 l g e) (step (flat v135 l) (by decide) ⟨g.val * 8 + e.val, by omega⟩ 20 (by decide) _ _ _ (flat_lit v135 l 2 4 20 rfl (by decide)) (flat_at v135 l g e) (step (flat v135 l) (by decide) ⟨g.val * 8 + e.val, by omega⟩ 19 (by decide) _ _ _ (flat_lit v135 l 2 3 19 rfl (by decide)) (flat_at v135 l g e) (step (flat v135 l) (by decide) ⟨g.val * 8 + e.val, by omega⟩ 18 (by decide) _ _ _ (flat_lit v135 l 2 2 18 rfl (by decide)) (flat_at v135 l g e) hX))))

/-- The experts before number 26 counted. -/
theorem pay34_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 22)) :
    k0_pay34 v135 v139 X (k0_pay32 v135) (k0_pay33 v135) (ix3 g e l)
      = BitVec.ofNat 32 (upto (flat v135 l) ⟨g.val * 8 + e.val, by omega⟩ 26) := by
  pointwise [k0_pay34, k0_pay31, k0_pay32, k0_pay33]
  rw [hf]
  exact (step (flat v135 l) (by decide) ⟨g.val * 8 + e.val, by omega⟩ 25 (by decide) _ _ _ (flat_lit v135 l 3 1 25 rfl (by decide)) (flat_at v135 l g e) (step (flat v135 l) (by decide) ⟨g.val * 8 + e.val, by omega⟩ 24 (by decide) _ _ _ (flat_lit v135 l 3 0 24 rfl (by decide)) (flat_at v135 l g e) (step (flat v135 l) (by decide) ⟨g.val * 8 + e.val, by omega⟩ 23 (by decide) _ _ _ (flat_lit v135 l 2 7 23 rfl (by decide)) (flat_at v135 l g e) (step (flat v135 l) (by decide) ⟨g.val * 8 + e.val, by omega⟩ 22 (by decide) _ _ _ (flat_lit v135 l 2 6 22 rfl (by decide)) (flat_at v135 l g e) hX))))

/-- The experts before number 29 counted. -/
theorem pay36_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 26)) :
    k0_pay36 v135 v139 X (k0_pay35 v135) (ix3 g e l)
      = BitVec.ofNat 32 (upto (flat v135 l) ⟨g.val * 8 + e.val, by omega⟩ 29) := by
  pointwise [k0_pay36, k0_pay35]
  rw [hf]
  exact (step (flat v135 l) (by decide) ⟨g.val * 8 + e.val, by omega⟩ 28 (by decide) _ _ _ (flat_lit v135 l 3 4 28 rfl (by decide)) (flat_at v135 l g e) (step (flat v135 l) (by decide) ⟨g.val * 8 + e.val, by omega⟩ 27 (by decide) _ _ _ (flat_lit v135 l 3 3 27 rfl (by decide)) (flat_at v135 l g e) (step (flat v135 l) (by decide) ⟨g.val * 8 + e.val, by omega⟩ 26 (by decide) _ _ _ (flat_lit v135 l 3 2 26 rfl (by decide)) (flat_at v135 l g e) hX)))

/-- The experts before number 33 counted. -/
theorem pay39_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 29)) :
    k0_pay39 v135 v139 X (k0_pay37 v135 v139) 0#32 k0_pay38 (ix3 g e l)
      = BitVec.ofNat 32 (upto (flat v135 l) ⟨g.val * 8 + e.val, by omega⟩ 33) := by
  pointwise [k0_pay39, k0_pay37, k0_pay38]
  rw [hf]
  exact (step (flat v135 l) (by decide) ⟨g.val * 8 + e.val, by omega⟩ 32 (by decide) _ _ _ (flat_lit v135 l 4 0 32 rfl (by decide)) (flat_at v135 l g e) (step (flat v135 l) (by decide) ⟨g.val * 8 + e.val, by omega⟩ 31 (by decide) _ _ _ (flat_lit v135 l 3 7 31 rfl (by decide)) (flat_at v135 l g e) (step (flat v135 l) (by decide) ⟨g.val * 8 + e.val, by omega⟩ 30 (by decide) _ _ _ (flat_lit v135 l 3 6 30 rfl (by decide)) (flat_at v135 l g e) (step (flat v135 l) (by decide) ⟨g.val * 8 + e.val, by omega⟩ 29 (by decide) _ _ _ (flat_lit v135 l 3 5 29 rfl (by decide)) (flat_at v135 l g e) hX))))

/-- The experts before number 37 counted. -/
theorem pay43_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 33)) :
    k0_pay43 v135 v139 X (k0_pay41 v135) (k0_pay42 v135 v139) (ix3 g e l)
      = BitVec.ofNat 32 (upto (flat v135 l) ⟨g.val * 8 + e.val, by omega⟩ 37) := by
  pointwise [k0_pay43, k0_pay40, k0_pay41, k0_pay42]
  rw [hf]
  exact (step (flat v135 l) (by decide) ⟨g.val * 8 + e.val, by omega⟩ 36 (by decide) _ _ _ (flat_lit v135 l 4 4 36 rfl (by decide)) (flat_at v135 l g e) (step (flat v135 l) (by decide) ⟨g.val * 8 + e.val, by omega⟩ 35 (by decide) _ _ _ (flat_lit v135 l 4 3 35 rfl (by decide)) (flat_at v135 l g e) (step (flat v135 l) (by decide) ⟨g.val * 8 + e.val, by omega⟩ 34 (by decide) _ _ _ (flat_lit v135 l 4 2 34 rfl (by decide)) (flat_at v135 l g e) (step (flat v135 l) (by decide) ⟨g.val * 8 + e.val, by omega⟩ 33 (by decide) _ _ _ (flat_lit v135 l 4 1 33 rfl (by decide)) (flat_at v135 l g e) hX))))

/-- The experts before number 41 counted. -/
theorem pay47_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 37)) :
    k0_pay47 v135 v139 X (k0_pay45 v135) (k0_pay46 v135) (ix3 g e l)
      = BitVec.ofNat 32 (upto (flat v135 l) ⟨g.val * 8 + e.val, by omega⟩ 41) := by
  pointwise [k0_pay47, k0_pay44, k0_pay45, k0_pay46]
  rw [hf]
  exact (step (flat v135 l) (by decide) ⟨g.val * 8 + e.val, by omega⟩ 40 (by decide) _ _ _ (flat_lit v135 l 5 0 40 rfl (by decide)) (flat_at v135 l g e) (step (flat v135 l) (by decide) ⟨g.val * 8 + e.val, by omega⟩ 39 (by decide) _ _ _ (flat_lit v135 l 4 7 39 rfl (by decide)) (flat_at v135 l g e) (step (flat v135 l) (by decide) ⟨g.val * 8 + e.val, by omega⟩ 38 (by decide) _ _ _ (flat_lit v135 l 4 6 38 rfl (by decide)) (flat_at v135 l g e) (step (flat v135 l) (by decide) ⟨g.val * 8 + e.val, by omega⟩ 37 (by decide) _ _ _ (flat_lit v135 l 4 5 37 rfl (by decide)) (flat_at v135 l g e) hX))))

/-- The experts before number 44 counted. -/
theorem pay49_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 41)) :
    k0_pay49 v135 v139 X (k0_pay48 v135) (ix3 g e l)
      = BitVec.ofNat 32 (upto (flat v135 l) ⟨g.val * 8 + e.val, by omega⟩ 44) := by
  pointwise [k0_pay49, k0_pay48]
  rw [hf]
  exact (step (flat v135 l) (by decide) ⟨g.val * 8 + e.val, by omega⟩ 43 (by decide) _ _ _ (flat_lit v135 l 5 3 43 rfl (by decide)) (flat_at v135 l g e) (step (flat v135 l) (by decide) ⟨g.val * 8 + e.val, by omega⟩ 42 (by decide) _ _ _ (flat_lit v135 l 5 2 42 rfl (by decide)) (flat_at v135 l g e) (step (flat v135 l) (by decide) ⟨g.val * 8 + e.val, by omega⟩ 41 (by decide) _ _ _ (flat_lit v135 l 5 1 41 rfl (by decide)) (flat_at v135 l g e) hX)))

/-- The experts before number 48 counted. -/
theorem pay52_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 44)) :
    k0_pay52 v135 v139 X (k0_pay50 v135 v139) 0#32 k0_pay51 (ix3 g e l)
      = BitVec.ofNat 32 (upto (flat v135 l) ⟨g.val * 8 + e.val, by omega⟩ 48) := by
  pointwise [k0_pay52, k0_pay50, k0_pay51]
  rw [hf]
  exact (step (flat v135 l) (by decide) ⟨g.val * 8 + e.val, by omega⟩ 47 (by decide) _ _ _ (flat_lit v135 l 5 7 47 rfl (by decide)) (flat_at v135 l g e) (step (flat v135 l) (by decide) ⟨g.val * 8 + e.val, by omega⟩ 46 (by decide) _ _ _ (flat_lit v135 l 5 6 46 rfl (by decide)) (flat_at v135 l g e) (step (flat v135 l) (by decide) ⟨g.val * 8 + e.val, by omega⟩ 45 (by decide) _ _ _ (flat_lit v135 l 5 5 45 rfl (by decide)) (flat_at v135 l g e) (step (flat v135 l) (by decide) ⟨g.val * 8 + e.val, by omega⟩ 44 (by decide) _ _ _ (flat_lit v135 l 5 4 44 rfl (by decide)) (flat_at v135 l g e) hX))))

/-- The experts before number 52 counted. -/
theorem pay56_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 48)) :
    k0_pay56 v135 v139 X (k0_pay54 v135) (k0_pay55 v135 v139) (ix3 g e l)
      = BitVec.ofNat 32 (upto (flat v135 l) ⟨g.val * 8 + e.val, by omega⟩ 52) := by
  pointwise [k0_pay56, k0_pay53, k0_pay54, k0_pay55]
  rw [hf]
  exact (step (flat v135 l) (by decide) ⟨g.val * 8 + e.val, by omega⟩ 51 (by decide) _ _ _ (flat_lit v135 l 6 3 51 rfl (by decide)) (flat_at v135 l g e) (step (flat v135 l) (by decide) ⟨g.val * 8 + e.val, by omega⟩ 50 (by decide) _ _ _ (flat_lit v135 l 6 2 50 rfl (by decide)) (flat_at v135 l g e) (step (flat v135 l) (by decide) ⟨g.val * 8 + e.val, by omega⟩ 49 (by decide) _ _ _ (flat_lit v135 l 6 1 49 rfl (by decide)) (flat_at v135 l g e) (step (flat v135 l) (by decide) ⟨g.val * 8 + e.val, by omega⟩ 48 (by decide) _ _ _ (flat_lit v135 l 6 0 48 rfl (by decide)) (flat_at v135 l g e) hX))))

/-- The experts before number 56 counted. -/
theorem pay60_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 52)) :
    k0_pay60 v135 v139 X (k0_pay58 v135) (k0_pay59 v135) (ix3 g e l)
      = BitVec.ofNat 32 (upto (flat v135 l) ⟨g.val * 8 + e.val, by omega⟩ 56) := by
  pointwise [k0_pay60, k0_pay57, k0_pay58, k0_pay59]
  rw [hf]
  exact (step (flat v135 l) (by decide) ⟨g.val * 8 + e.val, by omega⟩ 55 (by decide) _ _ _ (flat_lit v135 l 6 7 55 rfl (by decide)) (flat_at v135 l g e) (step (flat v135 l) (by decide) ⟨g.val * 8 + e.val, by omega⟩ 54 (by decide) _ _ _ (flat_lit v135 l 6 6 54 rfl (by decide)) (flat_at v135 l g e) (step (flat v135 l) (by decide) ⟨g.val * 8 + e.val, by omega⟩ 53 (by decide) _ _ _ (flat_lit v135 l 6 5 53 rfl (by decide)) (flat_at v135 l g e) (step (flat v135 l) (by decide) ⟨g.val * 8 + e.val, by omega⟩ 52 (by decide) _ _ _ (flat_lit v135 l 6 4 52 rfl (by decide)) (flat_at v135 l g e) hX))))

/-- The experts before number 59 counted. -/
theorem pay62_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 56)) :
    k0_pay62 v135 v139 X (k0_pay61 v135) (ix3 g e l)
      = BitVec.ofNat 32 (upto (flat v135 l) ⟨g.val * 8 + e.val, by omega⟩ 59) := by
  pointwise [k0_pay62, k0_pay61]
  rw [hf]
  exact (step (flat v135 l) (by decide) ⟨g.val * 8 + e.val, by omega⟩ 58 (by decide) _ _ _ (flat_lit v135 l 7 2 58 rfl (by decide)) (flat_at v135 l g e) (step (flat v135 l) (by decide) ⟨g.val * 8 + e.val, by omega⟩ 57 (by decide) _ _ _ (flat_lit v135 l 7 1 57 rfl (by decide)) (flat_at v135 l g e) (step (flat v135 l) (by decide) ⟨g.val * 8 + e.val, by omega⟩ 56 (by decide) _ _ _ (flat_lit v135 l 7 0 56 rfl (by decide)) (flat_at v135 l g e) hX)))

/-- The experts before number 63 counted. -/
theorem pay65_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 59)) :
    k0_pay65 v135 v139 X (k0_pay63 v135 v139) 0#32 k0_pay64 (ix3 g e l)
      = BitVec.ofNat 32 (upto (flat v135 l) ⟨g.val * 8 + e.val, by omega⟩ 63) := by
  pointwise [k0_pay65, k0_pay63, k0_pay64]
  rw [hf]
  exact (step (flat v135 l) (by decide) ⟨g.val * 8 + e.val, by omega⟩ 62 (by decide) _ _ _ (flat_lit v135 l 7 6 62 rfl (by decide)) (flat_at v135 l g e) (step (flat v135 l) (by decide) ⟨g.val * 8 + e.val, by omega⟩ 61 (by decide) _ _ _ (flat_lit v135 l 7 5 61 rfl (by decide)) (flat_at v135 l g e) (step (flat v135 l) (by decide) ⟨g.val * 8 + e.val, by omega⟩ 60 (by decide) _ _ _ (flat_lit v135 l 7 4 60 rfl (by decide)) (flat_at v135 l g e) (step (flat v135 l) (by decide) ⟨g.val * 8 + e.val, by omega⟩ 59 (by decide) _ _ _ (flat_lit v135 l 7 3 59 rfl (by decide)) (flat_at v135 l g e) hX))))

/-- The whole count of the experts before this one, as the last store reads it. -/
theorem count_apply (v135 : FVec Ideal S8x8x512 .f32) (v139 X : IVec S8x8x512 32) (g e : Fin 8) (l : Fin 512)
    (hf : v139 (ix3 g e l) = BitVec.ofNat 32 (g.val * 8 + e.val))
    (hX : X (ix3 g e l) = BitVec.ofNat 32 (upto (flat v135 l) ⟨g.val * 8 + e.val, by omega⟩ 63)) :
    IntOp.addi (X (ix3 g e l)) (Scalar.select (IntOp.ori (k0_pay67 v135 (ix3 g e l)) (k0_pay68 v135 v139 (ix3 g e l))) 1#32 0#32)
      = BitVec.ofNat 32 (upto (flat v135 l) ⟨g.val * 8 + e.val, by omega⟩ 64) := by
  pointwise [k0_pay67, k0_pay68, k0_pay66]
  rw [hf]
  exact (step (flat v135 l) (by decide) ⟨g.val * 8 + e.val, by omega⟩ 63 (by decide) _ _ _ (flat_lit v135 l 7 7 63 rfl (by decide)) (flat_at v135 l g e) hX)

/-- The last store: the weights, sixty-four columns of them, and zeros. -/
theorem pay1_apply (v3 : FVec Ideal S8x8x512 .f32) (X : IVec S8x8x512 32) (A B : IVec S8x8x512 1) (c : Fin 64 → EReal) (l : Fin 512)
    (hX : ∀ g e : Fin 8, IntOp.addi (X (ix3 g e l)) (Scalar.select (IntOp.ori (A (ix3 g e l)) (B (ix3 g e l))) 1#32 0#32)
      = BitVec.ofNat 32 (upto c ⟨g.val * 8 + e.val, by omega⟩ 64)) (e : Fin 128) :
    k0_pay1 v3 X A B (ix2 l e) = if h : e.val < 64 then weight (flat v3 l) c ⟨e.val, h⟩ else 0 := by
  pointwise [k0_pay1]
  simp only [hX]
  simp only [count_lt c (by decide) _ 8 (by decide), flat_at v3 l]
  rw [sum_groups fun a => if rk c a < 8 then flat v3 l a else 0]
  split
  · next h =>
    have h2 : (⟨e.val / 8 * 8 + e.val % 8, by omega⟩ : Fin 64) = ⟨e.val, h⟩ := Fin.ext (by show e.val / 8 * 8 + e.val % 8 = e.val; omega)
    unfold weight total
    simp only [h2]
  · rfl

/-- The eight group scores of a token. -/
def groups (v : FVec Ideal S8x1x512 .f32) (l : Fin 512) (g : Fin 8) : EReal := v (ix3 g 0 l)

/-- A group's score: the sum of its two greatest. -/
theorem pay4_apply (v0 : Vec Ideal S1x64x512 .f32) (v4 : Vec Ideal S8x8x1 .f32) (y : FVec Ideal S8x8x512 .f32) (hy : k0_pay3 v0 v4 = y)
    (g : Fin 8) (l : Fin 512) :
    k0_pay4 v0 v4 (ix3 g 0 l) = y (ix3 g (pos (fun e => y (ix3 g e l)) 0) l) + y (ix3 g (pos (fun e => y (ix3 g e l)) 1) l) := by
  unfold k0_pay4
  rw [hy]
  pointwise
  rw [bits_neg_inf]
  have h1 := fold_max_eq (fun e : Fin 8 => y (ix3 g e l)) (by decide)
  have h2 := fold_min_eq (fun e : Fin 8 => y (ix3 g e l)) (by decide) rfl
  have h3 := fold_rest_eq (fun e : Fin 8 => y (ix3 g e l)) (by decide) rfl
  rw [h1]
  refine congrArg _ ?_
  refine Eq.trans ?_ h3
  refine congrArg (fun z => Finset.fold max (⊥ : EReal) (fun a : Fin 8 => Scalar.select (IntOp.cmpi .eq (BitVec.ofNat 32 a.val) z) (⊥ : EReal) (y (ix3 g a l))) Finset.univ) ?_
  exact h2

/-- The groups before this one counted, the first five. -/
theorem pay9_apply (v0 : Vec Ideal S1x64x512 .f32) (v4 : Vec Ideal S8x8x1 .f32) (v23 : FVec Ideal S8x1x512 .f32) (hv : k0_pay4 v0 v4 = v23)
    (v24 : IVec S8x1x512 32) (g : Fin 8) (l : Fin 512) (hf : v24 (ix3 g 0 l) = BitVec.ofNat 32 g.val) :
    k0_pay9 v23 v24 (k0_pay5 v0 v4) (k0_pay7 v0 v4) (k0_pay8 v0 v4) (ix3 g 0 l) = BitVec.ofNat 32 (upto (groups v23 l) g 5) := by
  unfold k0_pay5 k0_pay7 k0_pay8 k0_pay6
  rw [hv]
  pointwise [k0_pay9]
  rw [hf]
  exact (step (groups v23 l) (by decide) g 4 (by decide) _ _ _ rfl rfl (step (groups v23 l) (by decide) g 3 (by decide) _ _ _ rfl rfl (step (groups v23 l) (by decide) g 2 (by decide) _ _ _ rfl rfl (step (groups v23 l) (by decide) g 1 (by decide) _ _ _ rfl rfl (step (groups v23 l) (by decide) g 0 (by decide) _ _ _ rfl rfl rfl)))))

/-- The candidates: the biased scores of the experts of a group with fewer than four groups before it. -/
theorem pay10_apply (v7 : FVec Ideal S8x8x512 .f32) (v23 : FVec Ideal S8x1x512 .f32) (v24 X : IVec S8x1x512 32) (g e : Fin 8) (l : Fin 512)
    (hf : v24 (ix3 g 0 l) = BitVec.ofNat 32 g.val) (hX : X (ix3 g 0 l) = BitVec.ofNat 32 (upto (groups v23 l) g 5)) :
    k0_pay10 v7 v23 v24 X (ix3 g e l) = if rk (groups v23 l) g < 4 then v7 (ix3 g e l) else ⊥ := by
  pointwise [k0_pay10]
  rw [hf, bits_neg_inf]
  refine Eq.trans ?_ (count_lt (groups v23 l) (by decide) g 4 (by decide) _ _)
  refine congrArg (fun z => Scalar.select (IntOp.cmpi .slt z (BitVec.ofNat 32 4)) (v7 (ix3 g e l) : EReal) ⊥) ?_
  exact (step (groups v23 l) (by decide) g 7 (by decide) _ _ _ rfl rfl (step (groups v23 l) (by decide) g 6 (by decide) _ _ _ rfl rfl (step (groups v23 l) (by decide) g 5 (by decide) _ _ _ rfl rfl hX)))

theorem pay2_apply (v0 : Vec Ideal S1x64x512 .f32) (g e : Fin 8) (l : Fin 512) :
    k0_pay2 v0 (ix3 g e l) = Ideal.logistic (v0 (ix3 0 ⟨g.val * 8 + e.val, by omega⟩ l)) := by
  pointwise [k0_pay2]

theorem pay3_apply (v0 : Vec Ideal S1x64x512 .f32) (v4 : Vec Ideal S8x8x1 .f32) (g e : Fin 8) (l : Fin 512) :
    k0_pay3 v0 v4 (ix3 g e l) = Ideal.logistic (v0 (ix3 0 ⟨g.val * 8 + e.val, by omega⟩ l)) + v4 (ix3 g e 0) := by
  pointwise [k0_pay3, k0_pay2]

end Cert.SelIdeal.Pay

end
-- ==== Proof.SelBlocks.lean ====
/-
  The blocks a grid point of the routing reads, and what the point leaves, as entries of the program's arguments.
-/
module

public import proofs.«01_k».proof.Proof.Gen.SelIdeal.Value
public import proofs.«01_k».proof.Proof.SelPay
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.SelIdeal.Blocks

open Cert.SelIdeal Cert.SelIdeal.Gen Cert.SelIdeal.Pay Cert.SelIdeal.Rank Idealize.ShloMosaic Idealize.ShloMosaic.TcCoe Idealize.SL.Sem

theorem ld0 (x : Vec Ideal S1x64x512 .f32) : View.ld x r0_0 = x := View.ld_unit_lit _ x (by decide)

theorem ld1 (x : Vec Ideal S8x8x1 .f32) : View.ld x r0_1 = x := View.ld_unit_lit _ x (by decide)

/-- What one grid point leaves in its block: the routing weights of its tokens, one token to a row. -/
theorem out_apply (x0 : Vec Ideal S1x64x512 .f32) (x1 : Vec Ideal S8x8x1 .f32) (s b : Fin 64 → EReal) (l : Fin 512)
    (hs : ∀ g e : Fin 8, Ideal.logistic (x0 (ix3 0 ⟨g.val * 8 + e.val, by omega⟩ l)) = s ⟨g.val * 8 + e.val, by omega⟩)
    (hb : ∀ g e : Fin 8, s ⟨g.val * 8 + e.val, by omega⟩ + x1 (ix3 g e 0) = b ⟨g.val * 8 + e.val, by omega⟩) (e : Fin 128) :
    out0_2 x0 x1 (ix2 l e) = if h : e.val < 64 then weight s (candidate b) ⟨e.val, h⟩ else 0 := by
  have split : ∀ a : Fin 64, (⟨a.val / 8 * 8 + a.val % 8, by omega⟩ : Fin 64) = a := fun a => Fin.ext (by show a.val / 8 * 8 + a.val % 8 = a.val; omega)
  have h70 : ∀ g : Fin 8, k0_pay70 x0 x1 (ix3 g 0 l) = BitVec.ofNat 32 g.val := fun g => by pointwise [k0_pay70]
  have h139' : ∀ g e : Fin 8, IntOp.addi (k0_pay73 x0 x1 (ix3 g e l)) (k0_pay69 x0 x1 (ix3 g e l)) = BitVec.ofNat 32 (g.val * 8 + e.val) := fun g e => by
    pointwise [k0_pay73, k0_pay70, k0_pay11, k0_pay69]
    unfold IntOp.addi IntOp.muli
    rw [BitVec.ofNat_add, BitVec.ofNat_mul]
  have h139 : ∀ g e : Fin 8, k0_pay74 x0 x1 (ix3 g e l) = BitVec.ofNat 32 (g.val * 8 + e.val) := fun g e => by
    refine Eq.trans ?_ (h139' g e)
    unfold k0_pay74
    pointwise [k0_pay12]
  have h3 : ∀ g e : Fin 8, k0_pay3 x0 x1 (ix3 g e l) = b ⟨g.val * 8 + e.val, by omega⟩ := fun g e => by
    rw [pay3_apply, hs, hb]
  have h71 : groups (k0_pay71 x0 x1) l = groupScore b := by
    funext g
    unfold groups groupScore k0_pay71
    rw [ld0, ld1, pay4_apply x0 x1 _ rfl g l]
    have e3 : (fun e : Fin 8 => k0_pay3 x0 x1 (ix3 g e l)) = fun e => b ⟨g.val * 8 + e.val, by omega⟩ := funext fun e => h3 g e
    rw [e3, h3, h3]
  have h72 : flat (k0_pay72 x0 x1) l = candidate b := by
    funext a
    unfold flat candidate k0_pay72
    rw [ld0, ld1, pay10_apply _ _ _ _ _ _ _ (h70 _) (pay9_apply x0 x1 _ (by unfold k0_pay71; rw [ld0, ld1]) _ _ _ (h70 _)), h71, h3]
    simp only [split]
  have h2 : flat (k0_pay2 x0) l = s := by
    funext a
    unfold flat
    rw [pay2_apply, hs]
    simp only [split]
  unfold out0_2
  rw [show ∀ w : Vec Ideal S512x128 .f32, View.canon [⟨r0_2, w⟩] = w from fun w => View.canon_cons_unit_lit _ w [] (by decide), ld0]
  refine (pay1_apply (k0_pay2 x0) _ _ _ (flat (k0_pay72 x0 x1) l) l (fun g e => count_apply _ _ _ g e l (h139 g e) ?_) e).trans ?_
  · exact (pay65_apply _ _ _ g e l (h139 g e) (pay62_apply _ _ _ g e l (h139 g e) (pay60_apply _ _ _ g e l (h139 g e) (pay56_apply _ _ _ g e l (h139 g e) (pay52_apply _ _ _ g e l (h139 g e) (pay49_apply _ _ _ g e l (h139 g e) (pay47_apply _ _ _ g e l (h139 g e) (pay43_apply _ _ _ g e l (h139 g e) (pay39_apply _ _ _ g e l (h139 g e) (pay36_apply _ _ _ g e l (h139 g e) (pay34_apply _ _ _ g e l (h139 g e) (pay30_apply _ _ _ g e l (h139 g e) (pay26_apply _ _ _ g e l (h139 g e) (pay23_apply _ _ _ g e l (h139 g e) (pay21_apply _ _ _ g e l (h139 g e) (pay17_apply _ _ _ _ _ g e l (h139 g e) (h139' g e) (pay13_apply _ _ _ g e l (h139' g e))))))))))))))))))
  · rw [h2, h72]

/-- Where the blocks stand: the sequence is `t / 8`, the tile of tokens `t % 8`. -/
theorem idx : ∀ t : Fin grid0.N,
    win0_0.index t = ![t.val / 8, 0, t.val % 8] ∧ win0_1.index t = ![0, 0, 0] ∧ win0_2.index t = ![t.val, 0] := by decide +kernel

variable (m : (ℓ : Loc nD τ sig) → Buf (Elt Ideal) ℓ)

/-- The sequence of point `n`. -/
def seq (n : ℕ) (h : n < cfg0.N) : Fin 16 := ⟨n / 8, by have := lt_of_lt_of_eq h N_0; omega⟩

/-- The place in the sequence of token `l` of point `n`'s tile. -/
def row (n : ℕ) (l : Fin 512) : Fin 4096 := ⟨512 * (n % 8) + l.val, by have := l.isLt; omega⟩

theorem e1 (c : Dev nD) (g e : Fin 8) :
    V m c main_v1 (ix3 g e 0) = m ((c : Thread nD τ).loc main_arg1) (ix2 0 ⟨g.val * 8 + e.val, by omega⟩) := by
  unfold V
  simp only [hostOps0, List.flatten_cons, List.flatten_nil, List.append_nil, List.cons_append, List.nil_append]
  entry_read
  pointwise

theorem b0 (c : Dev nD) (t : Fin cfg0.N) (e : Fin 64) (l : Fin 512) :
    iblk m c 0 t (ix3 0 e l) = m ((c : Thread nD τ).loc main_arg0) (ix3 (seq t.val t.isLt) e (row t.val l)) := by
  unfold row seq
  blk_ext! [iblk, V, idx t]

theorem b1 (c : Dev nD) (t : Fin cfg0.N) (g e : Fin 8) :
    iblk m c 1 t (ix3 g e 0) = m ((c : Thread nD τ).loc main_arg1) (ix2 0 ⟨g.val * 8 + e.val, by omega⟩) := by
  refine Eq.trans ?_ (e1 m c g e)
  show V m c main_v1 _ = V m c main_v1 _
  blk_ext [idx t]

/-- The scores of token `T`. -/
def score (c : Dev nD) (T : Fin 65536) (e : Fin 64) : EReal :=
  Ideal.logistic (m ((c : Thread nD τ).loc main_arg0) (ix3 ⟨T.val / 4096, by omega⟩ e ⟨T.val % 4096, by omega⟩))

/-- Its scores with the router's bias. -/
def biased (c : Dev nD) (T : Fin 65536) (e : Fin 64) : EReal := score m c T e + m ((c : Thread nD τ).loc main_arg1) (ix2 0 e)

/-- What point `t` leaves in its block: the weights of its tokens. -/
theorem out_at (c : Dev nD) (t : Fin cfg0.N) (l : Fin 512) (e : Fin 128) (T : Fin 65536) (hT : T.val = 512 * t.val + l.val) :
    out0_2 (iblk m c 0 t) (iblk m c 1 t) (ix2 l e)
      = if h : e.val < 64 then weight (score m c T) (candidate (biased m c T)) ⟨e.val, h⟩ else 0 := by
  have ht : t.val < 128 := lt_of_lt_of_eq t.isLt N_0
  have hl := l.isLt
  have i0 : seq t.val t.isLt = ⟨T.val / 4096, by omega⟩ := Fin.ext (by show t.val / 8 = T.val / 4096; omega)
  have i2 : row t.val l = ⟨T.val % 4096, by omega⟩ := Fin.ext (by show 512 * (t.val % 8) + l.val = T.val % 4096; omega)
  refine out_apply _ _ _ _ l (fun g e => ?_) (fun g e => ?_) e
  · rw [b0, i0, i2]
    rfl
  · rw [b1]
    rfl

/-- The result array, entry by entry. -/
theorem final2 (c : Dev nD) (G : Buf (Elt Ideal) ((c : Thread nD τ).loc main_v2))
    (hG : ∀ (T : Fin 65536) (e : Fin 128), G (ix2 T e)
      = if h : e.val < 64 then weight (score m c T) (candidate (biased m c T)) ⟨e.val, h⟩ else 0) :
    (dats m 0 c).arrAt 2 cfg0.N = G := by
  refine (dats m 0 c).arrAt_eq_of_covers 2 G (by decide +kernel) fun t hf y => ?_
  have h0 : (y 0).val < 512 := (y 0).isLt
  have h1 : (y 1).val < 128 := (y 1).isLt
  have ht : t.val < 128 := lt_of_lt_of_eq t.isLt N_0
  obtain ⟨o0, o1, o2⟩ := idx t
  have ey : ((cfg0.win 2).blk t).view.emb y = (ix2 ⟨512 * t.val + (y 0).val, by omega⟩ ⟨(y 1).val, h1⟩ : S65536x128.Idx) := by
    funext a
    apply Fin.ext
    match a with
    | ⟨0, _⟩ =>
      show win0_2.index t (0 : Fin 2) * 512 + 1 * (y 0).val = 512 * t.val + (y 0).val
      rw [o2]; simp; omega
    | ⟨1, _⟩ =>
      show win0_2.index t (1 : Fin 2) * 128 + 1 * (y 1).val = (y 1).val
      rw [o2]; simp
  have ex : (cfg0.win 2).xinj (grid0.coords t) y = (ix2 ⟨(y 0).val, h0⟩ ⟨(y 1).val, h1⟩ : S512x128.Idx) := by
    funext a
    apply Fin.ext
    match a with
    | ⟨0, _⟩ => rfl
    | ⟨1, _⟩ => rfl
  refine Eq.trans ?_ ((hG _ _).symm.trans (congrArg G ey.symm))
  show (dats m 0 c).after 2 t ((cfg0.win 2).xinj (grid0.coords t) y) = _
  rw [after0_2, ex]
  exact out_at m c t _ _ _ rfl

end Cert.SelIdeal.Blocks

end
-- ==== Proof.SelRefValue.lean ====
module

public import proofs.«01_k».proof.Proof.Gen.SelRefIdeal.Read
public import proofs.«01_k».proof.Proof.SelRank
public import Idealize.ShloMosaic.Lib.Pointwise

@[expose] public section

set_option maxRecDepth 16384

noncomputable section

namespace Cert.SelRefIdeal.At

open Cert.SelRefIdeal Cert.SelRefIdeal.Gen Cert.SelRefIdeal.Read Cert.SelIdeal.Rank Idealize.ShloMosaic Idealize.ShloMosaic.TcCoe Idealize.SL.Sem

/-- A sort by the reference's comparison is the order that the ranks read. -/
theorem sorted_pos {n : Nat} (r : Fin n → Fin n → Bool) (f : Fin n → EReal)
    (h : ∀ a b, r a b = (FloatOps.cmpfTotal (F := Ideal) (φ := .f32) .gt (f a) (f b) == 1#1)) : sortedFrom r = pos f := by
  unfold pos
  congr 1
  funext a b
  rw [h]
  show (BitVec.ofBool (decide (f b < f a)) == 1#1) = _
  by_cases hh : f b < f a <;> simp [hh]

/-- The positions a stable top-k along a row names. -/
theorem topk {n K : Nat} (hK : K ≤ n) (y : FVec Ideal ⟨2, ![65536, n]⟩ .f32) (T : Fin 65536) (k : Fin K) (h) :
    ((Host.topK ⟨2, ![65536, K]⟩ 1 (FloatOps.cmpfTotal (F := Ideal) (φ := .f32) .gt) y h).2 : IVec (⟨2, ![65536, K]⟩ : Shape) 32) (ix2 T k)
      = BitVec.ofNat 32 (pos (fun e : Fin n => y (ix2 T e)) (k.castLE hK)).val := by
  have key : ∀ (j : (⟨2, ![65536, n]⟩ : Shape).Idx) (q : Fin n), j = ix2 T q →
      sortedFrom (fun a b : Fin n => FloatOps.cmpfTotal (F := Ideal) (φ := .f32) .gt (y (Shape.Idx.along j (1 : Fin 2) a)) (y (Shape.Idx.along j (1 : Fin 2) b)) == 1#1) (j 1)
        = pos (fun e : Fin n => y (ix2 T e)) q := by
    intro j q hj
    have ha : ∀ e : Fin n, Shape.Idx.along j (1 : Fin 2) e = ix2 T e := fun e => funext fun a => by
      subst hj
      match a with
      | ⟨0, _⟩ => rfl
      | ⟨1, _⟩ => rfl
    have hq : j 1 = q := by subst hj; rfl
    have hs := sorted_pos (fun a b : Fin n => FloatOps.cmpfTotal (F := Ideal) (φ := .f32) .gt (y (Shape.Idx.along j (1 : Fin 2) a)) (y (Shape.Idx.along j (1 : Fin 2) b)) == 1#1)
      (fun e : Fin n => y (ix2 T e)) fun a b => by rw [← ha a, ← ha b]
    exact (congrFun hs (j 1)).trans (congrArg (pos fun e : Fin n => y (ix2 T e)) hq)
  exact congrArg (fun p : Fin n => BitVec.ofNat 32 p.val) (key (fun a => ⟨0 + (ix2 T k (a.cast rfl)).val, by
    match a with
    | ⟨0, _⟩ => exact lt_of_eq_of_lt (Nat.zero_add _) T.isLt
    | ⟨1, _⟩ => exact lt_of_eq_of_lt (Nat.zero_add _) (lt_of_lt_of_le k.isLt hK)⟩) (k.castLE hK) (funext fun a => by
    match a with
    | ⟨0, _⟩ => exact Fin.ext (Nat.zero_add _)
    | ⟨1, _⟩ => exact Fin.ext (Nat.zero_add _)))

/-- The values of a stable top-two of each group's eight. -/
theorem topk2 (y : FVec Ideal S65536x8x8 .f32) (T : Fin 65536) (g : Fin 8) (k : Fin 2) (h) :
    ((Host.topK S65536x8x2 2 (FloatOps.cmpfTotal (F := Ideal) (φ := .f32) .gt) y h).1 : FVec Ideal S65536x8x2 .f32) (ix3 T g k)
      = y (ix3 T g (pos (fun e : Fin 8 => y (ix3 T g e)) (k.castLE (by decide)))) := by
  have key : ∀ (j : S65536x8x8.Idx) (q : Fin 8), j = ix3 T g q →
      y (Shape.Idx.along j (2 : Fin S65536x8x8.rank) (sortedFrom (fun a b : Fin 8 => FloatOps.cmpfTotal (F := Ideal) (φ := .f32) .gt (y (Shape.Idx.along j (2 : Fin S65536x8x8.rank) a)) (y (Shape.Idx.along j (2 : Fin S65536x8x8.rank) b)) == 1#1) (j 2)))
        = y (ix3 T g (pos (fun e : Fin 8 => y (ix3 T g e)) q)) := by
    intro j q hj
    have ha : ∀ e : Fin 8, Shape.Idx.along j (2 : Fin S65536x8x8.rank) e = ix3 T g e := fun e => funext fun a => by
      subst hj
      match a with
      | ⟨0, _⟩ => rfl
      | ⟨1, _⟩ => rfl
      | ⟨2, _⟩ => rfl
    have hq : j 2 = q := by subst hj; rfl
    have hs := sorted_pos (fun a b : Fin 8 => FloatOps.cmpfTotal (F := Ideal) (φ := .f32) .gt (y (Shape.Idx.along j (2 : Fin S65536x8x8.rank) a)) (y (Shape.Idx.along j (2 : Fin S65536x8x8.rank) b)) == 1#1)
      (fun e : Fin 8 => y (ix3 T g e)) fun a b => by rw [← ha a, ← ha b]
    exact congrArg y ((congrArg (Shape.Idx.along j (2 : Fin S65536x8x8.rank)) ((congrFun hs (j 2)).trans (congrArg (pos fun e : Fin 8 => y (ix3 T g e)) hq))).trans (ha _))
  exact key (fun a => ⟨0 + (ix3 T g k (a.cast rfl)).val, by
    match a with
    | ⟨0, _⟩ => exact lt_of_eq_of_lt (Nat.zero_add _) T.isLt
    | ⟨1, _⟩ => exact lt_of_eq_of_lt (Nat.zero_add _) g.isLt
    | ⟨2, _⟩ => exact lt_of_eq_of_lt (Nat.zero_add _) (lt_of_lt_of_le k.isLt (by decide : 2 ≤ 8))⟩) (k.castLE (by decide : 2 ≤ 8)) (funext fun a => by
    match a with
    | ⟨0, _⟩ => exact Fin.ext (Nat.zero_add _)
    | ⟨1, _⟩ => exact Fin.ext (Nat.zero_add _)
    | ⟨2, _⟩ => exact Fin.ext (Nat.zero_add _))

/-- The gather along a row, where the position it is given names an expert. -/
theorem gather_row (x : FVec Ideal S65536x64 .f32) (idx : IVec S65536x8x1 32) (T : Fin 65536) (k : Fin 8) (a : Fin 64)
    (h : idx (ix3 T k 0) = BitVec.ofNat 32 a.val) :
    Host.gather gather_S65536x64_S65536x8x1_S65536x8_n_1_0_0_1_2_11 x idx (ix2 T k) = x (ix2 T a) := by
  have hv : (BitVec.ofNat 32 a.val).toInt.toNat = a.val := (by decide : ∀ a : Fin 64, (BitVec.ofNat 32 a.val).toInt.toNat = a.val) a
  unfold Host.gather
  refine congrArg x (funext fun c => Fin.ext ?_)
  show (gather_S65536x64_S65536x8x1_S65536x8_n_1_0_0_1_2_11).start (ix2 T k) idx c
    + (gather_S65536x64_S65536x8x1_S65536x8_n_1_0_0_1_2_11).batchCoord (ix2 T k) c
    + (gather_S65536x64_S65536x8x1_S65536x8_n_1_0_0_1_2_11).offCoord (ix2 T k) c = _
  have h01 : c = 0 ∨ c = 1 := by
    match c with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S65536x64.rank) ∈ (gather_S65536x64_S65536x8x1_S65536x8_n_1_0_0_1_2_11).operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S65536x64_S65536x8x1_S65536x8_n_1_0_0_1_2_11).startIndexMap from List.mem_singleton.mpr rfl)]
    have hsi : (gather_S65536x64_S65536x8x1_S65536x8_n_1_0_0_1_2_11).siIdx (ix2 T k) ⟨List.idxOf (1 : Fin 2) (gather_S65536x64_S65536x8x1_S65536x8_n_1_0_0_1_2_11).startIndexMap,
        List.idxOf_lt_length_iff.2 (List.mem_singleton.mpr rfl)⟩ = ix3 T k 0 := by
      funext b; refine Fin.ext ?_
      match b with
      | ⟨0, _⟩ => rfl
      | ⟨1, _⟩ => rfl
      | ⟨2, _⟩ => rfl
    rw [hsi, h, hv]
    exact Nat.min_eq_left (Nat.le_pred_of_lt a.isLt)

/-- A one-hot entry is one at its own position and zero elsewhere. -/
theorem ind_eq {a b : Nat} (ha : a < 64) (hb : b < 64) :
    FloatOps.uitofp (F := Ideal) .f32 (IntOp.cmpi .eq (BitVec.ofNat 32 a) (BitVec.ofNat 32 b)) = if a = b then (1 : EReal) else 0 := by
  have e : BitVec.ofNat 32 a = BitVec.ofNat 32 b ↔ a = b := by
    rw [← BitVec.toNat_inj, BitVec.toNat_ofNat, BitVec.toNat_ofNat, Nat.mod_eq_of_lt (by omega), Nat.mod_eq_of_lt (by omega)]
  show (((IntOp.cmpi .eq (BitVec.ofNat 32 a) (BitVec.ofNat 32 b)).toNat : ℝ) : EReal) = _
  unfold IntOp.cmpi
  by_cases h : a = b
  · simp [h]
  · simp [h, e]

variable (x0 : FVec Ideal S16x64x4096 .f32) (x1 : FVec Ideal S1x64 .f32)

/-- The scores of token `T`. -/
def score (T : Fin 65536) (e : Fin 64) : EReal := Ideal.logistic (x0 (ix3 ⟨T.val / 4096, by omega⟩ e ⟨T.val % 4096, by omega⟩))

/-- Its scores with the router's bias. -/
def biased (T : Fin 65536) (e : Fin 64) : EReal := score x0 T e + x1 (ix2 0 e)

theorem v7_apply (T : Fin 65536) (e : Fin 64) : val_main_v7 (F := Ideal) x0 (ix2 T e) = score x0 T e := by
  pointwise [val_main_v7, val_main_v6, val_main_cst_0, val_main_v5, val_main_v4, val_main_cst, val_main_v3, val_main_v2, val_main_v1, val_main_v0]
  rfl

theorem v11_apply (T : Fin 65536) (e : Fin 64) : val_main_v11 (F := Ideal) x0 x1 (ix2 T e) = biased x0 x1 T e := by
  unfold val_main_v11 biased
  rw [← v7_apply]
  generalize val_main_v7 (F := Ideal) x0 = y
  pointwise [val_main_v10, val_main_v9, val_main_v8]

theorem v12_apply (T : Fin 65536) (g e : Fin 8) :
    val_main_v12 (F := Ideal) x0 x1 (ix3 T g e) = biased x0 x1 T ⟨g.val * 8 + e.val, by omega⟩ := by
  rw [← v11_apply]
  unfold val_main_v12
  generalize val_main_v11 (F := Ideal) x0 x1 = y
  pointwise

theorem v13_apply (T : Fin 65536) (g : Fin 8) : val_main_v13 (F := Ideal) x0 x1 (ix2 T g) = groupScore (biased x0 x1 T) g := by
  have h : val_main_v13 (F := Ideal) x0 x1 (ix2 T g) = ∑ k : Fin 2, val_main_values (F := Ideal) x0 x1 (ix3 T g k) := by
    unfold val_main_v13
    generalize val_main_values (F := Ideal) x0 x1 = y
    pointwise [val_main_cst_1]
  rw [h, Fin.sum_univ_two]
  unfold val_main_values groupScore
  rw [topk2, topk2]
  simp only [v12_apply]
  rfl

theorem v15_apply (T : Fin 65536) (g : Fin 8) :
    0 < val_main_v15 (F := Ideal) x0 x1 (ix2 T g) ↔ rk (groupScore (biased x0 x1 T)) g < 4 := by
  have h : val_main_v15 (F := Ideal) x0 x1 (ix2 T g)
      = ∑ k : Fin 4, FloatOps.uitofp (F := Ideal) .f32 (IntOp.cmpi .eq (val_main_indices_3 (F := Ideal) x0 x1 (ix2 T k)) (BitVec.ofNat 32 g.val)) := by
    unfold val_main_v15 val_main_v14 val_main_call0_v4 val_main_call0_v2 val_main_call0_v0
    generalize val_main_indices_3 (F := Ideal) x0 x1 = y
    pointwise [val_main_cst_4, val_main_call0_v3, val_main_call0_v1]
  have hk : ∀ k : Fin 4, FloatOps.uitofp (F := Ideal) .f32 (IntOp.cmpi .eq (val_main_indices_3 (F := Ideal) x0 x1 (ix2 T k)) (BitVec.ofNat 32 g.val))
      = if pos (groupScore (biased x0 x1 T)) (k.castLE (by decide)) = g then (1 : EReal) else 0 := fun k => by
    unfold val_main_indices_3
    rw [topk (by decide : 4 ≤ 8)]
    simp only [v13_apply]
    rw [ind_eq (by omega) (by omega)]
    simp only [Fin.ext_iff]
  rw [h, Finset.sum_congr rfl fun k _ => hk k]
  exact sum_pos_ind _ (by decide) g

theorem v20_apply (T : Fin 65536) (e : Fin 64) : val_main_v20 (F := Ideal) x0 x1 (ix2 T e) = candidate (biased x0 x1 T) e := by
  have h : val_main_v20 (F := Ideal) x0 x1 (ix2 T e)
      = if 0 < val_main_v15 (F := Ideal) x0 x1 (ix2 T ⟨e.val / 8, by omega⟩) then val_main_v11 (F := Ideal) x0 x1 (ix2 T e)
        else Ideal.ofBits .f32 4286578688#32 := by
    unfold val_main_v20 val_main_v19 val_main_v17 val_main_v16
    generalize val_main_v15 (F := Ideal) x0 x1 = y
    generalize val_main_v11 (F := Ideal) x0 x1 = z
    pointwise [val_main_v18, val_main_cst_5, val_main_call1_v1, val_main_call1_v0, val_main_cst_6]
    rfl
  rw [h, v11_apply]
  unfold candidate
  rw [bits_neg_inf]
  exact if_congr (v15_apply x0 x1 T _) rfl rfl

/-- The position that place `k` of the eight names. -/
theorem idx8_apply (T : Fin 65536) (k : Fin 8) :
    val_main_indices_8 (F := Ideal) x0 x1 (ix2 T k) = BitVec.ofNat 32 (pos (candidate (biased x0 x1 T)) (k.castLE (by decide))).val := by
  unfold val_main_indices_8
  rw [topk (by decide : 8 ≤ 64)]
  simp only [v20_apply]

theorem v21_apply (T : Fin 65536) (k : Fin 8) :
    val_main_v21 (F := Ideal) x0 x1 (ix2 T k) = score x0 T (pos (candidate (biased x0 x1 T)) (k.castLE (by decide))) := by
  have hi := idx8_apply x0 x1 T k
  generalize pos (candidate (biased x0 x1 T)) (k.castLE (by decide)) = a at hi ⊢
  rw [← v7_apply]
  unfold val_main_v21 val_main_call2_v12 val_main_call2_v11 val_main_call2_v10 val_main_call2_v7 val_main_call2_v13 val_main_call2_v5 val_main_call2_v4 val_main_call2_v3 val_main_call2_v1
  generalize val_main_indices_8 (F := Ideal) x0 x1 = y at hi ⊢
  generalize val_main_v7 (F := Ideal) x0 = z
  have wrap : Scalar.select (IntOp.cmpi .slt (BitVec.ofNat 32 a.val) 0#32) (IntOp.addi (BitVec.ofNat 32 a.val) 64#32) (BitVec.ofNat 32 a.val)
      = BitVec.ofNat 32 a.val := by clear hi; revert a; decide
  have inside : IntOp.andi (IntOp.cmpi .sge (BitVec.ofNat 32 a.val) 0#32) (IntOp.cmpi .sle (BitVec.ofNat 32 a.val) 63#32) = 1#1 := by clear hi wrap; revert a; decide
  have hg := gather_row z (shapeCast S65536x8x1
          (select (cmpi CmpIPredicate.slt y (broadcastInDim S65536x8 ![] bcast_S_S65536x8 (constantI S_ 32 0#32)))
            (addi y (broadcastInDim S65536x8 ![] bcast_S_S65536x8 (constantI S_ 32 64#32))) y)
          shapeCasts_S65536x8_S65536x8x1) T k a (by pointwise; rw [hi, wrap])
  pointwise [val_main_call2_v14, val_main_call2_cst, val_main_call2_c_3, val_main_call2_v9, val_main_call2_v8, val_main_call2_c_1, val_main_call2_v6, val_main_call2_c_2, val_main_call2_v2, val_main_call2_c_0, val_main_call2_v0, val_main_call2_c]
  rw [hi, wrap, inside, hg]
  simp [IntOp.andi, Scalar.select]

theorem v27_apply (T : Fin 65536) (k : Fin 8) :
    val_main_v27 (F := Ideal) x0 x1 (ix2 T k)
      = Ideal.div (score x0 T (pos (candidate (biased x0 x1 T)) (k.castLE (by decide)))) (total (score x0 T) (candidate (biased x0 x1 T)))
        * Ideal.ofBits .f32 0x40200000#32 := by
  have h : val_main_v27 (F := Ideal) x0 x1 (ix2 T k)
      = Ideal.div (val_main_v21 (F := Ideal) x0 x1 (ix2 T k)) (∑ j : Fin 8, val_main_v21 (F := Ideal) x0 x1 (ix2 T j)) * Ideal.ofBits .f32 0x40200000#32 := by
    unfold val_main_v27 val_main_v25 val_main_v24 val_main_v23 val_main_v22
    generalize val_main_v21 (F := Ideal) x0 x1 = z
    pointwise [val_main_cst_9, val_main_v26, val_main_cst_10]
  rw [h]
  simp only [v21_apply]
  unfold total
  rw [sum_pos _ (by decide)]

theorem v28_apply (T : Fin 65536) (k : Fin 8) (e : Fin 64) :
    val_main_v28 (F := Ideal) x0 x1 (ix3 T k e)
      = if pos (candidate (biased x0 x1 T)) (k.castLE (by decide)) = e then (1 : EReal) else 0 := by
  have h : val_main_v28 (F := Ideal) x0 x1 (ix3 T k e)
      = FloatOps.uitofp (F := Ideal) .f32 (IntOp.cmpi .eq (val_main_indices_8 (F := Ideal) x0 x1 (ix2 T k)) (BitVec.ofNat 32 e.val)) := by
    unfold val_main_v28 val_main_call3_v4 val_main_call3_v2 val_main_call3_v0
    generalize val_main_indices_8 (F := Ideal) x0 x1 = y
    pointwise [val_main_call3_v3, val_main_call3_v1]
  rw [h, idx8_apply, ind_eq (by omega) (by omega)]
  simp only [Fin.ext_iff]

theorem v29_apply (T : Fin 65536) (e : Fin 64) :
    val_main_v29 (F := Ideal) x0 x1 (ix2 T e)
      = if rk (candidate (biased x0 x1 T)) e < 8 then
          Ideal.div (score x0 T e) (total (score x0 T) (candidate (biased x0 x1 T))) * Ideal.ofBits .f32 0x40200000#32 else 0 := by
  have h : val_main_v29 (F := Ideal) x0 x1 (ix2 T e)
      = ∑ k : Fin 8, val_main_v27 (F := Ideal) x0 x1 (ix2 T k) * val_main_v28 (F := Ideal) x0 x1 (ix3 T k e) := by
    rw [val_main_v29_apply]
    generalize val_main_v27 (F := Ideal) x0 x1 = y
    generalize val_main_v28 (F := Ideal) x0 x1 = z
    refine Finset.sum_congr rfl fun k _ => ?_
    congr 1
    · exact congrArg y (funext fun a => by match a with | ⟨0, _⟩ => rfl | ⟨1, _⟩ => rfl)
    · exact congrArg z (funext fun a => by match a with | ⟨0, _⟩ => rfl | ⟨1, _⟩ => rfl | ⟨2, _⟩ => rfl)
  rw [h]
  simp only [v27_apply, v28_apply]
  exact sum_pos_pick _ (by decide)
    (fun a => Ideal.div (score x0 T a) (total (score x0 T) (candidate (biased x0 x1 T))) * Ideal.ofBits .f32 0x40200000#32) e

/-- The reference's entry. -/
theorem v30_apply (T : Fin 65536) (e : Fin 128) :
    val_main_v30 (F := Ideal) x0 x1 (ix2 T e)
      = if h : e.val < 64 then (if rk (candidate (biased x0 x1 T)) ⟨e.val, h⟩ < 8 then
          Ideal.div (score x0 T ⟨e.val, h⟩) (total (score x0 T) (candidate (biased x0 x1 T))) * Ideal.ofBits .f32 0x40200000#32 else 0) else 0 := by
  have h : val_main_v30 (F := Ideal) x0 x1 (ix2 T e)
      = if h : e.val < 64 then val_main_v29 (F := Ideal) x0 x1 (ix2 T ⟨e.val, h⟩) else 0 := by
    unfold val_main_v30
    generalize val_main_v29 (F := Ideal) x0 x1 = y
    pointwise [val_main_call4_v0, val_main_c]
    have h0 : FloatOps.sitofp (F := Ideal) .f32 0#32 = (0 : EReal) := by
      show (((0#32).toInt : ℝ) : EReal) = 0
      simp
    rw [h0]
  rw [h]
  simp only [v29_apply]

end Cert.SelRefIdeal.At

end
-- ==== Proof.SelEq.lean ====
/-
  The routing's result is the reference's, entry by entry, where no logit is minus infinity.
-/
module

public import proofs.«01_k».proof.Pre_logits_above
public import proofs.«01_k».proof.Proof.SelBlocks
public import proofs.«01_k».proof.Proof.SelRefValue

@[expose] public section

set_option maxRecDepth 16384

noncomputable section

/-- The side conditions of the precondition's own operations. -/
theorem Cert.Pre_logits_above.facts : Cert.Pre_logits_above.Facts where
  bcast_S_S16x64x4096 := by decide

namespace Cert.SelIdeal.Eq

open Cert.SelIdeal Cert.SelIdeal.Gen Cert.SelIdeal.Rank
open Idealize.ShloMosaic Idealize.ShloMosaic.TcCoe Idealize.SL.Sem

/-- What the precondition says of one logit. -/
theorem above_of_pre [Cert.Pre_logits_above.Facts] (x0 : FVec Ideal S16x64x4096 .f32) (x1 : FVec Ideal S1x64 .f32)
    (h : Cert.Pre_logits_above.fn (F := Ideal) x0 x1 = fun _ => 1#1) (b : Fin 16) (e : Fin 64) (l : Fin 4096) :
    (⊥ : EReal) < x0 (ix3 b e l) := by
  have h1 := congrFun h (ix3 b e l)
  pointwise [Cert.Pre_logits_above.fn] at h1
  by_contra hh
  have hd : ¬ Ideal.ofBits FTy.f32 0xFF800000#32 < (x0 (ix3 b e l) : EReal) := by
    rw [bits_neg_inf]
    exact hh
  rw [decide_eq_false hd] at h1
  exact absurd h1 (by decide)

/-- The score of a logit above minus infinity is positive. -/
theorem logistic_pos (x : EReal) (h : ⊥ < x) : 0 < Ideal.logistic x := by
  show 0 < Ideal.div 1 (1 + Ideal.exp (-x))
  induction x using EReal.rec with
  | bot => exact absurd h (lt_irrefl _)
  | top =>
    rw [EReal.neg_top, show Ideal.exp ⊥ = 0 from rfl, add_zero]
    unfold Ideal.div
    rw [if_neg one_ne_zero]
    simp
  | coe r =>
    have hp : (0 : ℝ) < 1 + Real.exp (-r) := by positivity
    rw [← EReal.coe_neg, show Ideal.exp ((-r : ℝ) : EReal) = ((Real.exp (-r) : ℝ) : EReal) from rfl, ← EReal.coe_one, ← EReal.coe_add]
    unfold Ideal.div
    rw [if_neg (by exact_mod_cast hp.ne'), ← EReal.coe_inv, ← EReal.coe_mul]
    exact_mod_cast (by positivity : (0 : ℝ) < 1 * (1 + Real.exp (-r))⁻¹)

/-- Positive scores have a positive sum over the chosen. -/
theorem total_pos (s c : Fin 64 → EReal) (hs : ∀ e, 0 < s e) : 0 < total s c := by
  have h0 : rk c (pos c 0) < 8 := by rw [rk_pos]; decide
  refine lt_of_lt_of_le (hs (pos c 0)) ?_
  have := Finset.single_le_sum (f := fun a : Fin 64 => if rk c a < 8 then s a else 0) (s := Finset.univ)
    (fun a _ => by
      show (0 : EReal) ≤ if rk c a < 8 then s a else 0
      by_cases h : rk c a < 8
      · rw [if_pos h]; exact (hs a).le
      · rw [if_neg h]) (Finset.mem_univ (pos c 0))
  refine le_trans (le_of_eq ?_) this
  exact (if_pos h0).symm

/-- A weight is the chosen expert's quotient, and zero for the others. -/
theorem weight_eq (s c : Fin 64 → EReal) (hs : ∀ e, 0 < s e) (e : Fin 64) :
    weight s c e = if rk c e < 8 then Ideal.div (s e) (total s c) * Ideal.ofBits .f32 0x40200000#32 else 0 := by
  unfold weight
  by_cases h : rk c e < 8
  · rw [if_pos h, if_pos h]
  · rw [if_neg h, if_neg h]
    unfold Ideal.div
    rw [if_neg (total_pos s c hs).ne', zero_mul, zero_mul]

end Cert.SelIdeal.Eq

end
-- ==== Proof.SelClaims.lean ====
/-
  The claims about the routing: its run, the reference's, and that they end with the same weights.
-/
module

public import proofs.«01_k».proof.Defs
public import proofs.«01_k».proof.Proof.SelEq
public import proofs.«01_k».proof.Proof.Gen.Sel.Frame
public import proofs.«01_k».proof.Proof.Gen.Sel
public import proofs.«01_k».proof.Proof.Gen.SelIdeal
public import proofs.«01_k».proof.Proof.Gen.SelRefIdeal
public import Idealize.ShloMosaic.Lib.Claim
public import Idealize.ShloMosaic.Adequacy
public import Idealize.ShloMosaic.Lib.Quiescent

@[expose] public section

set_option maxRecDepth 16384

noncomputable section

namespace Cert.SelClaims

open Idealize.ShloMosaic Idealize.SL.Sem

theorem frameP : quiescent_Sel (hSel := Cert.Sel.Gen.facts) := fun m g _ => Cert.Sel.Gen.frame m g

theorem framePI : quiescent_SelIdeal (hSelIdeal := Cert.SelIdeal.Gen.facts) := fun m g _ => Cert.SelIdeal.Gen.frame m g

theorem framePI_pre : quiescent_SelIdeal_pre_logits_above (hSelIdeal := Cert.SelIdeal.Gen.facts)
    (hPre_logits_above := Cert.Pre_logits_above.facts) := fun m g _ => Cert.SelIdeal.Gen.frame m g

theorem frameRI : quiescent_SelRefIdeal (hSelRefIdeal := Cert.SelRefIdeal.Gen.facts) := fun m g _ =>
  (θ_run Cert.SelRefIdeal.defs _ _).mono (fun r h => ⟨fun c => (h c).2, Idealize.ShloMosaic.sem_eq_zero_of_no_sems (by decide) r.2⟩)
    (Cert.SelRefIdeal.Value.run (F := Ideal) m g)

theorem frameRI_pre : quiescent_SelRefIdeal_pre_logits_above (hSelRefIdeal := Cert.SelRefIdeal.Gen.facts)
    (hPre_logits_above := Cert.Pre_logits_above.facts) := fun m g _ => frameRI m g trivial

/-- From memories that agree on the arguments and with no logit at minus infinity, the kernel and the reference end with
    the same weights. -/
theorem algebraic : algebraic_SelIdeal_SelRefIdeal_pre_logits_above (hSelIdeal := Cert.SelIdeal.Gen.facts)
    (hSelRefIdeal := Cert.SelRefIdeal.Gen.facts) (hPre_logits_above := Cert.Pre_logits_above.facts) := by
  intro m g m' g' hpre hag
  refine ⟨fun c => (Cert.SelIdeal.Gen.dats m 0 c).arrAt 2 Cert.SelIdeal.cfg0.N, Cert.SelIdeal.Value.run_blocks m g,
    (θ_run Cert.SelRefIdeal.defs _ _).mono (fun r h c => ⟨(h c).1.trans ?_, (h c).2⟩) (Cert.SelRefIdeal.Value.run (F := Ideal) m' g')⟩
  obtain ⟨h0, h1⟩ := hag c
  refine (Cert.SelRefIdeal.Read.val_main_v30_eq m' c).trans ?_
  refine (Cert.SelIdeal.Blocks.final2 m c _ fun T e => ?_).symm
  haveI := Cert.Pre_logits_above.facts
  have ha := Cert.SelIdeal.Eq.above_of_pre _ _ (hpre c)
  refine (Cert.SelRefIdeal.At.v30_apply _ _ T e).trans ?_
  have es : Cert.SelIdeal.Blocks.score m c T = Cert.SelRefIdeal.At.score (m' ((c.tc : Thread Cert.SelRefIdeal.nD Cert.SelRefIdeal.τ).loc Cert.SelRefIdeal.main_arg0)) T := by
    unfold Cert.SelIdeal.Blocks.score Cert.SelRefIdeal.At.score
    rw [h0]
  have eb : Cert.SelIdeal.Blocks.biased m c T = Cert.SelRefIdeal.At.biased (m' ((c.tc : Thread Cert.SelRefIdeal.nD Cert.SelRefIdeal.τ).loc Cert.SelRefIdeal.main_arg0))
      (m' ((c.tc : Thread Cert.SelRefIdeal.nD Cert.SelRefIdeal.τ).loc Cert.SelRefIdeal.main_arg1)) T := by
    unfold Cert.SelIdeal.Blocks.biased Cert.SelRefIdeal.At.biased
    rw [es, h1]
  have hs : ∀ a, 0 < Cert.SelIdeal.Blocks.score m c T a := fun a => Cert.SelIdeal.Eq.logistic_pos _ (ha _ _ _)
  rw [← es, ← eb]
  refine dite_congr rfl (fun h => ?_) fun _ => rfl
  exact (Cert.SelIdeal.Eq.weight_eq _ _ hs _).symm

end Cert.SelClaims

end
-- ==== Proof.InpPay.lean ====
/-
  What one grid point of the input projection computes, read at an index over the extended reals: the normalised and
  modulated row, its product with a block of weight columns, and the order in which the columns are laid out.
-/
module

public import proofs.«01_k».proof.Proof.Gen.InpIdeal.Skeleton
public import Idealize.ShloMosaic.Lib.Pointwise

@[expose] public section

set_option maxRecDepth 16384

noncomputable section

namespace Cert.InpIdeal.Pay

open Cert.InpIdeal Cert.InpIdeal.Gen Idealize.ShloMosaic Idealize.ShloMosaic.TcCoe Idealize.SL.Sem

/-- A row over its root mean square, times a weight, scaled and shifted: the layer's modulated normalisation. -/
def normMod (x w sh sc : Fin 1024 → EReal) (k : Fin 1024) : EReal :=
  x k * Ideal.rsqrt (Ideal.div (∑ j, x j * x j) (Ideal.ofBits .f32 0x44800000#32) + Ideal.ofBits .f32 0x358637BD#32) * w k
    * (1 + sc k) + sh k

/-- The normalised row the first point of a tile stores. -/
theorem pay1_apply (x : Vec Ideal S1x1024x1024 .f32) (w : Vec Ideal S1x1024 .f32) (sh sc : Vec Ideal S1x1x1024 .f32)
    (r k : Fin 1024) :
    k0_pay1 x w sh sc (ix2 r k)
      = normMod (fun j => x (ix3 0 r j)) (fun j => w (ix2 0 j)) (fun j => sh (ix3 0 0 j)) (fun j => sc (ix3 0 0 j)) k := by
  unfold normMod
  pointwise [k0_pay1]

/-- The product every point of a tile stores. -/
theorem pay2_apply (a : Vec Ideal S1024x1024 .bf16) (w : Vec Ideal S1024x1664 .bf16) (r : Fin 1024) (j : Fin 1664) :
    k0_pay2 a w (ix3 0 r j) = ∑ k : Fin 1024, a (ix2 r k) * w (ix2 k j) := by
  pointwise [k0_pay2]

/-- The layout of the projected columns: the merge gates, the output gate, the values, the keys, the queries, the long
    convolution's columns and the decay columns, then a fill up to a whole lane. -/
def layWith (z : EReal) (f : Fin 8224 → EReal) (j : Fin 8320) : EReal :=
  if h : j.val < 2048 then f ⟨6176 + j.val, by omega⟩
  else if h : j.val - 2048 < 1024 then f ⟨2080 + (j.val - 2048), by omega⟩
  else if h : j.val - 2048 - 1024 < 1024 then f ⟨512 + (j.val - 2048 - 1024), by omega⟩
  else if h : j.val - 2048 - 1024 - 1024 < 512 then f ⟨j.val - 2048 - 1024 - 1024, by omega⟩
  else if h : j.val - 2048 - 1024 - 1024 - 512 < 512 then f ⟨1568 + (j.val - 2048 - 1024 - 1024 - 512), by omega⟩
  else if h : j.val - 2048 - 1024 - 1024 - 512 - 512 < 3072 then f ⟨3104 + (j.val - 2048 - 1024 - 1024 - 512 - 512), by omega⟩
  else if h : j.val - 2048 - 1024 - 1024 - 512 - 512 - 3072 < 32 then f ⟨1536 + (j.val - 2048 - 1024 - 1024 - 512 - 512 - 3072), by omega⟩
  else z

/-- … zeros being what fills the last lane. -/
def lay (f : Fin 8224 → EReal) (j : Fin 8320) : EReal := layWith 0 f j

/-- Laying the columns out before or after a product is the same. -/
theorem sum_lay (a : Fin 1024 → EReal) (w : Fin 1024 → Fin 8224 → EReal) (j : Fin 8320) :
    ∑ k, a k * lay (w k) j = lay (fun i => ∑ k, a k * w k i) j := by
  unfold lay layWith
  split_ifs
  all_goals first | rfl | simp

end Cert.InpIdeal.Pay

end
-- ==== Proof.InpBlocks.lean ====
/-
  The blocks a grid point of the input projection reads, and what the point leaves, as entries of the program's arguments.
-/
module

public import proofs.«01_k».proof.Proof.Gen.InpIdeal.Value
public import proofs.«01_k».proof.Proof.InpPay
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InpIdeal.Blocks

open Cert.InpIdeal Cert.InpIdeal.Gen Cert.InpIdeal.Pay Idealize.ShloMosaic Idealize.ShloMosaic.TcCoe Idealize.SL.Sem

/-- Where each window's block stands: the sequence is `t / 20`, the row tile `t / 5 % 4`, the column block `t % 5`. -/
theorem idx : ∀ t : Fin grid0.N,
    win0_0.index t = ![t.val / 20, t.val / 5 % 4, 0] ∧ win0_1.index t = ![0, 0] ∧ win0_2.index t = ![t.val / 20, 0, 0]
    ∧ win0_3.index t = ![t.val / 20, 0, 0] ∧ win0_4.index t = ![0, t.val % 5]
    ∧ win0_5.index t = ![t.val / 20, t.val / 5 % 4, t.val % 5] := by decide +kernel

variable (m : (ℓ : Loc nD τ sig) → Buf (Elt Ideal) ℓ)

/-- The sequence of point `n`. -/
def seq (n : ℕ) (h : n < cfg0.N) : Fin 16 := ⟨n / 20, by have := lt_of_lt_of_eq h N_0; omega⟩

/-- The row of the sequence that row `r` of point `n`'s tile is. -/
def row (n : ℕ) (r : Fin 1024) : Fin 4096 := ⟨1024 * (n / 5 % 4) + r.val, by have := r.isLt; omega⟩

/-- The column of the result that column `j` of point `n`'s block is. -/
def col (n : ℕ) (j : Fin 1664) : Fin 8320 := ⟨1664 * (n % 5) + j.val, by have := j.isLt; omega⟩

/-- The weights as the host lays them out before the call. -/
def table (w : Vec Ideal S1x1024x8224 .f32) : FVec Ideal S1024x8320 .bf16 :=
  truncf .bf16 (concatenate S1024x8320 1
    [⟨S1024x2048, extractStridedSlice S1024x2048 ![0, 6176] (shapeCast S1024x8224 w shapeCasts_S1x1024x8224_S1024x8224) slices_S1024x8224_S1024x2048_0_6176⟩,
     ⟨S1024x1024, extractStridedSlice S1024x1024 ![0, 2080] (shapeCast S1024x8224 w shapeCasts_S1x1024x8224_S1024x8224) slices_S1024x8224_S1024x1024_0_2080⟩,
     ⟨S1024x1024, extractStridedSlice S1024x1024 ![0, 512] (shapeCast S1024x8224 w shapeCasts_S1x1024x8224_S1024x8224) slices_S1024x8224_S1024x1024_0_512⟩,
     ⟨S1024x512, extractStridedSlice S1024x512 ![0, 0] (shapeCast S1024x8224 w shapeCasts_S1x1024x8224_S1024x8224) slices_S1024x8224_S1024x512_0_0⟩,
     ⟨S1024x512, extractStridedSlice S1024x512 ![0, 1568] (shapeCast S1024x8224 w shapeCasts_S1x1024x8224_S1024x8224) slices_S1024x8224_S1024x512_0_1568⟩,
     ⟨S1024x3072, extractStridedSlice S1024x3072 ![0, 3104] (shapeCast S1024x8224 w shapeCasts_S1x1024x8224_S1024x8224) slices_S1024x8224_S1024x3072_0_3104⟩,
     ⟨S1024x128, pad S1024x128 ![0, 0] ![0, 96] ![0, 0]
       (extractStridedSlice S1024x32 ![0, 1536] (shapeCast S1024x8224 w shapeCasts_S1x1024x8224_S1024x8224) slices_S1024x8224_S1024x32_0_1536)
       (sitofp .f32 (constantI S_ 32 0#32)) pads_S1024x32_S1024x128_000_0960 h_S_⟩]
    concatenates_S1024x2048_S1024x1024_S1024x1024_S1024x512_S1024x512_S1024x3072_S1024x128_S1024x8320_d1 : FVec Ideal S1024x8320 .f32) bitsLt_bf16_f32

set_option maxHeartbeats 2000000 in
/-- The region's entry holds that table. -/
theorem e10 (c : Dev nD) : V m c main_v10 = table (m ((c : Thread nD τ).loc main_arg4)) := by
  unfold V
  simp only [hostOps0, hostOps0_1, hostOps0_2, List.flatten_cons, List.flatten_nil, List.append_nil, List.cons_append, List.nil_append]
  after_results_simp
  try dsimp only [Matrix.cons_val]
  try after_results_simp
  rfl

/-- The host's zero is zero. -/
theorem zero_eq : (FloatOps.sitofp FTy.f32 0#32 : Ideal .f32) = (0 : EReal) := by
  show ((((0#32).toInt : ℤ) : ℝ) : EReal) = 0
  simp

/-- The table is the layout of the weights' columns. -/
theorem table_apply (w : Vec Ideal S1x1024x8224 .f32) (k : Fin 1024) (j : Fin 8320) :
    table w (ix2 k j) = lay (fun i => w (ix3 0 k i)) j := by
  refine Eq.trans ?_ (congrArg (fun z => layWith z (fun i => w (ix3 0 k i)) j) zero_eq)
  unfold table
  pointwise
  rfl

/-- The normalisation's weight, a row. -/
theorem e12 (c : Dev nD) (k : Fin 1024) : V m c main_v12 (ix2 0 k) = m ((c : Thread nD τ).loc main_arg1) (ix2 0 k) := by
  unfold V
  simp only [hostOps0, hostOps0_1, hostOps0_2, List.flatten_cons, List.flatten_nil, List.append_nil, List.cons_append, List.nil_append]
  entry_read
  pointwise

theorem b0 (c : Dev nD) (t : Fin cfg0.N) (r k : Fin 1024) :
    iblk m c 0 t (ix3 0 r k) = m ((c : Thread nD τ).loc main_arg0) (ix3 (seq t.val t.isLt) (row t.val r) k) := by
  unfold row seq
  blk_ext! [iblk, V, idx t]

theorem b1 (c : Dev nD) (t : Fin cfg0.N) (k : Fin 1024) :
    iblk m c 1 t (ix2 0 k) = m ((c : Thread nD τ).loc main_arg1) (ix2 0 k) := by
  refine Eq.trans ?_ (e12 m c _)
  show V m c main_v12 _ = V m c main_v12 _
  blk_ext [idx t]

theorem b2 (c : Dev nD) (t : Fin cfg0.N) (k : Fin 1024) :
    iblk m c 2 t (ix3 0 0 k) = m ((c : Thread nD τ).loc main_arg2) (ix3 (seq t.val t.isLt) 0 k) := by
  unfold seq
  blk_ext! [iblk, V, idx t]

theorem b3 (c : Dev nD) (t : Fin cfg0.N) (k : Fin 1024) :
    iblk m c 3 t (ix3 0 0 k) = m ((c : Thread nD τ).loc main_arg3) (ix3 (seq t.val t.isLt) 0 k) := by
  unfold seq
  blk_ext! [iblk, V, idx t]

theorem b4 (c : Dev nD) (t : Fin cfg0.N) (k : Fin 1024) (j : Fin 1664) :
    iblk m c 4 t (ix2 k j) = lay (fun i => m ((c : Thread nD τ).loc main_arg4) (ix3 0 k i)) (col t.val j) := by
  refine Eq.trans ?_ ((congrFun (e10 m c) _).trans (table_apply _ _ _))
  unfold col
  show V m c main_v10 _ = V m c main_v10 _
  blk_ext [idx t]

/-- The first point of a tile stores the normalised rows … -/
theorem sc_A (c : Dev nD) (t : Fin cfg0.N) (h0 : t.val % 5 = 0) :
    (outsAt0 m c t.val t.isLt).2 = k0_pay1 (iblk m c 0 t) (iblk m c 1 t) (iblk m c 2 t) (iblk m c 3 t) := by
  rw [outsAt0_A m c t h0]; frame_out

/-- … the others leave them … -/
theorem sc_B (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  rfl

/-- … and every point stores their product with its block of columns. -/
theorem out_eq (c : Dev nD) (t : Fin cfg0.N) :
    (outsAt0 m c t.val t.isLt).1 = k0_pay2 (outsAt0 m c t.val t.isLt).2 (iblk m c 4 t) := by
  by_cases h0 : t.val % 5 = 0
  · rw [sc_A m c t h0, outsAt0_A m c t h0]; frame_out
  · rw [sc_B m c t h0, outsAt0_B m c t h0]; frame_out
    simp only [read_unread_whole]

end Cert.InpIdeal.Blocks

end
-- ==== Proof.InpRefValue.lean ====
/-
  The reference of the input projection, read at an index over the extended reals.
-/
module

public import proofs.«01_k».proof.Proof.Gen.InpRefIdeal.Read
public import proofs.«01_k».proof.Proof.InpPay
public import Idealize.ShloMosaic.Lib.Pointwise

@[expose] public section

set_option maxRecDepth 16384

noncomputable section

namespace Cert.InpRefIdeal.At

open Cert.InpRefIdeal Cert.InpRefIdeal.Gen Cert.InpRefIdeal.Read Idealize.ShloMosaic Idealize.ShloMosaic.TcCoe Idealize.SL.Sem
open Cert.InpIdeal.Pay (normMod lay)

variable (x0 : (⟨S16x4096x1024, .f32⟩ : BufTy).Contents (Elt Ideal)) (x1 : (⟨S1x1024, .f32⟩ : BufTy).Contents (Elt Ideal))
  (x2 x3 : (⟨S16x1x1024, .f32⟩ : BufTy).Contents (Elt Ideal)) (x4 : (⟨S1x1024x8224, .f32⟩ : BufTy).Contents (Elt Ideal))

/-- The normalised and modulated input. -/
theorem v19_apply (b : Fin 16) (l : Fin 4096) (k : Fin 1024) :
    val_main_v19 (F := Ideal) x0 x1 x2 x3 (ix3 b l k)
      = normMod (fun j => x0 (ix3 b l j)) (fun j => x1 (ix2 0 j)) (fun j => x2 (ix3 b 0 j)) (fun j => x3 (ix3 b 0 j)) k := by
  unfold Cert.InpIdeal.Pay.normMod
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]

/-- Its projection. -/
theorem v21_apply (b : Fin 16) (l : Fin 4096) (i : Fin 8224) :
    val_main_v21 (F := Ideal) x0 x1 x2 x3 x4 (ix3 b l i)
      = ∑ k : Fin 1024, val_main_v19 (F := Ideal) x0 x1 x2 x3 (ix3 b l k) * x4 (ix3 0 k i) := by
  unfold val_main_v21
  generalize val_main_v19 (F := Ideal) x0 x1 x2 x3 = A
  pointwise [val_main_v20]

/-- The columns in the order of the result. -/
theorem v31_apply (b : Fin 16) (l : Fin 4096) (j : Fin 8320) :
    val_main_v31 (F := Ideal) x0 x1 x2 x3 x4 (ix3 b l j) = lay (fun i => val_main_v21 (F := Ideal) x0 x1 x2 x3 x4 (ix3 b l i)) j := by
  unfold val_main_v31 val_main_v30 val_main_v28 val_main_v27 val_main_v26 val_main_v25 val_main_v24 val_main_v23 val_main_v22
  generalize val_main_v21 (F := Ideal) x0 x1 x2 x3 x4 = A
  pointwise [val_main_v29, val_main_cst_3]
  rfl

end Cert.InpRefIdeal.At

end
-- ==== Proof.InpEq.lean ====
/-
  The input projection's result is the reference's, column by column.
-/
module

public import proofs.«01_k».proof.Proof.Gen.InpIdeal.Value
public import proofs.«01_k».proof.Proof.InpBlocks
public import proofs.«01_k».proof.Proof.InpRefValue
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InpIdeal.Eq

open Cert.InpIdeal Cert.InpIdeal.Gen Cert.InpIdeal.Pay Cert.InpIdeal.Blocks Idealize.ShloMosaic Idealize.ShloMosaic.TcCoe Idealize.SL.Sem

variable (m : (ℓ : Loc nD τ sig) → Buf (Elt Ideal) ℓ)

/-- What the carried rows are at every point of a tile: the reference's normalised rows. -/
theorem rows_eq (c : Dev nD) (x0 : FVec Ideal S16x4096x1024 .f32) (x1 : FVec Ideal S1x1024 .f32) (x2 x3 : FVec Ideal S16x1x1024 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) (r k : Fin 1024) :
    ∀ (n : ℕ) (hn : n < cfg0.N), (outsAt0 m c n hn).2 (ix2 r k)
      = Cert.InpRefIdeal.Read.val_main_v19 (F := Ideal) x0 x1 x2 x3 (ix3 (seq n hn) (row n r) k) := by
  intro n
  induction n using Nat.strong_induction_on with
  | _ n ih =>
    intro hn
    by_cases hz : n % 5 = 0
    · rw [sc_A m c ⟨n, hn⟩ hz, pay1_apply, Cert.InpRefIdeal.At.v19_apply]
      have e0 : (fun j => (iblk m c 0 ⟨n, hn⟩ : Vec Ideal S1x1024x1024 .f32) (ix3 0 r j)) = fun j => x0 (ix3 (seq n hn) (row n r) j) :=
        funext fun j => (b0 m c ⟨n, hn⟩ r j).trans (congrFun h0 _)
      have e1 : (fun j => (iblk m c 1 ⟨n, hn⟩ : Vec Ideal S1x1024 .f32) (ix2 0 j)) = fun j => x1 (ix2 0 j) :=
        funext fun j => (b1 m c ⟨n, hn⟩ j).trans (congrFun h1 _)
      have e2 : (fun j => (iblk m c 2 ⟨n, hn⟩ : Vec Ideal S1x1x1024 .f32) (ix3 0 0 j)) = fun j => x2 (ix3 (seq n hn) 0 j) :=
        funext fun j => (b2 m c ⟨n, hn⟩ j).trans (congrFun h2 _)
      have e3 : (fun j => (iblk m c 3 ⟨n, hn⟩ : Vec Ideal S1x1x1024 .f32) (ix3 0 0 j)) = fun j => x3 (ix3 (seq n hn) 0 j) :=
        funext fun j => (b3 m c ⟨n, hn⟩ j).trans (congrFun h3 _)
      rw [e0, e1, e2, e3]
    · rw [sc_B m c ⟨n, hn⟩ hz]
      have hs : seq (n - 1) (Nat.lt_of_le_of_lt (Nat.sub_le _ _) hn) = seq n hn := Fin.ext (by show (n - 1) / 20 = n / 20; omega)
      have hr : row (n - 1) r = row n r := Fin.ext (by
        show 1024 * ((n - 1) / 5 % 4) + r.val = 1024 * (n / 5 % 4) + r.val; omega)
      have := ih (n - 1) (by omega) (Nat.lt_of_le_of_lt (Nat.sub_le _ _) hn)
      rw [hs, hr] at this
      exact this

/-- The kernel's result at an index is the reference's. -/
theorem result_apply (c : Dev nD) (x0 : FVec Ideal S16x4096x1024 .f32) (x1 : FVec Ideal S1x1024 .f32) (x2 x3 : FVec Ideal S16x1x1024 .f32)
    (x4 : FVec Ideal S1x1024x8224 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (b : Fin 16) (l : Fin 4096) (j : Fin 8320) :
    Value.G5 m c (ix3 b l j) = Cert.InpRefIdeal.Read.val_main_v31 (F := Ideal) x0 x1 x2 x3 x4 (ix3 b l j) := by
  have hb := b.isLt
  have hl := l.isLt
  have hj := j.isLt
  obtain ⟨n, hn⟩ : ∃ n, n = 20 * b.val + 5 * (l.val / 1024) + j.val / 1664 := ⟨_, rfl⟩
  have hp : Value.pt5Of (ix3 b l j) = n := by
    show 20 * (b.val / 1 - 0) + 5 * (l.val / 1024 - 0) + 1 * (j.val / 1664 - 0) = n
    omega
  have hlt : n < cfg0.N := by rw [show cfg0.N = 320 from N_0]; omega
  have hloc : Value.loc5Of (ix3 b l j) = ix3 (0 : Fin 1) (⟨l.val % 1024, Nat.mod_lt _ (by decide)⟩ : Fin 1024)
      (⟨j.val % 1664, Nat.mod_lt _ (by decide)⟩ : Fin 1664) := by
    funext a
    match a with
    | ⟨0, _⟩ => exact Fin.ext (Nat.mod_one _)
    | ⟨1, _⟩ => rfl
    | ⟨2, _⟩ => rfl
  have hG : Value.G5 m c (ix3 b l j) = (outsAt0 m c n hlt).1 (ix3 (0 : Fin 1) (⟨l.val % 1024, Nat.mod_lt _ (by decide)⟩ : Fin 1024)
      (⟨j.val % 1664, Nat.mod_lt _ (by decide)⟩ : Fin 1664)) := by
    unfold Value.G5
    rw [dif_pos (by rw [hp]; exact hlt), ← Value.outsAt0_sweep m c _ (by rw [hp]; exact hlt), hloc]
    simp only [hp]
  have hs : seq n hlt = b := Fin.ext (by show n / 20 = b.val; omega)
  have hr : row n ⟨l.val % 1024, Nat.mod_lt _ (by decide)⟩ = l := Fin.ext (by
    show 1024 * (n / 5 % 4) + l.val % 1024 = l.val; omega)
  have hc : col n ⟨j.val % 1664, Nat.mod_lt _ (by decide)⟩ = j := Fin.ext (by
    show 1664 * (n % 5) + j.val % 1664 = j.val; omega)
  rw [hG, out_eq m c ⟨n, hlt⟩, pay2_apply, Cert.InpRefIdeal.At.v31_apply]
  have hv : (fun i => Cert.InpRefIdeal.Read.val_main_v21 (F := Ideal) x0 x1 x2 x3 x4 (ix3 b l i))
      = fun i => ∑ k, Cert.InpRefIdeal.Read.val_main_v19 (F := Ideal) x0 x1 x2 x3 (ix3 b l k) * x4 (ix3 0 k i) :=
    funext fun i => Cert.InpRefIdeal.At.v21_apply x0 x1 x2 x3 x4 b l i
  have key : ∑ k : Fin 1024, Cert.InpRefIdeal.Read.val_main_v19 (F := Ideal) x0 x1 x2 x3 (ix3 b l k) * lay (fun i => x4 (ix3 0 k i)) j
      = lay (fun i => Cert.InpRefIdeal.Read.val_main_v21 (F := Ideal) x0 x1 x2 x3 x4 (ix3 b l i)) j :=
    (sum_lay (fun k => Cert.InpRefIdeal.Read.val_main_v19 (F := Ideal) x0 x1 x2 x3 (ix3 b l k)) (fun k i => x4 (ix3 0 k i)) j).trans
      (congrArg (fun f => lay f j) hv.symm)
  refine Eq.trans ?_ key
  show @Eq EReal _ _
  refine Finset.sum_congr rfl fun k _ => congrArg₂ (fun a w : EReal => a * w) ?_ ?_
  · have e := rows_eq m c x0 x1 x2 x3 h0 h1 h2 h3 ⟨l.val % 1024, Nat.mod_lt _ (by decide)⟩ k n hlt
    rw [hs, hr] at e
    exact e
  · have e := b4 m c ⟨n, hlt⟩ k ⟨j.val % 1664, Nat.mod_lt _ (by decide)⟩
    rw [h4] at e
    refine e.trans ?_
    show lay _ (col n _) = _
    rw [hc]

end Cert.InpIdeal.Eq

end
-- ==== Proof.InpClaims.lean ====
/-
  The claims about the input projection: its run, the reference's, and that they end with the same result.
-/
module

public import proofs.«01_k».proof.Defs
public import proofs.«01_k».proof.Proof.InpEq
public import proofs.«01_k».proof.Proof.Gen.Inp.Frame
public import proofs.«01_k».proof.Proof.Gen.Inp
public import proofs.«01_k».proof.Proof.Gen.InpIdeal
public import proofs.«01_k».proof.Proof.Gen.InpRefIdeal
public import Idealize.ShloMosaic.Lib.Claim
public import Idealize.ShloMosaic.Adequacy
public import Idealize.ShloMosaic.Lib.Quiescent

@[expose] public section

set_option maxRecDepth 16384

noncomputable section

namespace Cert.InpClaims

open Idealize.ShloMosaic Idealize.SL.Sem

theorem frameP : quiescent_Inp (hInp := Cert.Inp.Gen.facts) := fun m g _ => Cert.Inp.Gen.frame m g

theorem framePI : quiescent_InpIdeal (hInpIdeal := Cert.InpIdeal.Gen.facts) := fun m g _ => Cert.InpIdeal.Gen.frame m g

theorem frameRI : quiescent_InpRefIdeal (hInpRefIdeal := Cert.InpRefIdeal.Gen.facts) := fun m g _ =>
  (θ_run Cert.InpRefIdeal.defs _ _).mono (fun r h => ⟨fun c => (h c).2, Idealize.ShloMosaic.sem_eq_zero_of_no_sems (by decide) r.2⟩)
    (Cert.InpRefIdeal.Value.run (F := Ideal) m g)

theorem algebraic : algebraic_InpIdeal_InpRefIdeal (hInpIdeal := Cert.InpIdeal.Gen.facts)
    (hInpRefIdeal := Cert.InpRefIdeal.Gen.facts) := by
  intro m g m' g' hpre hag
  refine ⟨fun c => Cert.InpIdeal.Value.G5 m c, Cert.InpIdeal.Value.run m g,
    (θ_run Cert.InpRefIdeal.defs _ _).mono (fun r h c => ⟨(h c).1.trans ?_, (h c).2⟩) (Cert.InpRefIdeal.Value.run (F := Ideal) m' g')⟩
  obtain ⟨h0, h1, h2, h3, h4⟩ := hag c
  refine (Cert.InpRefIdeal.Read.val_main_v31_eq m' c).trans ?_
  refine funext fun i => ?_
  obtain ⟨b, l, j, rfl⟩ : ∃ (b : Fin 16) (l : Fin 4096) (j : Fin 8320), i = ix3 b l j := ⟨i 0, i 1, i 2, by idx_ext⟩
  exact (Cert.InpIdeal.Eq.result_apply m c _ _ _ _ _ h0.symm h1.symm h2.symm h3.symm h4.symm b l j).symm

end Cert.InpClaims

end
-- ==== Proof.MixPay.lean ====
/-
  What one grid point of the merge of the two mixers computes, read at an index over the extended reals: the attention
  heads' normalisation and output gate, the gated merge of the two branches, the residual, the modulated normalisation for
  the feed-forward part, and the router's logits.
-/
module

public import proofs.«01_k».proof.Proof.Gen.MixIdeal.Skeleton
public import proofs.«01_k».proof.Proof.InpPay
public import Idealize.ShloMosaic.Lib.Pointwise

@[expose] public section

set_option maxRecDepth 16384

noncomputable section

namespace Cert.MixIdeal.Pay

open Cert.MixIdeal Cert.MixIdeal.Gen Idealize.ShloMosaic Idealize.ShloMosaic.TcCoe Idealize.SL.Sem
open Cert.InpIdeal.Pay (normMod)

/-- A row's head, each of 256 columns, over its root mean square. -/
def headNorm (s : Fin 1024 → EReal) (h : Fin 4) (f : Fin 256) : EReal :=
  s ⟨256 * h.val + f.val, by omega⟩
    * Ideal.rsqrt (Ideal.div (∑ i : Fin 256, s ⟨256 * h.val + i.val, by omega⟩ * s ⟨256 * h.val + i.val, by omega⟩)
        (Ideal.ofBits .f32 0x43800000#32) + Ideal.ofBits .f32 0x358637BD#32)

/-- The attention branch: both directions added, normalised head by head, weighted and gated. -/
def attn (of ob gnw ug : Fin 1024 → EReal) (j : Fin 1024) : EReal :=
  headNorm (fun i => of i + ob i) ⟨j.val / 256, by omega⟩ ⟨j.val % 256, Nat.mod_lt _ (by decide)⟩ * gnw j * (ug j * Ideal.logistic (ug j))

/-- The two branches, projected and gated. -/
def merged (yh at_ : Fin 1024 → EReal) (gate : Fin 2048 → EReal) (phy pgla : Fin 1024 → Fin 1024 → EReal) (d : Fin 1024) : EReal :=
  Ideal.logistic (gate ⟨d.val, by omega⟩) * (∑ k, yh k * phy k d) + Ideal.logistic (gate ⟨1024 + d.val, by omega⟩) * (∑ k, at_ k * pgla k d)

/-- The residual stream after the mixers. -/
def resid (x g1 mg : Fin 1024 → EReal) (wout : Fin 1024 → Fin 1024 → EReal) (d : Fin 1024) : EReal :=
  x d + g1 d * ∑ k, mg k * wout k d

theorem pay4_apply (a b : Vec Ideal S1x512x1024 .bf16) (r : Fin 512) (f : Fin 256) :
    k0_pay4 a b (ix2 r f) = headNorm (fun i => a (ix3 0 r i) + b (ix3 0 r i)) 0 f := by
  unfold headNorm
  pointwise [k0_pay4, k0_pay3]

theorem pay5_apply (a b : Vec Ideal S1x512x1024 .bf16) (r : Fin 512) (f : Fin 256) :
    k0_pay5 a b (ix2 r f) = headNorm (fun i => a (ix3 0 r i) + b (ix3 0 r i)) 1 f := by
  unfold headNorm
  pointwise [k0_pay5, k0_pay3]

theorem pay6_apply (a b : Vec Ideal S1x512x1024 .bf16) (r : Fin 512) (f : Fin 256) :
    k0_pay6 a b (ix2 r f) = headNorm (fun i => a (ix3 0 r i) + b (ix3 0 r i)) 2 f := by
  unfold headNorm
  pointwise [k0_pay6, k0_pay3]

theorem pay7_apply (a b : Vec Ideal S1x512x1024 .bf16) (r : Fin 512) (f : Fin 256) :
    k0_pay7 a b (ix2 r f) = a (ix3 0 r ⟨768 + f.val, by omega⟩) + b (ix3 0 r ⟨768 + f.val, by omega⟩) := by
  pointwise [k0_pay7, k0_pay3]

/-- The four heads side by side. -/
theorem ladder (s : Fin 1024 → EReal) (j : Fin 1024) (a0 a1 a2 a3 : Fin 256 → EReal)
    (e0 : ∀ f, a0 f = headNorm s 0 f) (e1 : ∀ f, a1 f = headNorm s 1 f) (e2 : ∀ f, a2 f = headNorm s 2 f) (e3 : ∀ f, a3 f = headNorm s 3 f) :
    (if h : j.val < 256 then a0 ⟨j.val, h⟩
      else if h : j.val - 256 < 256 then a1 ⟨j.val - 256, h⟩
      else if h : j.val - 256 - 256 < 256 then a2 ⟨j.val - 256 - 256, h⟩
      else a3 ⟨j.val - 256 - 256 - 256, by omega⟩)
    = headNorm s ⟨j.val / 256, by omega⟩ ⟨j.val % 256, Nat.mod_lt _ (by decide)⟩ := by
  have hq : ∀ (h : Fin 4) (f : Fin 256), j.val = 256 * h.val + f.val →
      headNorm s h f = headNorm s ⟨j.val / 256, by omega⟩ ⟨j.val % 256, Nat.mod_lt _ (by decide)⟩ := by
    intro h f e
    have a : (⟨j.val / 256, by omega⟩ : Fin 4) = h := Fin.ext (by show j.val / 256 = h.val; omega)
    have b : (⟨j.val % 256, Nat.mod_lt _ (by decide)⟩ : Fin 256) = f := Fin.ext (by show j.val % 256 = f.val; omega)
    rw [a, b]
  by_cases h0 : j.val < 256
  · rw [dif_pos h0, e0]; exact hq 0 _ (by show j.val = 256 * 0 + j.val; omega)
  rw [dif_neg h0]
  by_cases h1 : j.val - 256 < 256
  · rw [dif_pos h1, e1]; exact hq 1 _ (by show j.val = 256 * 1 + (j.val - 256); omega)
  rw [dif_neg h1]
  by_cases h2 : j.val - 256 - 256 < 256
  · rw [dif_pos h2, e2]; exact hq 2 _ (by show j.val = 256 * 2 + (j.val - 256 - 256); omega)
  rw [dif_neg h2, e3]
  exact hq 3 _ (by show j.val = 256 * 3 + (j.val - 256 - 256 - 256); omega)

theorem pay9_apply (p0 p1 p2 p3 : FVec Ideal S512x256 .f32) (gnw : Vec Ideal S1x1024 .f32) (ug : Vec Ideal S1x512x1024 .bf16)
    (gate : Vec Ideal S1x512x2048 .bf16) (yh : Vec Ideal S1x512x1024 .bf16) (phy pgla : Vec Ideal S1024x1024 .bf16)
    (r : Fin 512) (d : Fin 1024) (s : Fin 1024 → EReal)
    (e0 : ∀ f, p0 (ix2 r f) = headNorm s 0 f) (e1 : ∀ f, p1 (ix2 r f) = headNorm s 1 f)
    (e2 : ∀ f, p2 (ix2 r f) = headNorm s 2 f) (e3 : ∀ f : Fin 256, p3 (ix2 r f) = s ⟨768 + f.val, by omega⟩) :
    k0_pay9 p0 p1 p2 p3 (mulf p3 p3) gnw ug gate yh phy pgla (ix2 r d)
      = merged (fun k => yh (ix3 0 r k))
          (fun j => headNorm s ⟨j.val / 256, by omega⟩ ⟨j.val % 256, Nat.mod_lt _ (by decide)⟩ * gnw (ix2 0 j)
            * (ug (ix3 0 r j) * Ideal.logistic (ug (ix3 0 r j))))
          (fun j => gate (ix3 0 r j)) (fun k e => phy (ix2 k e)) (fun k e => pgla (ix2 k e)) d := by
  pointwise [k0_pay9]
  unfold merged
  refine congrArg₂ (· + ·) rfl (congrArg₂ (· * ·) rfl ?_)
  show @Eq EReal _ _
  refine Finset.sum_congr rfl fun j _ => ?_
  refine congrArg (fun z : EReal => z * gnw (ix2 0 j) * (ug (ix3 0 r j) * Ideal.logistic (ug (ix3 0 r j))) * pgla (ix2 j d)) ?_
  exact ladder s j (fun f => p0 (ix2 r f)) (fun f => p1 (ix2 r f)) (fun f => p2 (ix2 r f))
    (fun f => p3 (ix2 r f) * Ideal.rsqrt (Ideal.div (∑ i, p3 (ix2 r i) * p3 (ix2 r i)) (Ideal.ofBits .f32 0x43800000#32)
      + Ideal.ofBits .f32 0x358637BD#32)) e0 e1 e2 (fun f => by simp only [e3]; rfl)

theorem pay10_apply (mg : FVec Ideal S512x1024 .f32) (x : Vec Ideal S1x512x1024 .f32) (g1 : Vec Ideal S1x1x1024 .f32)
    (wout : Vec Ideal S1024x1024 .bf16) (r : Fin 512) (d : Fin 1024) :
    k0_pay10 mg x g1 wout (ix2 r d)
      = resid (fun k => x (ix3 0 r k)) (fun k => g1 (ix3 0 0 k)) (fun k => mg (ix2 r k)) (fun k e => wout (ix2 k e)) d := by
  unfold resid
  pointwise [k0_pay10]

theorem pay11_apply (mg : FVec Ideal S512x1024 .f32) (x : Vec Ideal S1x512x1024 .f32) (g1 : Vec Ideal S1x1x1024 .f32)
    (wout : Vec Ideal S1024x1024 .bf16) (r : Fin 512) (d : Fin 1024) :
    k0_pay11 mg x g1 wout (ix3 0 r d) = k0_pay10 mg x g1 wout (ix2 r d) := by
  pointwise [k0_pay11]

theorem pay12_apply (mg : FVec Ideal S512x1024 .f32) (x : Vec Ideal S1x512x1024 .f32) (g1 : Vec Ideal S1x1x1024 .f32)
    (wout : Vec Ideal S1024x1024 .bf16) (n2w : Vec Ideal S1x1024 .f32) (sh sc : Vec Ideal S1x1x1024 .f32) (r : Fin 512) (d : Fin 1024) :
    k0_pay12 mg x g1 wout n2w sh sc (ix2 r d)
      = normMod (fun k => k0_pay10 mg x g1 wout (ix2 r k)) (fun k => n2w (ix2 0 k)) (fun k => sh (ix3 0 0 k)) (fun k => sc (ix3 0 0 k)) d := by
  unfold normMod
  unfold k0_pay12
  generalize k0_pay10 mg x g1 wout = q
  pointwise []

theorem pay1_apply (v : FVec Ideal S512x1024 .f32) (r : Fin 512) (d : Fin 1024) :
    k0_pay1 v (ix3 0 r d) = v (ix2 r d) := by
  pointwise [k0_pay1]

theorem pay2_apply (v : FVec Ideal S512x1024 .f32) (rw_ : Vec Ideal S64x1024 .f32) (e : Fin 64) (r : Fin 512) :
    k0_pay2 v rw_ (ix3 0 e r) = ∑ k, v (ix2 r k) * rw_ (ix2 e k) := by
  have h : k0_pay2 v rw_ (ix3 0 e r) = ∑ k, rw_ (ix2 e k) * v (ix2 r k) := by pointwise [k0_pay2]
  refine h.trans ?_
  show @Eq EReal _ _
  exact Finset.sum_congr rfl fun k _ => EReal.mul_comm _ _

end Cert.MixIdeal.Pay

end
-- ==== Proof.MixBlocks.lean ====
/-
  The blocks a grid point of the merge reads, and what the point leaves, as entries of the program's arguments.
-/
module

public import proofs.«01_k».proof.Proof.Gen.MixIdeal.Value
public import proofs.«01_k».proof.Proof.MixPay
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MixIdeal.Blocks

open Cert.MixIdeal Cert.MixIdeal.Gen Cert.MixIdeal.Pay Idealize.ShloMosaic Idealize.ShloMosaic.TcCoe Idealize.SL.Sem

/-- Where the inputs' blocks stand: the sequence is `t / 8`, the tile of rows `t % 8`. -/
theorem idx : ∀ t : Fin grid0.N,
    win0_0.index t = ![t.val / 8, t.val % 8, 0] ∧ win0_1.index t = ![t.val / 8, t.val % 8, 0] ∧ win0_2.index t = ![t.val / 8, t.val % 8, 0]
    ∧ win0_3.index t = ![t.val / 8, t.val % 8, 2] ∧ win0_4.index t = ![t.val / 8, t.val % 8, 0] ∧ win0_5.index t = ![t.val / 8, t.val % 8, 0]
    ∧ win0_6.index t = ![0, 0] ∧ win0_7.index t = ![0, 0] ∧ win0_8.index t = ![0, 0] ∧ win0_9.index t = ![0, 0]
    ∧ win0_10.index t = ![t.val / 8, 0, 0] ∧ win0_11.index t = ![0, 0] ∧ win0_12.index t = ![t.val / 8, 0, 0]
    ∧ win0_13.index t = ![t.val / 8, 0, 0] ∧ win0_14.index t = ![0, 0] := by decide +kernel

/-- Where the outputs' stand. -/
theorem odx : ∀ t : Fin grid0.N,
    win0_15.index t = ![t.val / 8, t.val % 8, 0] ∧ win0_16.index t = ![t.val / 8, t.val % 8, 0] ∧ win0_17.index t = ![t.val / 8, 0, t.val % 8] := by decide +kernel

variable (m : (ℓ : Loc nD τ sig) → Buf (Elt Ideal) ℓ)

/-- The sequence of point `n`. -/
def seq (n : ℕ) (h : n < cfg0.N) : Fin 16 := ⟨n / 8, by have := lt_of_lt_of_eq h N_0; omega⟩

/-- The row of the sequence that row `r` of point `n`'s tile is. -/
def row (n : ℕ) (r : Fin 512) : Fin 4096 := ⟨512 * (n % 8) + r.val, by have := r.isLt; omega⟩

theorem e1 (c : Dev nD) (k : Fin 1024) : V m c main_v1 (ix2 0 k) = m ((c : Thread nD τ).loc main_arg5) (ix2 0 k) := by
  unfold V
  simp only [hostOps0, List.flatten_cons, List.flatten_nil, List.append_nil, List.cons_append, List.nil_append]
  entry_read
  pointwise

theorem e9 (c : Dev nD) (k : Fin 1024) : V m c main_v9 (ix2 0 k) = m ((c : Thread nD τ).loc main_arg10) (ix2 0 k) := by
  unfold V
  simp only [hostOps0, List.flatten_cons, List.flatten_nil, List.append_nil, List.cons_append, List.nil_append]
  entry_read
  pointwise

theorem e3 (c : Dev nD) (k e : Fin 1024) : V m c main_v3 (ix2 k e) = m ((c : Thread nD τ).loc main_arg6) (ix3 0 k e) := by
  unfold V
  simp only [hostOps0, List.flatten_cons, List.flatten_nil, List.append_nil, List.cons_append, List.nil_append]
  entry_read
  pointwise

theorem e5 (c : Dev nD) (k e : Fin 1024) : V m c main_v5 (ix2 k e) = m ((c : Thread nD τ).loc main_arg7) (ix3 0 k e) := by
  unfold V
  simp only [hostOps0, List.flatten_cons, List.flatten_nil, List.append_nil, List.cons_append, List.nil_append]
  entry_read
  pointwise

theorem e7 (c : Dev nD) (k e : Fin 1024) : V m c main_v7 (ix2 k e) = m ((c : Thread nD τ).loc main_arg8) (ix3 0 k e) := by
  unfold V
  simp only [hostOps0, List.flatten_cons, List.flatten_nil, List.append_nil, List.cons_append, List.nil_append]
  entry_read
  pointwise

theorem e11 (c : Dev nD) (k : Fin 1024) (e : Fin 64) : V m c main_v11 (ix2 e k) = m ((c : Thread nD τ).loc main_arg13) (ix3 0 k e) := by
  unfold V
  simp only [hostOps0, List.flatten_cons, List.flatten_nil, List.append_nil, List.cons_append, List.nil_append]
  entry_read
  pointwise

theorem b0 (c : Dev nD) (t : Fin cfg0.N) (r : Fin 512) (k : Fin 1024) :
    iblk m c 0 t (ix3 0 r k) = m ((c : Thread nD τ).loc main_arg0) (ix3 (seq t.val t.isLt) (row t.val r) k) := by
  unfold row seq
  blk_ext! [iblk, V, idx t]

theorem b1 (c : Dev nD) (t : Fin cfg0.N) (r : Fin 512) (k : Fin 1024) :
    iblk m c 1 t (ix3 0 r k) = m ((c : Thread nD τ).loc main_arg1) (ix3 (seq t.val t.isLt) (row t.val r) k) := by
  unfold row seq
  blk_ext! [iblk, V, idx t]

theorem b2 (c : Dev nD) (t : Fin cfg0.N) (r : Fin 512) (k : Fin 1024) :
    iblk m c 2 t (ix3 0 r k) = m ((c : Thread nD τ).loc main_arg2) (ix3 (seq t.val t.isLt) (row t.val r) k) := by
  unfold row seq
  blk_ext! [iblk, V, idx t]

theorem b5 (c : Dev nD) (t : Fin cfg0.N) (r : Fin 512) (k : Fin 1024) :
    iblk m c 5 t (ix3 0 r k) = m ((c : Thread nD τ).loc main_arg4) (ix3 (seq t.val t.isLt) (row t.val r) k) := by
  unfold row seq
  blk_ext! [iblk, V, idx t]

theorem b10 (c : Dev nD) (t : Fin cfg0.N) (k : Fin 1024) :
    iblk m c 10 t (ix3 0 0 k) = m ((c : Thread nD τ).loc main_arg9) (ix3 (seq t.val t.isLt) 0 k) := by
  unfold seq
  blk_ext! [iblk, V, idx t]

theorem b12 (c : Dev nD) (t : Fin cfg0.N) (k : Fin 1024) :
    iblk m c 12 t (ix3 0 0 k) = m ((c : Thread nD τ).loc main_arg11) (ix3 (seq t.val t.isLt) 0 k) := by
  unfold seq
  blk_ext! [iblk, V, idx t]

theorem b13 (c : Dev nD) (t : Fin cfg0.N) (k : Fin 1024) :
    iblk m c 13 t (ix3 0 0 k) = m ((c : Thread nD τ).loc main_arg12) (ix3 (seq t.val t.isLt) 0 k) := by
  unfold seq
  blk_ext! [iblk, V, idx t]

theorem b6 (c : Dev nD) (t : Fin cfg0.N) (k : Fin 1024) :
    iblk m c 6 t (ix2 0 k) = m ((c : Thread nD τ).loc main_arg5) (ix2 0 k) := by
  refine Eq.trans ?_ (e1 m c k)
  show V m c main_v1 _ = V m c main_v1 _
  blk_ext [idx t]

theorem b11 (c : Dev nD) (t : Fin cfg0.N) (k : Fin 1024) :
    iblk m c 11 t (ix2 0 k) = m ((c : Thread nD τ).loc main_arg10) (ix2 0 k) := by
  refine Eq.trans ?_ (e9 m c k)
  show V m c main_v9 _ = V m c main_v9 _
  blk_ext [idx t]

theorem b7 (c : Dev nD) (t : Fin cfg0.N) (k e : Fin 1024) :
    iblk m c 7 t (ix2 k e) = m ((c : Thread nD τ).loc main_arg6) (ix3 0 k e) := by
  refine Eq.trans ?_ (e3 m c k e)
  show V m c main_v3 _ = V m c main_v3 _
  blk_ext [idx t]

theorem b8 (c : Dev nD) (t : Fin cfg0.N) (k e : Fin 1024) :
    iblk m c 8 t (ix2 k e) = m ((c : Thread nD τ).loc main_arg7) (ix3 0 k e) := by
  refine Eq.trans ?_ (e5 m c k e)
  show V m c main_v5 _ = V m c main_v5 _
  blk_ext [idx t]

theorem b9 (c : Dev nD) (t : Fin cfg0.N) (k e : Fin 1024) :
    iblk m c 9 t (ix2 k e) = m ((c : Thread nD τ).loc main_arg8) (ix3 0 k e) := by
  refine Eq.trans ?_ (e7 m c k e)
  show V m c main_v7 _ = V m c main_v7 _
  blk_ext [idx t]

theorem b14 (c : Dev nD) (t : Fin cfg0.N) (k : Fin 1024) (e : Fin 64) :
    iblk m c 14 t (ix2 e k) = m ((c : Thread nD τ).loc main_arg13) (ix3 0 k e) := by
  refine Eq.trans ?_ (e11 m c k e)
  show V m c main_v11 _ = V m c main_v11 _
  blk_ext [idx t]

theorem b3 (c : Dev nD) (t : Fin cfg0.N) (r : Fin 512) (k : Fin 1024) :
    X0_3 m c t (ix3 0 r k) = m ((c : Thread nD τ).loc main_arg3) (ix3 (seq t.val t.isLt) (row t.val r) ⟨2048 + k.val, by omega⟩) := by
  unfold X0_3 Pipeline.Window.fill
  rw [dif_pos (moved0_3 t _)]
  unfold row seq
  blk_ext! [iblk, V, idx t]

theorem b4 (c : Dev nD) (t : Fin cfg0.N) (r : Fin 512) (k : Fin 2048) :
    X0_4 m c t (ix3 0 r k) = m ((c : Thread nD τ).loc main_arg3) (ix3 (seq t.val t.isLt) (row t.val r) ⟨k.val, by omega⟩) := by
  unfold X0_4 Pipeline.Window.fill
  rw [dif_pos (moved0_4 t _)]
  unfold row seq
  blk_ext! [iblk, V, idx t]

/-- The merge at point `t`. -/
def mix (c : Dev nD) (t : Fin cfg0.N) : FVec Ideal S512x1024 .f32 :=
  k0_pay9 (k0_pay4 (iblk m c 1 t) (iblk m c 2 t)) (k0_pay5 (iblk m c 1 t) (iblk m c 2 t)) (k0_pay6 (iblk m c 1 t) (iblk m c 2 t))
        (k0_pay7 (iblk m c 1 t) (iblk m c 2 t)) (k0_pay8 (iblk m c 1 t) (iblk m c 2 t)) (iblk m c 6 t) (X0_3 m c t) (X0_4 m c t) (iblk m c 5 t) (iblk m c 7 t) (iblk m c 8 t)

theorem out15 (c : Dev nD) (t : Fin cfg0.N) :
    (outsAt0 m c t).1 = k0_pay11 (mix m c t) (iblk m c 0 t) (iblk m c 10 t) (iblk m c 9 t) := by
  unfold mix
  unfold outsAt0
  dsimp only
  frame_out

theorem out16 (c : Dev nD) (t : Fin cfg0.N) :
    (outsAt0 m c t).2.1 = k0_pay1 (k0_pay12 (mix m c t) (iblk m c 0 t) (iblk m c 10 t) (iblk m c 9 t) (iblk m c 11 t) (iblk m c 12 t) (iblk m c 13 t)) := by
  unfold mix
  unfold outsAt0
  dsimp only
  frame_out

theorem out17 (c : Dev nD) (t : Fin cfg0.N) :
    (outsAt0 m c t).2.2 = k0_pay2 (k0_pay12 (mix m c t) (iblk m c 0 t) (iblk m c 10 t) (iblk m c 9 t) (iblk m c 11 t) (iblk m c 12 t) (iblk m c 13 t)) (iblk m c 14 t) := by
  unfold mix
  unfold outsAt0
  dsimp only
  frame_out

theorem flush15 : ∀ t : Fin grid0.N, win0_15.flush t = true := by decide +kernel
theorem flush16 : ∀ t : Fin grid0.N, win0_16.flush t = true := by decide +kernel
theorem flush17 : ∀ t : Fin grid0.N, win0_17.flush t = true := by decide +kernel

theorem mem15 (t : Fin cfg0.N) (i : S16x4096x1024.Idx) :
    i ∈ ((cfg0.win 15).blk t).view.set
      ↔ ∀ a : Fin 3, win0_15.index t a * S1x512x1024.size a ≤ (i a).val ∧ (i a).val < win0_15.index t a * S1x512x1024.size a + S1x512x1024.size a := by
  show i ∈ ((View.whole main_v12_0).slice (win0_15.rect t)).set ↔ _
  rw [View.set_slice_whole, Rect.mem_set_unit]
  exact Iff.rfl

theorem mem16 (t : Fin cfg0.N) (i : S16x4096x1024.Idx) :
    i ∈ ((cfg0.win 16).blk t).view.set
      ↔ ∀ a : Fin 3, win0_16.index t a * S1x512x1024.size a ≤ (i a).val ∧ (i a).val < win0_16.index t a * S1x512x1024.size a + S1x512x1024.size a := by
  show i ∈ ((View.whole main_v12_1).slice (win0_16.rect t)).set ↔ _
  rw [View.set_slice_whole, Rect.mem_set_unit]
  exact Iff.rfl

theorem mem17 (t : Fin cfg0.N) (i : S16x64x4096.Idx) :
    i ∈ ((cfg0.win 17).blk t).view.set
      ↔ ∀ a : Fin 3, win0_17.index t a * S1x64x512.size a ≤ (i a).val ∧ (i a).val < win0_17.index t a * S1x64x512.size a + S1x64x512.size a := by
  show i ∈ ((View.whole main_v12_2).slice (win0_17.rect t)).set ↔ _
  rw [View.set_slice_whole, Rect.mem_set_unit]
  exact Iff.rfl

/-- The array of output 15 after the run, given what each point leaves in its block. -/
theorem final15 (c : Dev nD) (G : Buf (Elt Ideal) ((c : Thread nD τ).loc main_v12_0))
    (hv : ∀ (t : Fin cfg0.N) (r : Fin 512) (d : Fin 1024), (outsAt0 m c t).1 (ix3 0 r d) = G (ix3 (seq t.val t.isLt) (row t.val r) d)) :
    (dats m 0 c).arrAt 15 cfg0.N = G := by
  refine (dats m 0 c).arrAt_eq_of_cover 15 G (fun t hf => ?_) (fun i => ?_)
  · rw [Value.flushed15]
    funext y
    have h1 : (y 1).val < 512 := (y 1).isLt
    have h2 : (y 2).val < 1024 := (y 2).isLt
    obtain ⟨o15, o16, o17⟩ := odx t
    show (outsAt0 m c t).1 ((cfg0.win 15).xinj (grid0.coords t) y) = G (((cfg0.win 15).blk t).view.emb y)
    have e1 : (cfg0.win 15).xinj (grid0.coords t) y = (ix3 0 ⟨(y 1).val, h1⟩ ⟨(y 2).val, h2⟩ : S1x512x1024.Idx) := by
      funext a
      apply Fin.ext
      match a with
      | ⟨0, _⟩ => exact Nat.lt_one_iff.mp (y 0).isLt
      | ⟨1, _⟩ => rfl
      | ⟨2, _⟩ => rfl
    have e2 : ((cfg0.win 15).blk t).view.emb y = (ix3 (seq t.val t.isLt) (row t.val ⟨(y 1).val, h1⟩) ⟨(y 2).val, h2⟩ : S16x4096x1024.Idx) := by
      have y0 : (y 0).val = 0 := Nat.lt_one_iff.mp (y 0).isLt
      funext a
      apply Fin.ext
      match a with
      | ⟨0, _⟩ =>
        show win0_15.index t (0 : Fin 3) * 1 + 1 * (y 0).val = t.val / 8
        rw [o15, y0]; simp
      | ⟨1, _⟩ =>
        show win0_15.index t (1 : Fin 3) * 512 + 1 * (y 1).val = 512 * (t.val % 8) + (y 1).val
        rw [o15]; simp; omega
      | ⟨2, _⟩ =>
        show win0_15.index t (2 : Fin 3) * 1024 + 1 * (y 2).val = (y 2).val
        rw [o15]; simp
    rw [e1, e2]
    exact hv t _ _
  · have h0 : (i 0).val < 16 := (i 0).isLt
    have h1 : (i 1).val < 4096 := (i 1).isLt
    have h2 : (i 2).val < 1024 := (i 2).isLt
    refine ⟨⟨8 * (i 0).val + (i 1).val / 512, lt_of_lt_of_eq (by omega) N_0.symm⟩, flush15 _, ?_⟩
    obtain ⟨o15, o16, o17⟩ := odx ⟨8 * (i 0).val + (i 1).val / 512, lt_of_lt_of_eq (by omega) N_0.symm⟩
    rw [mem15]
    intro a
    match a with
    | ⟨0, _⟩ =>
      show win0_15.index _ (0 : Fin 3) * 1 ≤ (i 0).val ∧ (i 0).val < win0_15.index _ (0 : Fin 3) * 1 + 1
      rw [o15]; simp; omega
    | ⟨1, _⟩ =>
      show win0_15.index _ (1 : Fin 3) * 512 ≤ (i 1).val ∧ (i 1).val < win0_15.index _ (1 : Fin 3) * 512 + 512
      rw [o15]; simp; omega
    | ⟨2, _⟩ =>
      show win0_15.index _ (2 : Fin 3) * 1024 ≤ (i 2).val ∧ (i 2).val < win0_15.index _ (2 : Fin 3) * 1024 + 1024
      rw [o15]; simp; omega

/-- The array of output 16 after the run, given what each point leaves in its block. -/
theorem final16 (c : Dev nD) (G : Buf (Elt Ideal) ((c : Thread nD τ).loc main_v12_1))
    (hv : ∀ (t : Fin cfg0.N) (r : Fin 512) (d : Fin 1024), (outsAt0 m c t).2.1 (ix3 0 r d) = G (ix3 (seq t.val t.isLt) (row t.val r) d)) :
    (dats m 0 c).arrAt 16 cfg0.N = G := by
  refine (dats m 0 c).arrAt_eq_of_cover 16 G (fun t hf => ?_) (fun i => ?_)
  · rw [Value.flushed16]
    funext y
    have h1 : (y 1).val < 512 := (y 1).isLt
    have h2 : (y 2).val < 1024 := (y 2).isLt
    obtain ⟨o15, o16, o17⟩ := odx t
    show (outsAt0 m c t).2.1 ((cfg0.win 16).xinj (grid0.coords t) y) = G (((cfg0.win 16).blk t).view.emb y)
    have e1 : (cfg0.win 16).xinj (grid0.coords t) y = (ix3 0 ⟨(y 1).val, h1⟩ ⟨(y 2).val, h2⟩ : S1x512x1024.Idx) := by
      funext a
      apply Fin.ext
      match a with
      | ⟨0, _⟩ => exact Nat.lt_one_iff.mp (y 0).isLt
      | ⟨1, _⟩ => rfl
      | ⟨2, _⟩ => rfl
    have e2 : ((cfg0.win 16).blk t).view.emb y = (ix3 (seq t.val t.isLt) (row t.val ⟨(y 1).val, h1⟩) ⟨(y 2).val, h2⟩ : S16x4096x1024.Idx) := by
      have y0 : (y 0).val = 0 := Nat.lt_one_iff.mp (y 0).isLt
      funext a
      apply Fin.ext
      match a with
      | ⟨0, _⟩ =>
        show win0_16.index t (0 : Fin 3) * 1 + 1 * (y 0).val = t.val / 8
        rw [o16, y0]; simp
      | ⟨1, _⟩ =>
        show win0_16.index t (1 : Fin 3) * 512 + 1 * (y 1).val = 512 * (t.val % 8) + (y 1).val
        rw [o16]; simp; omega
      | ⟨2, _⟩ =>
        show win0_16.index t (2 : Fin 3) * 1024 + 1 * (y 2).val = (y 2).val
        rw [o16]; simp
    rw [e1, e2]
    exact hv t _ _
  · have h0 : (i 0).val < 16 := (i 0).isLt
    have h1 : (i 1).val < 4096 := (i 1).isLt
    have h2 : (i 2).val < 1024 := (i 2).isLt
    refine ⟨⟨8 * (i 0).val + (i 1).val / 512, lt_of_lt_of_eq (by omega) N_0.symm⟩, flush16 _, ?_⟩
    obtain ⟨o15, o16, o17⟩ := odx ⟨8 * (i 0).val + (i 1).val / 512, lt_of_lt_of_eq (by omega) N_0.symm⟩
    rw [mem16]
    intro a
    match a with
    | ⟨0, _⟩ =>
      show win0_16.index _ (0 : Fin 3) * 1 ≤ (i 0).val ∧ (i 0).val < win0_16.index _ (0 : Fin 3) * 1 + 1
      rw [o16]; simp; omega
    | ⟨1, _⟩ =>
      show win0_16.index _ (1 : Fin 3) * 512 ≤ (i 1).val ∧ (i 1).val < win0_16.index _ (1 : Fin 3) * 512 + 512
      rw [o16]; simp; omega
    | ⟨2, _⟩ =>
      show win0_16.index _ (2 : Fin 3) * 1024 ≤ (i 2).val ∧ (i 2).val < win0_16.index _ (2 : Fin 3) * 1024 + 1024
      rw [o16]; simp; omega

/-- The array of output 17 after the run, given what each point leaves in its block. -/
theorem final17 (c : Dev nD) (G : Buf (Elt Ideal) ((c : Thread nD τ).loc main_v12_2))
    (hv : ∀ (t : Fin cfg0.N) (e : Fin 64) (r : Fin 512), (outsAt0 m c t).2.2 (ix3 0 e r) = G (ix3 (seq t.val t.isLt) e (row t.val r))) :
    (dats m 0 c).arrAt 17 cfg0.N = G := by
  refine (dats m 0 c).arrAt_eq_of_cover 17 G (fun t hf => ?_) (fun i => ?_)
  · rw [Value.flushed17]
    funext y
    have h1 : (y 1).val < 64 := (y 1).isLt
    have h2 : (y 2).val < 512 := (y 2).isLt
    obtain ⟨o15, o16, o17⟩ := odx t
    show (outsAt0 m c t).2.2 ((cfg0.win 17).xinj (grid0.coords t) y) = G (((cfg0.win 17).blk t).view.emb y)
    have e1 : (cfg0.win 17).xinj (grid0.coords t) y = (ix3 0 ⟨(y 1).val, h1⟩ ⟨(y 2).val, h2⟩ : S1x64x512.Idx) := by
      funext a
      apply Fin.ext
      match a with
      | ⟨0, _⟩ => exact Nat.lt_one_iff.mp (y 0).isLt
      | ⟨1, _⟩ => rfl
      | ⟨2, _⟩ => rfl
    have e2 : ((cfg0.win 17).blk t).view.emb y = (ix3 (seq t.val t.isLt) ⟨(y 1).val, h1⟩ (row t.val ⟨(y 2).val, h2⟩) : S16x64x4096.Idx) := by
      have y0 : (y 0).val = 0 := Nat.lt_one_iff.mp (y 0).isLt
      funext a
      apply Fin.ext
      match a with
      | ⟨0, _⟩ =>
        show win0_17.index t (0 : Fin 3) * 1 + 1 * (y 0).val = t.val / 8
        rw [o17, y0]; simp
      | ⟨1, _⟩ =>
        show win0_17.index t (1 : Fin 3) * 64 + 1 * (y 1).val = (y 1).val
        rw [o17]; simp
      | ⟨2, _⟩ =>
        show win0_17.index t (2 : Fin 3) * 512 + 1 * (y 2).val = 512 * (t.val % 8) + (y 2).val
        rw [o17]; simp; omega
    rw [e1, e2]
    exact hv t _ _
  · have h0 : (i 0).val < 16 := (i 0).isLt
    have h1 : (i 1).val < 64 := (i 1).isLt
    have h2 : (i 2).val < 4096 := (i 2).isLt
    refine ⟨⟨8 * (i 0).val + (i 2).val / 512, lt_of_lt_of_eq (by omega) N_0.symm⟩, flush17 _, ?_⟩
    obtain ⟨o15, o16, o17⟩ := odx ⟨8 * (i 0).val + (i 2).val / 512, lt_of_lt_of_eq (by omega) N_0.symm⟩
    rw [mem17]
    intro a
    match a with
    | ⟨0, _⟩ =>
      show win0_17.index _ (0 : Fin 3) * 1 ≤ (i 0).val ∧ (i 0).val < win0_17.index _ (0 : Fin 3) * 1 + 1
      rw [o17]; simp; omega
    | ⟨1, _⟩ =>
      show win0_17.index _ (1 : Fin 3) * 64 ≤ (i 1).val ∧ (i 1).val < win0_17.index _ (1 : Fin 3) * 64 + 64
      rw [o17]; simp; omega
    | ⟨2, _⟩ =>
      show win0_17.index _ (2 : Fin 3) * 512 ≤ (i 2).val ∧ (i 2).val < win0_17.index _ (2 : Fin 3) * 512 + 512
      rw [o17]; simp; omega

end Cert.MixIdeal.Blocks

end
-- ==== Proof.MixRefValue.lean ====
/-
  The reference of the merge of the two mixers, read at an index over the extended reals.
-/
module

public import proofs.«01_k».proof.Proof.Gen.MixRefIdeal.Read
public import proofs.«01_k».proof.Proof.MixPay
public import Idealize.ShloMosaic.Lib.Pointwise

@[expose] public section

set_option maxRecDepth 16384

noncomputable section

namespace Cert.MixRefIdeal.At

open Cert.MixRefIdeal Cert.MixRefIdeal.Gen Cert.MixRefIdeal.Read Idealize.ShloMosaic Idealize.ShloMosaic.TcCoe Idealize.SL.Sem
open Cert.InpIdeal.Pay (normMod)
open Cert.MixIdeal.Pay (headNorm merged resid)

variable (x0 : (⟨S16x4096x1024, .f32⟩ : BufTy).Contents (Elt Ideal)) (x1 x2 : (⟨S16x4096x1024, .bf16⟩ : BufTy).Contents (Elt Ideal))
  (x3 : (⟨S16x4096x8320, .bf16⟩ : BufTy).Contents (Elt Ideal)) (x4 : (⟨S16x4096x1024, .bf16⟩ : BufTy).Contents (Elt Ideal))
  (x5 : (⟨S1x1024, .f32⟩ : BufTy).Contents (Elt Ideal)) (x6 x7 x8 : (⟨S1x1024x1024, .f32⟩ : BufTy).Contents (Elt Ideal))
  (x9 : (⟨S16x1x1024, .f32⟩ : BufTy).Contents (Elt Ideal)) (x10 : (⟨S1x1024, .f32⟩ : BufTy).Contents (Elt Ideal))
  (x11 x12 : (⟨S16x1x1024, .f32⟩ : BufTy).Contents (Elt Ideal)) (x13 : (⟨S1x1024x64, .f32⟩ : BufTy).Contents (Elt Ideal))

/-- The gates. -/
theorem v7_apply (b : Fin 16) (l : Fin 4096) (j : Fin 2048) :
    val_main_v7 (F := Ideal) x3 (ix3 b l j) = Ideal.logistic (x3 (ix3 b l ⟨j.val, by omega⟩)) := by
  pointwise [val_main_v7, val_main_v6, val_main_v5, val_main_v4, val_main_v3, val_main_v2, val_main_v1, val_main_v0, val_main_cst, val_main_cst_0]
  rfl

/-- The gated unit on the attention branch. -/
theorem v30_apply (b : Fin 16) (l : Fin 4096) (j : Fin 1024) :
    val_main_v30 (F := Ideal) x3 (ix3 b l j)
      = x3 (ix3 b l ⟨2048 + j.val, by omega⟩) * Ideal.logistic (x3 (ix3 b l ⟨2048 + j.val, by omega⟩)) := by
  pointwise [val_main_v30, val_main_call0_v5, val_main_call0_v4, val_main_call0_v3, val_main_call0_v2, val_main_call0_v1, val_main_call0_v0,
    val_main_call0_cst, val_main_call0_cst_0, val_main_v9, val_main_v8]
  rfl

/-- The heads, normalised. -/
theorem v23_apply (b : Fin 16) (l : Fin 4096) (h : Fin 4) (f : Fin 256) :
    val_main_v23 (F := Ideal) x1 x2 (ix4 b l h f) = headNorm (fun i => x1 (ix3 b l i) + x2 (ix3 b l i)) h f := by
  unfold Cert.MixIdeal.Pay.headNorm
  simp only [Nat.mul_comm 256]
  pointwise [val_main_v23, val_main_v22, val_main_v21, val_main_v20, val_main_v19, val_main_v18, val_main_v17, val_main_v16, val_main_v15, val_main_v14, val_main_v13, val_main_v12, val_main_v11, val_main_v10, val_main_cst_1, val_main_cst_2, val_main_cst_3]

/-- … and weighted, side by side again. -/
theorem v29_apply (b : Fin 16) (l : Fin 4096) (j : Fin 1024) :
    val_main_v29 (F := Ideal) x1 x2 x5 (ix3 b l j)
      = val_main_v23 (F := Ideal) x1 x2 (ix4 b l ⟨j.val / 256, by omega⟩ ⟨j.val % 256, Nat.mod_lt _ (by decide)⟩) * x5 (ix2 0 j) := by
  unfold val_main_v29 val_main_v28
  generalize val_main_v23 (F := Ideal) x1 x2 = A
  pointwise [val_main_v27, val_main_v26, val_main_v25, val_main_v24]

/-- The attention branch. -/
theorem v31_apply (b : Fin 16) (l : Fin 4096) (j : Fin 1024) :
    val_main_v31 (F := Ideal) x1 x2 x3 x5 (ix3 b l j)
      = headNorm (fun i => x1 (ix3 b l i) + x2 (ix3 b l i)) ⟨j.val / 256, by omega⟩ ⟨j.val % 256, Nat.mod_lt _ (by decide)⟩ * x5 (ix2 0 j)
        * (x3 (ix3 b l ⟨2048 + j.val, by omega⟩) * Ideal.logistic (x3 (ix3 b l ⟨2048 + j.val, by omega⟩))) := by
  rw [← v23_apply x1 x2 b l, ← v30_apply x3 b l j, ← v29_apply x1 x2 x5 b l j]
  rfl

/-- The two branches merged. -/
theorem v41_apply (b : Fin 16) (l : Fin 4096) (d : Fin 1024) :
    val_main_v41 (F := Ideal) x1 x2 x3 x4 x5 x6 x7 (ix3 b l d)
      = merged (fun k => x4 (ix3 b l k)) (fun k => val_main_v31 (F := Ideal) x1 x2 x3 x5 (ix3 b l k))
          (fun j => x3 (ix3 b l ⟨j.val, by omega⟩)) (fun k e => x6 (ix3 0 k e)) (fun k e => x7 (ix3 0 k e)) d := by
  unfold Cert.MixIdeal.Pay.merged
  rw [← v7_apply x3 b l ⟨d.val, by omega⟩, ← v7_apply x3 b l ⟨1024 + d.val, by omega⟩]
  unfold val_main_v41 val_main_v40 val_main_v39 val_main_v37 val_main_v36 val_main_v35 val_main_v32
  generalize val_main_v7 (F := Ideal) x3 = A
  generalize val_main_v31 (F := Ideal) x1 x2 x3 x5 = B
  pointwise [val_main_v38, val_main_v34, val_main_v33]

/-- The residual stream. -/
theorem v46_apply (b : Fin 16) (l : Fin 4096) (d : Fin 1024) :
    val_main_v46 (F := Ideal) x0 x1 x2 x3 x4 x5 x6 x7 x8 x9 (ix3 b l d)
      = resid (fun k => x0 (ix3 b l k)) (fun k => x9 (ix3 b 0 k)) (fun k => val_main_v41 (F := Ideal) x1 x2 x3 x4 x5 x6 x7 (ix3 b l k))
          (fun k e => x8 (ix3 0 k e)) d := by
  unfold Cert.MixIdeal.Pay.resid
  unfold val_main_v46 val_main_v45 val_main_v43
  generalize val_main_v41 (F := Ideal) x1 x2 x3 x4 x5 x6 x7 = A
  pointwise [val_main_v44, val_main_v42]

/-- Its modulated normalisation. -/
theorem v66_apply (b : Fin 16) (l : Fin 4096) (d : Fin 1024) :
    val_main_v66 (F := Ideal) x0 x1 x2 x3 x4 x5 x6 x7 x8 x9 x10 x11 x12 (ix3 b l d)
      = normMod (fun k => val_main_v46 (F := Ideal) x0 x1 x2 x3 x4 x5 x6 x7 x8 x9 (ix3 b l k)) (fun k => x10 (ix2 0 k))
          (fun k => x11 (ix3 b 0 k)) (fun k => x12 (ix3 b 0 k)) d := by
  unfold Cert.InpIdeal.Pay.normMod
  unfold val_main_v66 val_main_v64 val_main_v60 val_main_v56 val_main_v55 val_main_v54 val_main_v53 val_main_v51 val_main_v49 val_main_v48 val_main_v47
  generalize val_main_v46 (F := Ideal) x0 x1 x2 x3 x4 x5 x6 x7 x8 x9 = A
  pointwise [val_main_v65, val_main_v63, val_main_v62, val_main_v61, val_main_v59, val_main_v58, val_main_v57, val_main_v52, val_main_v50,
    val_main_cst_4, val_main_cst_5, val_main_cst_6, val_main_cst_7]

/-- Its rounding, over the extended reals none. -/
theorem v69_apply (i : S16x4096x1024.Idx) :
    val_main_v69 (F := Ideal) x0 x1 x2 x3 x4 x5 x6 x7 x8 x9 x10 x11 x12 i
      = val_main_v66 (F := Ideal) x0 x1 x2 x3 x4 x5 x6 x7 x8 x9 x10 x11 x12 i := rfl

/-- The router's logits. -/
theorem v70_apply (b : Fin 16) (e : Fin 64) (l : Fin 4096) :
    val_main_v70 (F := Ideal) x0 x1 x2 x3 x4 x5 x6 x7 x8 x9 x10 x11 x12 x13 (ix3 b e l)
      = ∑ k : Fin 1024, val_main_v66 (F := Ideal) x0 x1 x2 x3 x4 x5 x6 x7 x8 x9 x10 x11 x12 (ix3 b l k) * x13 (ix3 0 k e) := by
  unfold val_main_v70 val_main_v68
  generalize val_main_v66 (F := Ideal) x0 x1 x2 x3 x4 x5 x6 x7 x8 x9 x10 x11 x12 = A
  pointwise [val_main_v67]

end Cert.MixRefIdeal.At

end
-- ==== Proof.MixEq.lean ====
/-
  What a grid point of the merge leaves is what the reference says, entry by entry.
-/
module

public import proofs.«01_k».proof.Proof.Gen.MixIdeal.Value
public import proofs.«01_k».proof.Proof.MixBlocks
public import proofs.«01_k».proof.Proof.MixRefValue
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MixIdeal.Eq

open Cert.MixIdeal Cert.MixIdeal.Gen Cert.MixIdeal.Pay Cert.MixIdeal.Blocks Idealize.ShloMosaic Idealize.ShloMosaic.TcCoe Idealize.SL.Sem
open Cert.MixRefIdeal.Read (val_main_v31 val_main_v41 val_main_v46 val_main_v66 val_main_v69 val_main_v70)
open Cert.InpIdeal.Pay (normMod)

theorem merged_congr {yh yh' o o' p p' g g' u u' : Fin 1024 → EReal} {ga ga' : Fin 2048 → EReal} {q q' w w' : Fin 1024 → Fin 1024 → EReal}
    (hy : yh = yh') (ho : o = o') (hp : p = p') (hg : g = g') (hu : u = u') (hga : ga = ga') (hq : q = q') (hw : w = w') (d : Fin 1024) :
    merged yh (attn o p g u) ga q w d = merged yh' (attn o' p' g' u') ga' q' w' d := by
  subst hy ho hp hg hu hga hq hw
  rfl

theorem resid_congr {x x' g g' a a' : Fin 1024 → EReal} {w w' : Fin 1024 → Fin 1024 → EReal}
    (hx : x = x') (hg : g = g') (ha : a = a') (hw : w = w') (d : Fin 1024) : resid x g a w d = resid x' g' a' w' d := by
  subst hx hg ha hw
  rfl

theorem normMod_congr {x x' w w' s s' k k' : Fin 1024 → EReal}
    (hx : x = x') (hw : w = w') (hs : s = s') (hk : k = k') (d : Fin 1024) : normMod x w s k d = normMod x' w' s' k' d := by
  subst hx hw hs hk
  rfl

/-- The merge of any blocks. -/
theorem mix_blocks (o1 o2 : Vec Ideal S1x512x1024 .bf16) (gnw : Vec Ideal S1x1024 .f32) (ug : Vec Ideal S1x512x1024 .bf16)
    (gate : Vec Ideal S1x512x2048 .bf16) (yh : Vec Ideal S1x512x1024 .bf16) (phy pgla : Vec Ideal S1024x1024 .bf16)
    (r : Fin 512) (d : Fin 1024) :
    k0_pay9 (k0_pay4 o1 o2) (k0_pay5 o1 o2) (k0_pay6 o1 o2) (k0_pay7 o1 o2) (k0_pay8 o1 o2) gnw ug gate yh phy pgla (ix2 r d)
      = merged (fun k => yh (ix3 0 r k))
          (attn (fun k => o1 (ix3 0 r k)) (fun k => o2 (ix3 0 r k)) (fun k => gnw (ix2 0 k)) (fun k => ug (ix3 0 r k)))
          (fun j => gate (ix3 0 r j)) (fun k e => phy (ix2 k e)) (fun k e => pgla (ix2 k e)) d :=
  pay9_apply (k0_pay4 o1 o2) (k0_pay5 o1 o2) (k0_pay6 o1 o2) (k0_pay7 o1 o2) gnw ug gate yh phy pgla r d
    (fun i => o1 (ix3 0 r i) + o2 (ix3 0 r i)) (pay4_apply o1 o2 r) (pay5_apply o1 o2 r) (pay6_apply o1 o2 r) (pay7_apply o1 o2 r)

variable (m : (ℓ : Loc nD τ sig) → Buf (Elt Ideal) ℓ) (c : Dev nD)
variable (x0 : FVec Ideal S16x4096x1024 .f32) (x1 x2 : FVec Ideal S16x4096x1024 .bf16) (x3 : FVec Ideal S16x4096x8320 .bf16)
  (x4 : FVec Ideal S16x4096x1024 .bf16) (x5 : FVec Ideal S1x1024 .f32) (x6 x7 x8 : FVec Ideal S1x1024x1024 .f32)
  (x9 : FVec Ideal S16x1x1024 .f32) (x10 : FVec Ideal S1x1024 .f32) (x11 x12 : FVec Ideal S16x1x1024 .f32) (x13 : FVec Ideal S1x1024x64 .f32)

/-- The program's arguments are these arrays. -/
structure Args : Prop where
  h0 : m ((c : Thread nD τ).loc main_arg0) = x0
  h1 : m ((c : Thread nD τ).loc main_arg1) = x1
  h2 : m ((c : Thread nD τ).loc main_arg2) = x2
  h3 : m ((c : Thread nD τ).loc main_arg3) = x3
  h4 : m ((c : Thread nD τ).loc main_arg4) = x4
  h5 : m ((c : Thread nD τ).loc main_arg5) = x5
  h6 : m ((c : Thread nD τ).loc main_arg6) = x6
  h7 : m ((c : Thread nD τ).loc main_arg7) = x7
  h8 : m ((c : Thread nD τ).loc main_arg8) = x8
  h9 : m ((c : Thread nD τ).loc main_arg9) = x9
  h10 : m ((c : Thread nD τ).loc main_arg10) = x10
  h11 : m ((c : Thread nD τ).loc main_arg11) = x11
  h12 : m ((c : Thread nD τ).loc main_arg12) = x12
  h13 : m ((c : Thread nD τ).loc main_arg13) = x13

variable {m c x0 x1 x2 x3 x4 x5 x6 x7 x8 x9 x10 x11 x12 x13}
variable (h : Args m c x0 x1 x2 x3 x4 x5 x6 x7 x8 x9 x10 x11 x12 x13)
include h

theorem mix_apply (t : Fin cfg0.N) (r : Fin 512) (d : Fin 1024) :
    mix m c t (ix2 r d) = val_main_v41 (F := Ideal) x1 x2 x3 x4 x5 x6 x7 (ix3 (seq t.val t.isLt) (row t.val r) d) := by
  unfold mix
  refine (mix_blocks _ _ _ _ _ _ _ _ r d).trans ?_
  refine Eq.trans ?_ (Cert.MixRefIdeal.At.v41_apply x1 x2 x3 x4 x5 x6 x7 (seq t.val t.isLt) (row t.val r) d).symm
  have e : (fun k => val_main_v31 (F := Ideal) x1 x2 x3 x5 (ix3 (seq t.val t.isLt) (row t.val r) k))
      = attn (fun k => x1 (ix3 (seq t.val t.isLt) (row t.val r) k)) (fun k => x2 (ix3 (seq t.val t.isLt) (row t.val r) k))
          (fun k => x5 (ix2 0 k)) (fun k => x3 (ix3 (seq t.val t.isLt) (row t.val r) ⟨2048 + k.val, by omega⟩)) :=
    funext fun k => Cert.MixRefIdeal.At.v31_apply x1 x2 x3 x5 (seq t.val t.isLt) (row t.val r) k
  rw [e]
  exact merged_congr (funext fun k => (b5 m c t r k).trans (congrFun h.h4 _)) (funext fun k => (b1 m c t r k).trans (congrFun h.h1 _))
    (funext fun k => (b2 m c t r k).trans (congrFun h.h2 _)) (funext fun k => (b6 m c t k).trans (congrFun h.h5 _))
    (funext fun k => (b3 m c t r k).trans (congrFun h.h3 _)) (funext fun k => (b4 m c t r k).trans (congrFun h.h3 _))
    (funext fun k => funext fun e => (b7 m c t k e).trans (congrFun h.h6 _)) (funext fun k => funext fun e => (b8 m c t k e).trans (congrFun h.h7 _)) d

theorem resid_apply (t : Fin cfg0.N) (r : Fin 512) (d : Fin 1024) :
    k0_pay10 (mix m c t) (iblk m c 0 t) (iblk m c 10 t) (iblk m c 9 t) (ix2 r d)
      = val_main_v46 (F := Ideal) x0 x1 x2 x3 x4 x5 x6 x7 x8 x9 (ix3 (seq t.val t.isLt) (row t.val r) d) :=
  (pay10_apply _ _ _ _ r d).trans ((resid_congr (funext fun k => (b0 m c t r k).trans (congrFun h.h0 _))
    (funext fun k => (b10 m c t k).trans (congrFun h.h9 _)) (funext fun k => mix_apply h t r k)
    (funext fun k => funext fun e => (b9 m c t k e).trans (congrFun h.h8 _)) d).trans
      (Cert.MixRefIdeal.At.v46_apply x0 x1 x2 x3 x4 x5 x6 x7 x8 x9 (seq t.val t.isLt) (row t.val r) d).symm)

theorem norm_apply (t : Fin cfg0.N) (r : Fin 512) (d : Fin 1024) :
    k0_pay12 (mix m c t) (iblk m c 0 t) (iblk m c 10 t) (iblk m c 9 t) (iblk m c 11 t) (iblk m c 12 t) (iblk m c 13 t) (ix2 r d)
      = val_main_v66 (F := Ideal) x0 x1 x2 x3 x4 x5 x6 x7 x8 x9 x10 x11 x12 (ix3 (seq t.val t.isLt) (row t.val r) d) :=
  (pay12_apply _ _ _ _ _ _ _ r d).trans ((normMod_congr (funext fun k => resid_apply h t r k)
    (funext fun k => (b11 m c t k).trans (congrFun h.h10 _)) (funext fun k => (b12 m c t k).trans (congrFun h.h11 _))
    (funext fun k => (b13 m c t k).trans (congrFun h.h12 _)) d).trans
      (Cert.MixRefIdeal.At.v66_apply x0 x1 x2 x3 x4 x5 x6 x7 x8 x9 x10 x11 x12 (seq t.val t.isLt) (row t.val r) d).symm)

theorem result0 : (dats m 0 c).arrAt 15 cfg0.N = val_main_v46 (F := Ideal) x0 x1 x2 x3 x4 x5 x6 x7 x8 x9 :=
  final15 m c _ fun t r d => (congrFun (out15 m c t) _).trans ((pay11_apply _ _ _ _ r d).trans (resid_apply h t r d))

theorem result1 : (dats m 0 c).arrAt 16 cfg0.N = val_main_v69 (F := Ideal) x0 x1 x2 x3 x4 x5 x6 x7 x8 x9 x10 x11 x12 :=
  final16 m c _ fun t r d => (congrFun (out16 m c t) _).trans ((pay1_apply _ r d).trans ((norm_apply h t r d).trans
    (Cert.MixRefIdeal.At.v69_apply x0 x1 x2 x3 x4 x5 x6 x7 x8 x9 x10 x11 x12 _).symm))

theorem result2 : (dats m 0 c).arrAt 17 cfg0.N = val_main_v70 (F := Ideal) x0 x1 x2 x3 x4 x5 x6 x7 x8 x9 x10 x11 x12 x13 := by
  refine final17 m c _ fun t e r => (congrFun (out17 m c t) _).trans ((pay2_apply _ _ e r).trans ?_)
  refine Eq.trans ?_ (Cert.MixRefIdeal.At.v70_apply x0 x1 x2 x3 x4 x5 x6 x7 x8 x9 x10 x11 x12 x13 (seq t.val t.isLt) e (row t.val r)).symm
  show @Eq EReal _ _
  exact Finset.sum_congr rfl fun k _ => congrArg₂ (fun a b : EReal => a * b) (norm_apply h t r k) ((b14 m c t k e).trans (congrFun h.h13 _))

end Cert.MixIdeal.Eq

end
-- ==== Proof.MixClaims.lean ====
/-
  The claims about the merge of the two mixers: its run, the reference's, and that they end with the same three results.
-/
module

public import proofs.«01_k».proof.Defs
public import proofs.«01_k».proof.Proof.MixEq
public import proofs.«01_k».proof.Proof.Gen.Mix.Frame
public import proofs.«01_k».proof.Proof.Gen.Mix
public import proofs.«01_k».proof.Proof.Gen.MixIdeal
public import proofs.«01_k».proof.Proof.Gen.MixRefIdeal
public import Idealize.ShloMosaic.Lib.Claim
public import Idealize.ShloMosaic.Adequacy
public import Idealize.ShloMosaic.Lib.Quiescent

@[expose] public section

set_option maxRecDepth 16384

noncomputable section

namespace Cert.MixClaims

open Idealize.ShloMosaic Idealize.SL.Sem

theorem frameP : quiescent_Mix (hMix := Cert.Mix.Gen.facts) := fun m g _ => Cert.Mix.Gen.frame m g

theorem framePI : quiescent_MixIdeal (hMixIdeal := Cert.MixIdeal.Gen.facts) := fun m g _ => Cert.MixIdeal.Gen.frame m g

theorem frameRI : quiescent_MixRefIdeal (hMixRefIdeal := Cert.MixRefIdeal.Gen.facts) := fun m g _ =>
  (θ_run Cert.MixRefIdeal.defs _ _).mono (fun r h => ⟨fun c => (h c).2.2.2, Idealize.ShloMosaic.sem_eq_zero_of_no_sems (by decide) r.2⟩)
    (Cert.MixRefIdeal.Value.run (F := Ideal) m g)

theorem algebraic : algebraic_MixIdeal_MixRefIdeal (hMixIdeal := Cert.MixIdeal.Gen.facts)
    (hMixRefIdeal := Cert.MixRefIdeal.Gen.facts) := by
  intro m g m' g' hpre hag
  refine ⟨fun c => (Cert.MixIdeal.Gen.dats m 0 c).arrAt 15 Cert.MixIdeal.cfg0.N, fun c => (Cert.MixIdeal.Gen.dats m 0 c).arrAt 16 Cert.MixIdeal.cfg0.N,
    fun c => (Cert.MixIdeal.Gen.dats m 0 c).arrAt 17 Cert.MixIdeal.cfg0.N, Cert.MixIdeal.Value.run_blocks m g,
    (θ_run Cert.MixRefIdeal.defs _ _).mono (fun r h c => ⟨(h c).1.trans ?_, (h c).2.1.trans ?_, (h c).2.2.1.trans ?_, (h c).2.2.2⟩)
      (Cert.MixRefIdeal.Value.run (F := Ideal) m' g')⟩
  · obtain ⟨h0, h1, h2, h3, h4, h5, h6, h7, h8, h9, h10, h11, h12, h13⟩ := hag c
    exact (Cert.MixRefIdeal.Read.val_main_v46_eq _ _ _ _ _ _ _ _ _ _).trans
      (Cert.MixIdeal.Eq.result0 (m := m) (c := c) ⟨h0.symm, h1.symm, h2.symm, h3.symm, h4.symm, h5.symm, h6.symm, h7.symm, h8.symm, h9.symm, h10.symm, h11.symm, h12.symm, h13.symm⟩).symm
  · obtain ⟨h0, h1, h2, h3, h4, h5, h6, h7, h8, h9, h10, h11, h12, h13⟩ := hag c
    exact (Cert.MixRefIdeal.Read.val_main_v69_eq m' c).trans
      (Cert.MixIdeal.Eq.result1 (m := m) (c := c) ⟨h0.symm, h1.symm, h2.symm, h3.symm, h4.symm, h5.symm, h6.symm, h7.symm, h8.symm, h9.symm, h10.symm, h11.symm, h12.symm, h13.symm⟩).symm
  · obtain ⟨h0, h1, h2, h3, h4, h5, h6, h7, h8, h9, h10, h11, h12, h13⟩ := hag c
    exact (Cert.MixRefIdeal.Read.val_main_v70_eq m' c).trans
      (Cert.MixIdeal.Eq.result2 (m := m) (c := c) ⟨h0.symm, h1.symm, h2.symm, h3.symm, h4.symm, h5.symm, h6.symm, h7.symm, h8.symm, h9.symm, h10.symm, h11.symm, h12.symm, h13.symm⟩).symm

end Cert.MixClaims

end
-- ==== Proof.ModPay.lean ====
/-
  What one grid point of the modulation vectors computes, read at an index over the extended reals.
-/
module

public import proofs.«01_k».proof.Proof.Gen.ModIdeal.Skeleton
public import Idealize.ShloMosaic.Lib.Pointwise

@[expose] public section

set_option maxRecDepth 16384

noncomputable section

namespace Cert.ModIdeal.Pay

open Cert.ModIdeal Cert.ModIdeal.Gen Idealize.ShloMosaic Idealize.ShloMosaic.TcCoe Idealize.SL.Sem

/-- The gate the conditioning vector passes through. -/
def silu (x : EReal) : EReal := x * Ideal.logistic x

/-- One modulation entry: the gated vector's product with a column of weights, plus the column's bias. -/
def entry (x w : Fin 1024 → EReal) (b : EReal) : EReal := (∑ k, silu (x k) * w k) + b

theorem pay1_apply (x : Vec Ideal S24x1024 .f32) (w : Vec Ideal S1024x1536 .f32) (b : Vec Ideal S1x1536 .f32) (r : Fin 24) (j : Fin 1536) :
    k0_pay1 x w b (ix2 r j) = entry (fun k => x (ix2 r k)) (fun k => w (ix2 k j)) (b (ix2 0 j)) := by
  unfold entry silu
  pointwise [k0_pay1]

end Cert.ModIdeal.Pay

end
-- ==== Proof.ModBlocks.lean ====
/-
  The blocks a grid point of the modulation vectors reads, as entries of the program's arguments, and the result array.
-/
module

public import proofs.«01_k».proof.Proof.Gen.ModIdeal.Value
public import proofs.«01_k».proof.Proof.ModPay
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ModIdeal.Blocks

open Cert.ModIdeal Cert.ModIdeal.Gen Cert.ModIdeal.Pay Idealize.ShloMosaic Idealize.ShloMosaic.TcCoe Idealize.SL.Sem

/-- Where each window's block stands: point `t` takes the `t`-th block of columns. -/
theorem idx : ∀ t : Fin grid0.N,
    win0_0.index t = ![0, 0] ∧ win0_1.index t = ![0, t.val] ∧ win0_2.index t = ![0, t.val]
    ∧ win0_3.index t = ![0, t.val] := by decide +kernel

variable (m : (ℓ : Loc nD τ sig) → Buf (Elt Ideal) ℓ)

/-- The column of the result that column `j` of point `n`'s block is. -/
def col (n : ℕ) (h : n < cfg0.N) (j : Fin 1536) : Fin 6144 :=
  ⟨1536 * n + j.val, by have := lt_of_lt_of_eq h N_0; have := j.isLt; omega⟩

/-- The weights as the call finds them. -/
theorem e0 (c : Dev nD) (k : Fin 1024) (j : Fin 6144) :
    V m c main_v0 (ix2 k j) = m ((c : Thread nD τ).loc main_arg1) (ix3 0 k j) := by
  unfold V
  simp only [hostOps0, List.flatten_cons, List.flatten_nil, List.append_nil, List.cons_append, List.nil_append]
  entry_read
  pointwise

/-- The bias as the call finds it. -/
theorem e2 (c : Dev nD) (j : Fin 6144) : V m c main_v2 (ix2 0 j) = m ((c : Thread nD τ).loc main_arg2) (ix2 0 j) := by
  unfold V
  simp only [hostOps0, List.flatten_cons, List.flatten_nil, List.append_nil, List.cons_append, List.nil_append]
  entry_read
  pointwise

theorem b0 (c : Dev nD) (t : Fin cfg0.N) (r : Fin 24) (k : Fin 1024) :
    iblk m c 0 t (ix2 r k) = m ((c : Thread nD τ).loc main_arg0) (ix2 r k) := by
  blk_ext! [iblk, V, idx t]

theorem b1 (c : Dev nD) (t : Fin cfg0.N) (k : Fin 1024) (j : Fin 1536) :
    iblk m c 1 t (ix2 k j) = m ((c : Thread nD τ).loc main_arg1) (ix3 0 k (col t.val t.isLt j)) := by
  refine Eq.trans ?_ (e0 m c _ _)
  unfold col
  show V m c main_v0 _ = V m c main_v0 _
  blk_ext [idx t]

theorem b2 (c : Dev nD) (t : Fin cfg0.N) (j : Fin 1536) :
    iblk m c 2 t (ix2 0 j) = m ((c : Thread nD τ).loc main_arg2) (ix2 0 (col t.val t.isLt j)) := by
  refine Eq.trans ?_ (e2 m c _)
  unfold col
  show V m c main_v2 _ = V m c main_v2 _
  blk_ext [idx t]

/-- What point `t` leaves in its block. -/
theorem out_at (c : Dev nD) (t : Fin cfg0.N) (r : Fin 24) (j : Fin 1536) :
    out0_3 (iblk m c 0 t) (iblk m c 1 t) (iblk m c 2 t) (ix2 r j)
      = entry (fun k => m ((c : Thread nD τ).loc main_arg0) (ix2 r k))
          (fun k => m ((c : Thread nD τ).loc main_arg1) (ix3 0 k (col t.val t.isLt j)))
          (m ((c : Thread nD τ).loc main_arg2) (ix2 0 (col t.val t.isLt j))) := by
  have e : out0_3 (iblk m c 0 t) (iblk m c 1 t) (iblk m c 2 t) = k0_pay1 (iblk m c 0 t) (iblk m c 1 t) (iblk m c 2 t) := by
    frame_out
  rw [e, pay1_apply, b2]
  exact congrArg₂ (fun x w => entry x w _) (funext fun k => b0 m c t r k) (funext fun k => b1 m c t k j)

/-- The result array, entry by entry. -/
theorem final3 (c : Dev nD) (G : Buf (Elt Ideal) ((c : Thread nD τ).loc main_v3))
    (hG : ∀ (r : Fin 24) (j : Fin 6144), G (ix2 r j)
      = entry (fun k => m ((c : Thread nD τ).loc main_arg0) (ix2 r k)) (fun k => m ((c : Thread nD τ).loc main_arg1) (ix3 0 k j))
          (m ((c : Thread nD τ).loc main_arg2) (ix2 0 j))) :
    (dats m 0 c).arrAt 3 cfg0.N = G := by
  refine (dats m 0 c).arrAt_eq_of_covers 3 G (by decide +kernel) fun t hf y => ?_
  have h0 : (y 0).val < 24 := (y 0).isLt
  have h1 : (y 1).val < 1536 := (y 1).isLt
  obtain ⟨o0, o1, o2, o3⟩ := idx t
  have ey : ((cfg0.win 3).blk t).view.emb y = (ix2 ⟨(y 0).val, h0⟩ (col t.val t.isLt ⟨(y 1).val, h1⟩) : S24x6144.Idx) := by
    funext a
    apply Fin.ext
    match a with
    | ⟨0, _⟩ =>
      show win0_3.index t (0 : Fin 2) * 24 + 1 * (y 0).val = (y 0).val
      rw [o3]; simp
    | ⟨1, _⟩ =>
      show win0_3.index t (1 : Fin 2) * 1536 + 1 * (y 1).val = 1536 * t.val + (y 1).val
      rw [o3]; simp; omega
  have ex : (cfg0.win 3).xinj (grid0.coords t) y = (ix2 ⟨(y 0).val, h0⟩ ⟨(y 1).val, h1⟩ : S24x1536.Idx) := by
    funext a
    apply Fin.ext
    match a with
    | ⟨0, _⟩ => rfl
    | ⟨1, _⟩ => rfl
  refine Eq.trans ?_ ((hG _ _).symm.trans (congrArg G ey.symm))
  show (dats m 0 c).after 3 t ((cfg0.win 3).xinj (grid0.coords t) y) = _
  rw [after0_3, ex]
  exact out_at m c t _ _

end Cert.ModIdeal.Blocks

end
-- ==== Proof.ModRefValue.lean ====
/-
  The reference of the modulation vectors, read at an index over the extended reals.
-/
module

public import proofs.«01_k».proof.Proof.Gen.ModRefIdeal.Read
public import proofs.«01_k».proof.Proof.ModPay
public import Idealize.ShloMosaic.Lib.Pointwise

@[expose] public section

set_option maxRecDepth 16384

noncomputable section

namespace Cert.ModRefIdeal.At

open Cert.ModRefIdeal Cert.ModRefIdeal.Gen Cert.ModRefIdeal.Read Idealize.ShloMosaic Idealize.ShloMosaic.TcCoe Idealize.SL.Sem
open Cert.ModIdeal.Pay (silu entry)

theorem v6_apply (x0 : (⟨S24x1024, .f32⟩ : BufTy).Contents (Elt Ideal)) (x1 : (⟨S1x1024x6144, .f32⟩ : BufTy).Contents (Elt Ideal))
    (x2 : (⟨S1x6144, .f32⟩ : BufTy).Contents (Elt Ideal)) (r : Fin 24) (j : Fin 6144) :
    val_main_v6 (F := Ideal) x0 x1 x2 (ix2 r j) = entry (fun k => x0 (ix2 r k)) (fun k => x1 (ix3 0 k j)) (x2 (ix2 0 j)) := by
  unfold Cert.ModIdeal.Pay.entry silu
  pointwise [val_main_v6, val_main_v5, val_main_v4, val_main_v3, val_main_v2, val_main_v1, val_main_v0, val_main_call0_v5,
    val_main_call0_v4, val_main_call0_cst_0, val_main_call0_v3, val_main_call0_v2, val_main_call0_cst, val_main_call0_v1,
    val_main_call0_v0]
  rfl

end Cert.ModRefIdeal.At

end
-- ==== Proof.ModClaims.lean ====
/-
  The claims about the modulation vectors: the kernel's run, the reference's, and that they end with the same result.
-/
module

public import proofs.«01_k».proof.Defs
public import proofs.«01_k».proof.Proof.ModBlocks
public import proofs.«01_k».proof.Proof.ModRefValue
public import proofs.«01_k».proof.Proof.Gen.Mod.Frame
public import proofs.«01_k».proof.Proof.Gen.Mod
public import proofs.«01_k».proof.Proof.Gen.ModIdeal
public import proofs.«01_k».proof.Proof.Gen.ModRefIdeal
public import Idealize.ShloMosaic.Lib.Claim
public import Idealize.ShloMosaic.Adequacy
public import Idealize.ShloMosaic.Lib.Quiescent

@[expose] public section

set_option maxRecDepth 16384

noncomputable section

namespace Cert.ModClaims

open Idealize.ShloMosaic Idealize.SL.Sem

theorem frameP : quiescent_Mod (hMod := Cert.Mod.Gen.facts) := fun m g _ => Cert.Mod.Gen.frame m g

theorem framePI : quiescent_ModIdeal (hModIdeal := Cert.ModIdeal.Gen.facts) := fun m g _ => Cert.ModIdeal.Gen.frame m g

theorem frameRI : quiescent_ModRefIdeal (hModRefIdeal := Cert.ModRefIdeal.Gen.facts) := fun m g _ =>
  (θ_run Cert.ModRefIdeal.defs _ _).mono (fun r h => ⟨fun c => (h c).2, Idealize.ShloMosaic.sem_eq_zero_of_no_sems (by decide) r.2⟩)
    (Cert.ModRefIdeal.Value.run (F := Ideal) m g)

/-- From memories that agree on the arguments, the kernel and the reference end with the same result. -/
theorem algebraic : algebraic_ModIdeal_ModRefIdeal (hModIdeal := Cert.ModIdeal.Gen.facts)
    (hModRefIdeal := Cert.ModRefIdeal.Gen.facts) := by
  intro m g m' g' hpre hag
  refine ⟨fun c => (Cert.ModIdeal.Gen.dats m 0 c).arrAt 3 Cert.ModIdeal.cfg0.N, Cert.ModIdeal.Value.run_blocks m g,
    (θ_run Cert.ModRefIdeal.defs _ _).mono (fun r h c => ⟨(h c).1.trans ?_, (h c).2⟩) (Cert.ModRefIdeal.Value.run (F := Ideal) m' g')⟩
  obtain ⟨h0, h1, h2⟩ := hag c
  refine (Cert.ModRefIdeal.Read.val_main_v6_eq _ _ _).trans ?_
  refine (Cert.ModIdeal.Blocks.final3 m c _ fun r j => ?_).symm
  refine (Cert.ModRefIdeal.At.v6_apply _ _ _ r j).trans ?_
  rw [h0, h1, h2]

end Cert.ModClaims

end
-- ==== Proof.CtxPay.lean ====
/-
  What one grid point of the context's projection computes, read at an index over the extended reals.
-/
module

public import proofs.«01_k».proof.Proof.Gen.CtxIdeal.Skeleton
public import proofs.«01_k».proof.Proof.InpPay
public import Idealize.ShloMosaic.Lib.Pointwise

@[expose] public section

set_option maxRecDepth 16384

noncomputable section

namespace Cert.CtxIdeal.Pay

open Cert.CtxIdeal Cert.CtxIdeal.Gen Idealize.ShloMosaic Idealize.ShloMosaic.TcCoe Idealize.SL.Sem
open Cert.InpIdeal.Pay (normMod)

/-- The normalised and modulated rows. -/
theorem pay1_apply (x : Vec Ideal S1x256x1024 .f32) (w : Vec Ideal S1x1024 .f32) (sh sc : Vec Ideal S1x1x1024 .f32)
    (r : Fin 256) (k : Fin 1024) :
    k0_pay1 x w sh sc (ix2 r k)
      = normMod (fun j => x (ix3 0 r j)) (fun j => w (ix2 0 j)) (fun j => sh (ix3 0 0 j)) (fun j => sc (ix3 0 0 j)) k := by
  unfold Cert.InpIdeal.Pay.normMod
  pointwise [k0_pay1]

/-- Their product with the weights. -/
theorem pay2_apply (a : Vec Ideal S256x1024 .bf16) (w : Vec Ideal S1024x1664 .bf16) (r : Fin 256) (j : Fin 1664) :
    k0_pay2 a w (ix3 0 r j) = ∑ k : Fin 1024, a (ix2 r k) * w (ix2 k j) := by
  pointwise [k0_pay2]

/-- The columns the context needs: the keys', the values' and the decays', then zeros up to a whole lane. -/
def lay (f : Fin 8224 → EReal) (j : Fin 1664) : EReal := if h : j.val < 1568 then f ⟨j.val, by omega⟩ else 0

/-- … as the host puts them side by side. -/
def layWith (z : EReal) (f : Fin 8224 → EReal) (j : Fin 1664) : EReal :=
  if h : j.val < 512 then f ⟨j.val, by omega⟩
  else if h : j.val - 512 < 1024 then f ⟨512 + (j.val - 512), by omega⟩
  else if h : j.val - 512 - 1024 < 32 then f ⟨1536 + (j.val - 512 - 1024), by omega⟩
  else z

theorem layWith_eq (f : Fin 8224 → EReal) (j : Fin 1664) : layWith 0 f j = lay f j := by
  unfold layWith lay
  split_ifs
  all_goals first | omega | rfl | exact congrArg f (Fin.ext (by show _ = j.val; simp only; omega))

/-- One entry of the projection. -/
def entry (x w sh sc : Fin 1024 → EReal) (W : Fin 1024 → Fin 8224 → EReal) (j : Fin 1664) : EReal :=
  ∑ k, normMod x w sh sc k * lay (W k) j

end Cert.CtxIdeal.Pay

end
-- ==== Proof.CtxBlocks.lean ====
/-
  The blocks a grid point of the context's projection reads, as entries of the program's arguments, and the result array.
-/
module

public import proofs.«01_k».proof.Proof.Gen.CtxIdeal.Value
public import proofs.«01_k».proof.Proof.CtxPay
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.CtxIdeal.Blocks

open Cert.CtxIdeal Cert.CtxIdeal.Gen Cert.CtxIdeal.Pay Idealize.ShloMosaic Idealize.ShloMosaic.TcCoe Idealize.SL.Sem

/-- Where each window's block stands: point `t` takes the `t`-th sequence of the context, whole. -/
theorem idx : ∀ t : Fin grid0.N,
    win0_0.index t = ![t.val, 0, 0] ∧ win0_1.index t = ![0, 0] ∧ win0_2.index t = ![t.val, 0, 0]
    ∧ win0_3.index t = ![t.val, 0, 0] ∧ win0_4.index t = ![0, 0] ∧ win0_5.index t = ![t.val, 0, 0] := by decide +kernel

variable (m : (ℓ : Loc nD τ sig) → Buf (Elt Ideal) ℓ)

/-- The sequence of point `n`. -/
def seq (n : ℕ) (h : n < cfg0.N) : Fin 16 := ⟨n, lt_of_lt_of_eq h N_0⟩

/-- The host's zero is zero. -/
theorem zero_eq : (FloatOps.sitofp FTy.f32 0#32 : Ideal .f32) = (0 : EReal) := by
  show ((((0#32).toInt : ℤ) : ℝ) : EReal) = 0
  simp

/-- The weights as the host lays them out before the call. -/
def table (w : Vec Ideal S1x1024x8224 .f32) : FVec Ideal S1024x1664 .bf16 :=
  truncf .bf16 (concatenate S1024x1664 1
    [⟨S1024x512, extractStridedSlice S1024x512 ![0, 0] (shapeCast S1024x8224 w shapeCasts_S1x1024x8224_S1024x8224) slices_S1024x8224_S1024x512_0_0⟩,
     ⟨S1024x1024, extractStridedSlice S1024x1024 ![0, 512] (shapeCast S1024x8224 w shapeCasts_S1x1024x8224_S1024x8224) slices_S1024x8224_S1024x1024_0_512⟩,
     ⟨S1024x128, pad S1024x128 ![0, 0] ![0, 96] ![0, 0]
       (extractStridedSlice S1024x32 ![0, 1536] (shapeCast S1024x8224 w shapeCasts_S1x1024x8224_S1024x8224) slices_S1024x8224_S1024x32_0_1536)
       (sitofp .f32 (constantI S_ 32 0#32)) pads_S1024x32_S1024x128_000_0960 h_S_⟩]
    concatenates_S1024x512_S1024x1024_S1024x128_S1024x1664_d1 : FVec Ideal S1024x1664 .f32) bitsLt_bf16_f32

set_option maxHeartbeats 2000000 in
/-- The region's entry holds that table. -/
theorem e6 (c : Dev nD) : V m c main_v6 = table (m ((c : Thread nD τ).loc main_arg4)) := by
  unfold V
  simp only [hostOps0, hostOps0_1, hostOps0_2, List.flatten_cons, List.flatten_nil, List.append_nil, List.cons_append, List.nil_append]
  after_results_simp
  try dsimp only [Matrix.cons_val]
  try after_results_simp
  rfl

/-- The table is the layout of the weights' columns. -/
theorem table_apply (w : Vec Ideal S1x1024x8224 .f32) (k : Fin 1024) (j : Fin 1664) :
    table w (ix2 k j) = lay (fun i => w (ix3 0 k i)) j := by
  refine Eq.trans ?_ (layWith_eq _ _)
  refine Eq.trans ?_ (congrArg (fun z => layWith z (fun i => w (ix3 0 k i)) j) zero_eq)
  unfold table
  pointwise
  rfl

/-- The normalisation's weight, a row. -/
theorem e12 (c : Dev nD) (k : Fin 1024) : V m c main_v12 (ix2 0 k) = m ((c : Thread nD τ).loc main_arg1) (ix2 0 k) := by
  unfold V
  simp only [hostOps0, hostOps0_1, hostOps0_2, List.flatten_cons, List.flatten_nil, List.append_nil, List.cons_append, List.nil_append]
  entry_read
  pointwise

/-- The shift, one row for every sequence. -/
theorem e8 (c : Dev nD) (b : Fin 16) (k : Fin 1024) : V m c main_v8 (ix3 b 0 k) = m ((c : Thread nD τ).loc main_arg2) (ix1 k) := by
  unfold V
  simp only [hostOps0, hostOps0_1, hostOps0_2, List.flatten_cons, List.flatten_nil, List.append_nil, List.cons_append, List.nil_append]
  entry_read
  pointwise

/-- The scale, one row for every sequence. -/
theorem e10 (c : Dev nD) (b : Fin 16) (k : Fin 1024) : V m c main_v10 (ix3 b 0 k) = m ((c : Thread nD τ).loc main_arg3) (ix1 k) := by
  unfold V
  simp only [hostOps0, hostOps0_1, hostOps0_2, List.flatten_cons, List.flatten_nil, List.append_nil, List.cons_append, List.nil_append]
  entry_read
  pointwise

theorem b0 (c : Dev nD) (t : Fin cfg0.N) (r : Fin 256) (k : Fin 1024) :
    iblk m c 0 t (ix3 0 r k) = m ((c : Thread nD τ).loc main_arg0) (ix3 (seq t.val t.isLt) r k) := by
  unfold seq
  blk_ext! [iblk, V, idx t]

theorem b1 (c : Dev nD) (t : Fin cfg0.N) (k : Fin 1024) :
    iblk m c 1 t (ix2 0 k) = m ((c : Thread nD τ).loc main_arg1) (ix2 0 k) := by
  refine Eq.trans ?_ (e12 m c _)
  show V m c main_v12 _ = V m c main_v12 _
  blk_ext [idx t]

theorem b2 (c : Dev nD) (t : Fin cfg0.N) (k : Fin 1024) :
    iblk m c 2 t (ix3 0 0 k) = m ((c : Thread nD τ).loc main_arg2) (ix1 k) := by
  refine Eq.trans ?_ (e8 m c (seq t.val t.isLt) _)
  unfold seq
  show V m c main_v8 _ = V m c main_v8 _
  blk_ext [idx t]

theorem b3 (c : Dev nD) (t : Fin cfg0.N) (k : Fin 1024) :
    iblk m c 3 t (ix3 0 0 k) = m ((c : Thread nD τ).loc main_arg3) (ix1 k) := by
  refine Eq.trans ?_ (e10 m c (seq t.val t.isLt) _)
  unfold seq
  show V m c main_v10 _ = V m c main_v10 _
  blk_ext [idx t]

theorem b4 (c : Dev nD) (t : Fin cfg0.N) (k : Fin 1024) (j : Fin 1664) :
    iblk m c 4 t (ix2 k j) = lay (fun i => m ((c : Thread nD τ).loc main_arg4) (ix3 0 k i)) j := by
  refine Eq.trans ?_ ((congrFun (e6 m c) _).trans (table_apply _ _ _))
  show V m c main_v6 _ = V m c main_v6 _
  blk_ext [idx t]

/-- What point `t` leaves: its rows' product with the table. -/
theorem out_eq (c : Dev nD) (t : Fin cfg0.N) :
    outsAt0 m c t = k0_pay2 (k0_pay1 (iblk m c 0 t) (iblk m c 1 t) (iblk m c 2 t) (iblk m c 3 t)) (iblk m c 4 t) := by
  unfold outsAt0
  frame_out

/-- … at an index. -/
theorem out_at (c : Dev nD) (t : Fin cfg0.N) (r : Fin 256) (j : Fin 1664) :
    outsAt0 m c t (ix3 0 r j)
      = entry (fun k => m ((c : Thread nD τ).loc main_arg0) (ix3 (seq t.val t.isLt) r k))
          (fun k => m ((c : Thread nD τ).loc main_arg1) (ix2 0 k)) (fun k => m ((c : Thread nD τ).loc main_arg2) (ix1 k))
          (fun k => m ((c : Thread nD τ).loc main_arg3) (ix1 k)) (fun k i => m ((c : Thread nD τ).loc main_arg4) (ix3 0 k i)) j := by
  rw [out_eq, pay2_apply]
  unfold entry
  show @Eq EReal _ _
  refine Finset.sum_congr rfl fun k _ => congrArg₂ (fun a w : EReal => a * w) ?_ (b4 m c t k j)
  rw [pay1_apply]
  have e0 := funext fun j => b0 m c t r j
  have e1 := funext fun j => b1 m c t j
  have e2 := funext fun j => b2 m c t j
  have e3 := funext fun j => b3 m c t j
  rw [e0, e1, e2, e3]

/-- The result array, entry by entry. -/
theorem final5 (c : Dev nD) (G : Buf (Elt Ideal) ((c : Thread nD τ).loc main_v13))
    (hG : ∀ (b : Fin 16) (l : Fin 256) (j : Fin 1664), G (ix3 b l j)
      = entry (fun k => m ((c : Thread nD τ).loc main_arg0) (ix3 b l k))
          (fun k => m ((c : Thread nD τ).loc main_arg1) (ix2 0 k)) (fun k => m ((c : Thread nD τ).loc main_arg2) (ix1 k))
          (fun k => m ((c : Thread nD τ).loc main_arg3) (ix1 k)) (fun k i => m ((c : Thread nD τ).loc main_arg4) (ix3 0 k i)) j) :
    (dats m 0 c).arrAt 5 cfg0.N = G := by
  refine (dats m 0 c).arrAt_eq_of_covers 5 G (by decide +kernel) fun t hf y => ?_
  have h0 : (y 0).val < 1 := (y 0).isLt
  have h1 : (y 1).val < 256 := (y 1).isLt
  have h2 : (y 2).val < 1664 := (y 2).isLt
  obtain ⟨o0, o1, o2, o3, o4, o5⟩ := idx t
  have ey : ((cfg0.win 5).blk t).view.emb y = (ix3 (seq t.val t.isLt) ⟨(y 1).val, h1⟩ ⟨(y 2).val, h2⟩ : S16x256x1664.Idx) := by
    funext a
    apply Fin.ext
    match a with
    | ⟨0, _⟩ =>
      show win0_5.index t (0 : Fin 3) * 1 + 1 * (y 0).val = t.val
      rw [o5]; simp
    | ⟨1, _⟩ =>
      show win0_5.index t (1 : Fin 3) * 256 + 1 * (y 1).val = (y 1).val
      rw [o5]; simp
    | ⟨2, _⟩ =>
      show win0_5.index t (2 : Fin 3) * 1664 + 1 * (y 2).val = (y 2).val
      rw [o5]; simp
  have ex : (cfg0.win 5).xinj (grid0.coords t) y = (ix3 (0 : Fin 1) ⟨(y 1).val, h1⟩ ⟨(y 2).val, h2⟩ : S1x256x1664.Idx) := by
    funext a
    apply Fin.ext
    match a with
    | ⟨0, _⟩ => exact (Nat.lt_one_iff.mp h0)
    | ⟨1, _⟩ => rfl
    | ⟨2, _⟩ => rfl
  refine Eq.trans ?_ ((hG _ _ _).symm.trans (congrArg G ey.symm))
  show (dats m 0 c).after 5 t ((cfg0.win 5).xinj (grid0.coords t) y) = _
  rw [after0_5, ex]
  exact out_at m c t _ _

end Cert.CtxIdeal.Blocks

end
-- ==== Proof.CtxRefValue.lean ====
/-
  The reference of the context's projection, read at an index over the extended reals.
-/
module

public import proofs.«01_k».proof.Proof.Gen.CtxRefIdeal.Read
public import proofs.«01_k».proof.Proof.CtxPay
public import Idealize.ShloMosaic.Lib.Pointwise

@[expose] public section

set_option maxRecDepth 16384

noncomputable section

namespace Cert.CtxRefIdeal.At

open Cert.CtxRefIdeal Cert.CtxRefIdeal.Gen Cert.CtxRefIdeal.Read Idealize.ShloMosaic Idealize.ShloMosaic.TcCoe Idealize.SL.Sem
open Cert.InpIdeal.Pay (normMod)
open Cert.CtxIdeal.Pay (lay entry)

variable (x0 : (⟨S16x256x1024, .f32⟩ : BufTy).Contents (Elt Ideal)) (x1 : (⟨S1x1024, .f32⟩ : BufTy).Contents (Elt Ideal))
  (x2 x3 : (⟨S1024, .f32⟩ : BufTy).Contents (Elt Ideal)) (x4 : (⟨S1x1024x8224, .f32⟩ : BufTy).Contents (Elt Ideal))

/-- The normalised and modulated context. -/
theorem v21_apply (b : Fin 16) (l : Fin 256) (k : Fin 1024) :
    val_main_v21 (F := Ideal) x0 x1 x2 x3 (ix3 b l k)
      = normMod (fun j => x0 (ix3 b l j)) (fun j => x1 (ix2 0 j)) (fun j => x2 (ix1 j)) (fun j => x3 (ix1 j)) k := by
  unfold Cert.InpIdeal.Pay.normMod
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]

/-- Its projection. -/
theorem v24_apply (b : Fin 16) (l : Fin 256) (i : Fin 1568) :
    val_main_v24 (F := Ideal) x0 x1 x2 x3 x4 (ix3 b l i)
      = ∑ k : Fin 1024, val_main_v21 (F := Ideal) x0 x1 x2 x3 (ix3 b l k) * x4 (ix3 0 k ⟨i.val, by omega⟩) := by
  unfold val_main_v24
  generalize val_main_v21 (F := Ideal) x0 x1 x2 x3 = A
  pointwise [val_main_v23, val_main_v22]

/-- The result: the projection, then zeros. -/
theorem v27_apply (b : Fin 16) (l : Fin 256) (j : Fin 1664) :
    val_main_v27 (F := Ideal) x0 x1 x2 x3 x4 (ix3 b l j)
      = if h : j.val < 1568 then val_main_v24 (F := Ideal) x0 x1 x2 x3 x4 (ix3 b l ⟨j.val, h⟩) else 0 := by
  unfold val_main_v27 val_main_v26
  generalize val_main_v24 (F := Ideal) x0 x1 x2 x3 x4 = A
  pointwise [val_main_v25, val_main_cst_3]

/-- The result, entry by entry. -/
theorem value_apply (b : Fin 16) (l : Fin 256) (j : Fin 1664) :
    val_main_v27 (F := Ideal) x0 x1 x2 x3 x4 (ix3 b l j)
      = entry (fun k => x0 (ix3 b l k)) (fun k => x1 (ix2 0 k)) (fun k => x2 (ix1 k)) (fun k => x3 (ix1 k))
          (fun k i => x4 (ix3 0 k i)) j := by
  rw [v27_apply]
  unfold Cert.CtxIdeal.Pay.entry Cert.CtxIdeal.Pay.lay
  split_ifs with h
  · rw [v24_apply]
    show @Eq EReal _ _
    exact Finset.sum_congr rfl fun k _ => congrArg (fun a : EReal => a * _) (v21_apply x0 x1 x2 x3 b l k)
  · show @Eq EReal _ _
    simp

end Cert.CtxRefIdeal.At

end
-- ==== Proof.CtxClaims.lean ====
/-
  The claims about the context's projection: the kernel's run, the reference's, and that they end with the same result.
-/
module

public import proofs.«01_k».proof.Defs
public import proofs.«01_k».proof.Proof.CtxBlocks
public import proofs.«01_k».proof.Proof.CtxRefValue
public import proofs.«01_k».proof.Proof.Gen.Ctx.Frame
public import proofs.«01_k».proof.Proof.Gen.Ctx
public import proofs.«01_k».proof.Proof.Gen.CtxIdeal
public import proofs.«01_k».proof.Proof.Gen.CtxRefIdeal
public import Idealize.ShloMosaic.Lib.Claim
public import Idealize.ShloMosaic.Adequacy
public import Idealize.ShloMosaic.Lib.Quiescent

@[expose] public section

set_option maxRecDepth 16384

noncomputable section

namespace Cert.CtxClaims

open Idealize.ShloMosaic Idealize.SL.Sem

theorem frameP : quiescent_Ctx (hCtx := Cert.Ctx.Gen.facts) := fun m g _ => Cert.Ctx.Gen.frame m g

theorem framePI : quiescent_CtxIdeal (hCtxIdeal := Cert.CtxIdeal.Gen.facts) := fun m g _ => Cert.CtxIdeal.Gen.frame m g

theorem frameRI : quiescent_CtxRefIdeal (hCtxRefIdeal := Cert.CtxRefIdeal.Gen.facts) := fun m g _ =>
  (θ_run Cert.CtxRefIdeal.defs _ _).mono (fun r h => ⟨fun c => (h c).2, Idealize.ShloMosaic.sem_eq_zero_of_no_sems (by decide) r.2⟩)
    (Cert.CtxRefIdeal.Value.run (F := Ideal) m g)

/-- From memories that agree on the arguments, the kernel and the reference end with the same result. -/
theorem algebraic : algebraic_CtxIdeal_CtxRefIdeal (hCtxIdeal := Cert.CtxIdeal.Gen.facts)
    (hCtxRefIdeal := Cert.CtxRefIdeal.Gen.facts) := by
  intro m g m' g' hpre hag
  refine ⟨fun c => (Cert.CtxIdeal.Gen.dats m 0 c).arrAt 5 Cert.CtxIdeal.cfg0.N, Cert.CtxIdeal.Value.run_blocks m g,
    (θ_run Cert.CtxRefIdeal.defs _ _).mono (fun r h c => ⟨(h c).1.trans ?_, (h c).2⟩) (Cert.CtxRefIdeal.Value.run (F := Ideal) m' g')⟩
  obtain ⟨h0, h1, h2, h3, h4⟩ := hag c
  refine (Cert.CtxRefIdeal.Read.val_main_v27_eq _ _ _ _ _).trans ?_
  refine (Cert.CtxIdeal.Blocks.final5 m c _ fun b l j => ?_).symm
  refine (Cert.CtxRefIdeal.At.value_apply _ _ _ _ _ b l j).trans ?_
  rw [h0, h1, h2, h3, h4]

end Cert.CtxClaims

end
-- ==== Proof.GlcSum.lean ====
/-
  The running sums of the context's recurrence, and the sums of its finite gates.
-/
module

public import Idealize.ShloMosaic.Lib.Pointwise

@[expose] public section

noncomputable section

namespace Cert.GlcSum

open Idealize.ShloMosaic

theorem foldl_plus {n : ℕ} (G : Fin n → EReal) (z : EReal) (l : List (Fin n)) :
    l.foldl (fun r i => r + G i) z = z + (l.map G).sum := by
  induction l generalizing z with
  | nil => simp
  | cons a l ih => rw [List.foldl_cons, ih, List.map_cons, List.sum_cons, add_assoc]

/-- The positions of a window along the third axis. -/
def along : (⟨4, ![1, 1, 64, 1]⟩ : Shape).Idx ≃ Fin 64 where
  toFun w := w 2
  invFun n := ix4 0 0 n 0
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv n := rfl

theorem window_sum (f : Fin 64 → EReal) (r : Fin 64) :
    (∑ n : Fin 64, if h : 63 ≤ r.val + n.val then f ⟨r.val + n.val - 63, by omega⟩ else 0)
      = ∑ y : Fin 64, if y ≤ r then f y else 0 := by
  have e1 : (∑ n : Fin 64, if h : 63 ≤ r.val + n.val then f ⟨r.val + n.val - 63, by omega⟩ else 0)
      = ∑ n : Fin 64, if 63 ≤ r.val + n.val then f ⟨(r.val + n.val - 63) % 64, Nat.mod_lt _ (by omega)⟩ else 0 := by
    refine Finset.sum_congr rfl fun n _ => ?_
    split_ifs with h
    · exact congrArg f (Fin.ext (Nat.mod_eq_of_lt (by omega)).symm)
    · rfl
  rw [e1, ← Finset.sum_filter, ← Finset.sum_filter]
  refine Finset.sum_nbij' (fun n => ⟨(r.val + n.val - 63) % 64, Nat.mod_lt _ (by omega)⟩)
    (fun y => ⟨(y.val + 63 - r.val) % 64, Nat.mod_lt _ (by omega)⟩) ?_ ?_ ?_ ?_ ?_
  · intro n hn
    simp only [Finset.mem_filter, Finset.mem_univ, true_and, Fin.le_def] at hn ⊢
    omega
  · intro y hy
    simp only [Finset.mem_filter, Finset.mem_univ, true_and, Fin.le_def] at hy ⊢
    omega
  · intro n hn
    simp only [Finset.mem_filter, Finset.mem_univ, true_and] at hn
    apply Fin.ext
    show ((r.val + n.val - 63) % 64 + 63 - r.val) % 64 = n.val
    omega
  · intro y hy
    simp only [Finset.mem_filter, Finset.mem_univ, true_and, Fin.le_def] at hy
    apply Fin.ext
    show (r.val + (y.val + 63 - r.val) % 64 - 63) % 64 = y.val
    omega
  · intro n _
    rfl

/-- A sum over windows, the windows' positions taken as indices. -/
theorem windows {s t : Shape} (window strides lo hi : Fin s.rank → Nat) (h : s.ReduceWindows window strides lo hi t)
    (x : s.Idx → EReal) (init : EReal) (j : t.Idx) :
    Ideal.hostReduceWindowAdd window strides lo hi h x init j
      = init + ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else init := by
  unfold Ideal.hostReduceWindowAdd Host.reduceWindow
  refine (foldl_plus _ _ _).trans ?_
  rw [← Fin.sum_univ_def]
  refine congrArg (init + ·) ((Finset.sum_congr rfl fun n _ => ?_).trans (Equiv.sum_comp (⟨s.rank, window⟩ : Shape).rowMajor.symm fun w =>
    if hin : ∀ a, lo a ≤ (j (a.cast h.1.symm)).val * strides a + (w a).val
        ∧ (j (a.cast h.1.symm)).val * strides a + (w a).val - lo a < s.size a
      then x (fun a => ⟨(j (a.cast h.1.symm)).val * strides a + (w a).val - lo a, (hin a).2⟩) else init))
  dsimp only
  congr

/-- A running sum along the third axis. -/
theorem cumsum (x : FVec Ideal (⟨4, ![16, 4, 64, 128]⟩ : Shape) .f32) (init : (⟨0, ![]⟩ : Shape).Idx → Ideal .f32)
    (h : (⟨4, ![16, 4, 64, 128]⟩ : Shape).ReduceWindows (![1, 1, 64, 1] : Fin 4 → Nat) ![1, 1, 1, 1] ![0, 0, 63, 0] ![0, 0, 0, 0]
      ⟨4, ![16, 4, 64, 128]⟩) (hu : 0 < (⟨0, ![]⟩ : Shape).numel) (h0 : ∀ i, init i = (0 : EReal))
    (b : Fin 16) (d : Fin 4) (r : Fin 64) (k : Fin 128) :
    (Host.reduceWindowAdd ![1, 1, 64, 1] ![1, 1, 1, 1] ![0, 0, 63, 0] ![0, 0, 0, 0] x init h hu (ix4 b d r k) : EReal)
      = ∑ y : Fin 64, if y ≤ r then (x (ix4 b d y k) : EReal) else 0 := by
  rw [← window_sum]
  refine (windows ![1, 1, 64, 1] ![1, 1, 1, 1] ![0, 0, 63, 0] ![0, 0, 0, 0] h x (init (Shape.Idx.first hu)) (ix4 b d r k)).trans ?_
  rw [h0, zero_add]
  refine (Equiv.sum_comp along.symm _).symm.trans ?_
  refine Finset.sum_congr rfl fun n _ => ?_
  have hr := r.isLt
  have hn := n.isLt
  have hb := b.isLt
  have hd := d.isLt
  have hk := k.isLt
  by_cases hle : 63 ≤ r.val + n.val
  · rw [dif_pos hle, dif_pos]
    · refine congrArg x (funext fun a => Fin.ext ?_)
      match a with
      | ⟨0, _⟩ => show b.val * 1 + 0 - 0 = b.val; omega
      | ⟨1, _⟩ => show d.val * 1 + 0 - 0 = d.val; omega
      | ⟨2, _⟩ => show r.val * 1 + n.val - 63 = r.val + n.val - 63; omega
      | ⟨3, _⟩ => show k.val * 1 + 0 - 0 = k.val; omega
    · intro a
      match a with
      | ⟨0, _⟩ => show 0 ≤ b.val * 1 + 0 ∧ b.val * 1 + 0 - 0 < 16; omega
      | ⟨1, _⟩ => show 0 ≤ d.val * 1 + 0 ∧ d.val * 1 + 0 - 0 < 4; omega
      | ⟨2, _⟩ => show 63 ≤ r.val * 1 + n.val ∧ r.val * 1 + n.val - 63 < 64; omega
      | ⟨3, _⟩ => show 0 ≤ k.val * 1 + 0 ∧ k.val * 1 + 0 - 0 < 128; omega
  · rw [dif_neg hle, dif_neg]
    intro hin
    have h2 := (hin 2).1
    change 63 ≤ r.val * 1 + n.val at h2
    omega

/-- The logarithm of a gate, as the kernel computes it: a sixteenth of the logarithm of the logistic. -/
def gate (x : EReal) : EReal :=
  (min x 0 - Ideal.log (1 + Ideal.exp (0 - max x (-x)))) * ((1 / 16 : ℝ) : EReal)

/-- … and as the reference does. -/
def gateRef (x : EReal) : EReal :=
  Ideal.div (-(max (-x) 0 + Ideal.log1p (Ideal.exp (-(max (-x - 0) (-(-x - 0))))))) ((16 : ℝ) : EReal)

/-- The real number both are, of a logit above minus infinity. -/
def gam : EReal → ℝ
  | ⊥ => 0
  | ⊤ => 0
  | (x : ℝ) => (min x 0 - Real.log (1 + Real.exp (-|x|))) * (1 / 16)

theorem gam_nonpos (x : EReal) : gam x ≤ 0 := by
  induction x with
  | bot => exact le_refl _
  | top => exact le_refl _
  | coe x =>
    have h1 : 0 ≤ Real.log (1 + Real.exp (-|x|)) := Real.log_nonneg (by have := Real.exp_pos (-|x|); linarith)
    have h2 : min x 0 ≤ 0 := min_le_right _ _
    show (min x 0 - Real.log (1 + Real.exp (-|x|))) * (1 / 16) ≤ 0
    nlinarith

theorem log_one_add (x : ℝ) : Ideal.log (1 + Ideal.exp ((x : ℝ) : EReal)) = ((Real.log (1 + Real.exp x) : ℝ) : EReal) := by
  have h : ¬ (1 + Real.exp x ≤ 0) := by have := Real.exp_pos x; linarith
  show Ideal.log (((1 : ℝ) : EReal) + ((Real.exp x : ℝ) : EReal)) = _
  rw [← EReal.coe_add]
  show (if 1 + Real.exp x ≤ 0 then (⊥ : EReal) else ((Real.log (1 + Real.exp x) : ℝ) : EReal)) = _
  rw [if_neg h]

theorem abs_coe (x : ℝ) : max (x : EReal) (-(x : EReal)) = ((|x| : ℝ) : EReal) := by
  rw [← EReal.coe_neg, abs_eq_max_neg]
  exact (EReal.coe_strictMono.monotone.map_max (a := x) (b := -x)).symm

theorem log_one : Ideal.log (1 + 0) = 0 := by
  rw [add_zero]
  show (if (1 : ℝ) ≤ 0 then (⊥ : EReal) else ((Real.log 1 : ℝ) : EReal)) = 0
  rw [if_neg (by norm_num), Real.log_one]
  rfl

theorem gate_eq (x : EReal) (hx : x ≠ ⊥) : gate x = ((gam x : ℝ) : EReal) := by
  unfold gate
  induction x with
  | bot => exact absurd rfl hx
  | top =>
    have e : (0 : EReal) - max ⊤ (-⊤) = ⊥ := by simp
    rw [e]
    show (min ⊤ 0 - Ideal.log (1 + 0)) * _ = ((0 : ℝ) : EReal)
    rw [log_one]
    simp
  | coe x =>
    rw [abs_coe, zero_sub, ← EReal.coe_neg, log_one_add]
    have e : min (x : EReal) 0 = ((min x 0 : ℝ) : EReal) := (EReal.coe_strictMono.monotone.map_min (a := x) (b := 0)).symm
    rw [e, ← EReal.coe_sub, ← EReal.coe_mul]
    rfl

theorem gateRef_eq (x : EReal) (hx : x ≠ ⊥) : gateRef x = ((gam x : ℝ) : EReal) := by
  have hdiv : ∀ y : ℝ, Ideal.div (y : EReal) ((16 : ℝ) : EReal) = ((y * (1 / 16) : ℝ) : EReal) := fun y => by
    simp [Ideal.div, div_eq_mul_inv]
    exact congrArg (fun z : EReal => (y : EReal) * z) (EReal.coe_inv 16).symm
  unfold gateRef Ideal.log1p
  induction x with
  | bot => exact absurd rfl hx
  | top =>
    have e : -(max (-(⊤ : EReal) - 0) (-(-⊤ - 0))) = ⊥ := by simp
    rw [e]
    show Ideal.div (-(max (-⊤) 0 + Ideal.log (1 + 0))) _ = ((0 : ℝ) : EReal)
    rw [log_one]
    have e2 : -(max (-(⊤ : EReal)) 0 + 0) = ((0 : ℝ) : EReal) := by simp
    rw [e2, hdiv, zero_mul]
  | coe x =>
    rw [sub_zero, ← EReal.coe_neg, abs_coe, abs_neg, ← EReal.coe_neg, log_one_add]
    have e : max ((-x : ℝ) : EReal) 0 = ((max (-x) 0 : ℝ) : EReal) := (EReal.coe_strictMono.monotone.map_max (a := -x) (b := 0)).symm
    rw [e, ← EReal.coe_add, ← EReal.coe_neg, hdiv]
    congr 1
    show _ = (min x 0 - Real.log (1 + Real.exp (-|x|))) * (1 / 16)
    have e3 : max (-x) 0 = -min x 0 := by rw [← max_neg_neg, neg_zero]
    rw [e3]
    ring

theorem coe_sum {n : ℕ} (f : Fin n → ℝ) : ((∑ x, f x : ℝ) : EReal) = ∑ x, ((f x : ℝ) : EReal) := by
  induction n with
  | zero => simp
  | succ n ih => rw [Fin.sum_univ_succ, Fin.sum_univ_succ, EReal.coe_add, ih]

/-- A row of the table against the gates, which the kernel hands over in three parts. -/
def dec (T g : Fin 64 → EReal) : EReal :=
  (∑ x, T x * g x) + (∑ x, T x * (g x - g x)) + ∑ x, T x * (g x - g x - (g x - g x))

/-- The decay over the positions a row of the table marks. -/
def over (p : Fin 64 → Prop) [DecidablePred p] (γ : Fin 64 → ℝ) : ℝ := ∑ x, if p x then γ x else 0

theorem exp_dec (p : Fin 64 → Prop) [DecidablePred p] (γ : Fin 64 → ℝ) (h : ∀ x, γ x ≤ 0) :
    Ideal.exp (min (dec (fun x => if p x then 1 else 0) (fun x => ((γ x : ℝ) : EReal))) 0) = ((Real.exp (over p γ) : ℝ) : EReal) := by
  have e1 : dec (fun x => if p x then 1 else 0) (fun x => ((γ x : ℝ) : EReal)) = ((over p γ : ℝ) : EReal) := by
    unfold dec over
    have z : ∀ x, ((γ x : ℝ) : EReal) - ((γ x : ℝ) : EReal) = 0 := fun x => by
      rw [← EReal.coe_sub, sub_self]; rfl
    simp only [z, sub_zero, mul_zero, Finset.sum_const_zero, add_zero]
    rw [coe_sum]
    refine Finset.sum_congr rfl fun x _ => ?_
    split_ifs <;> simp
  have e2 : over p γ ≤ 0 := Finset.sum_nonpos fun x _ => by split_ifs <;> simp [h]
  rw [e1, min_eq_left (by exact_mod_cast e2)]
  rfl

/-- One chunk of the recurrence at one entry of the state. -/
def next (γ : Fin 64 → ℝ) (k v : Fin 64 → EReal) (s : EReal) : EReal :=
  s * ((Real.exp (over (fun _ => True) γ) : ℝ) : EReal)
    + ∑ x, v x * (k x * ((Real.exp (over (fun y => x < y) γ) : ℝ) : EReal))

/-- … with the chunk read backwards. -/
theorem next_rev (γ : Fin 64 → ℝ) (k v : Fin 64 → EReal) (s : EReal) :
    s * ((Real.exp (over (fun _ => True) γ) : ℝ) : EReal)
      + ∑ x, v x * (k x * ((Real.exp (over (fun y => y < x) γ) : ℝ) : EReal))
    = next (fun x => γ x.rev) (fun x => k x.rev) (fun x => v x.rev) s := by
  unfold next
  have e : ∀ (p q : Fin 64 → Prop) [DecidablePred p] [DecidablePred q], (∀ y, q y ↔ p y.rev) →
      over p γ = over q (fun x => γ x.rev) := fun p q _ _ h => by
    unfold over
    rw [← Equiv.sum_comp Fin.revPerm]
    refine Finset.sum_congr rfl fun y _ => ?_
    simp only [Fin.revPerm_apply, h]
  rw [e (fun _ => True) (fun _ => True) (fun _ => Iff.rfl), ← Equiv.sum_comp Fin.revPerm]
  congr 1
  refine Finset.sum_congr rfl fun x _ => ?_
  simp only [Fin.revPerm_apply]
  rw [e (fun y => y < x.rev) (fun y => x < y) (fun y => by rw [Fin.rev_lt_rev])]

/-- A chunk as the reference writes it, from the running sums of its gates. -/
theorem next_ref (γ : Fin 64 → ℝ) (k v : Fin 64 → EReal) (s : EReal) :
    s * Ideal.exp (∑ y : Fin 64, if y ≤ 63 then ((γ y : ℝ) : EReal) else 0)
      + ∑ x, (k x * Ideal.exp ((∑ y : Fin 64, if y ≤ 63 then ((γ y : ℝ) : EReal) else 0)
          - ∑ y : Fin 64, if y ≤ x then ((γ y : ℝ) : EReal) else 0)) * v x
    = next γ k v s := by
  have e : ∀ (p : Fin 64 → Prop) [DecidablePred p],
      (∑ y : Fin 64, if p y then ((γ y : ℝ) : EReal) else 0) = ((over p γ : ℝ) : EReal) := fun p _ => by
    unfold over
    rw [coe_sum]
    exact Finset.sum_congr rfl fun y _ => by split_ifs <;> rfl
  have last : over (fun y => y ≤ 63) γ = over (fun _ => True) γ := by
    unfold over
    exact Finset.sum_congr rfl fun y _ => by rw [if_pos (show y ≤ 63 from Fin.le_last y), if_pos trivial]
  unfold next
  rw [e (fun y => y ≤ 63), last]
  congr 1
  refine Finset.sum_congr rfl fun x _ => ?_
  rw [e (fun y => y ≤ x), ← EReal.coe_sub, mul_comm (v x)]
  have d : over (fun _ => True) γ - over (fun y => y ≤ x) γ = over (fun y => x < y) γ := by
    unfold over
    rw [← Finset.sum_sub_distrib]
    refine Finset.sum_congr rfl fun y _ => ?_
    rcases lt_or_ge x y with h | h
    · rw [if_pos trivial, if_neg (not_le.mpr h), if_pos h, sub_zero]
    · rw [if_pos trivial, if_pos h, if_neg (not_lt.mpr h), sub_self]
  rw [d]
  rfl

/-- Position `x` of chunk `n` of 256 positions. -/
def pos (n : Fin 4) (x : Fin 64) : Fin 256 := ⟨64 * n.val + x.val, by omega⟩

/-- The four chunks one after another, from a state of zero. -/
def final (γ : Fin 256 → ℝ) (k v : Fin 256 → EReal) : EReal :=
  let f (n : Fin 4) (s : EReal) : EReal := next (fun x => γ (pos n x)) (fun x => k (pos n x)) (fun x => v (pos n x)) s
  f 3 (f 2 (f 1 (f 0 0)))

end Cert.GlcSum

end
-- ==== Proof.GlcPay.lean ====
/-
  What one grid point of the context's recurrence computes, read at an index over the extended reals.
-/
module

public import proofs.«01_k».proof.Proof.Gen.GlcIdeal.Skeleton
public import proofs.«01_k».proof.Proof.GlcSum
public import Idealize.ShloMosaic.Lib.Pointwise

@[expose] public section

set_option maxRecDepth 16384

noncomputable section

namespace Cert.GlcIdeal.Pay

open Cert.GlcSum Cert.GlcIdeal Cert.GlcIdeal.Gen Idealize.ShloMosaic Idealize.ShloMosaic.TcCoe Idealize.SL.Sem

/-- The product a gate is the gate of. -/
def pre (a w : Fin 128 → EReal) (b : EReal) : EReal := (∑ j, a j * w j) + b

/-- One sixteenth. -/
theorem sixteenth : Ideal.ofBits .f32 0x3D800000#32 = ((1 / 16 : ℝ) : EReal) := by
  simp [Ideal.ofBits, Ideal.ieee, -EReal.coe_mul]; norm_num

theorem pay6_apply (a : Vec Ideal S1x64x128 .bf16) (w : Vec Ideal S1x128x128 .bf16) (b : Vec Ideal S1x1x128 .f32)
    (x : Fin 64) (k : Fin 128) :
    k0_pay6 a w b (ix2 x k) = gate (pre (fun j => a (ix3 0 x j)) (fun j => w (ix3 0 j k)) (b (ix3 0 0 k))) := by
  unfold gate pre
  pointwise [k0_pay6]
  rw [sixteenth]
  rfl

/-- One chunk of the recurrence. -/
def step (k : Vec Ideal S1x64x128 .bf16) (v : Vec Ideal S1x64x256 .bf16) (a : Vec Ideal S1x64x128 .bf16)
    (w : Vec Ideal S1x128x128 .bf16) (b : Vec Ideal S1x1x128 .f32) (T : Vec Ideal S904x64 .bf16)
    (st : Vec Ideal S256x128 .f32) : Vec Ideal S256x128 .f32 :=
  k0_pay9 (k0_pay4 k) (k0_pay5 v) T (k0_pay7 a w b) (k0_pay8 a w b) st

section Same
variable (k : Vec Ideal S1x64x128 .bf16) (v : Vec Ideal S1x64x256 .bf16) (a : Vec Ideal S1x64x128 .bf16)
    (w : Vec Ideal S1x128x128 .bf16) (b : Vec Ideal S1x1x128 .f32) (T : Vec Ideal S904x64 .bf16)
    (st : Vec Ideal S256x128 .f32)

theorem same2 : k0_pay15 (k0_pay10 k) (k0_pay11 v) (k0_pay12 a) (k0_pay13 w) (k0_pay14 b) T st = step k v a w b T st := rfl
theorem same3 : k0_pay20 (k0_pay16 k) (k0_pay17 v) (k0_pay18 a w b T) (k0_pay19 a w b T) st = step k v a w b T st := rfl
theorem same4 : k0_pay24 (k0_pay21 k) (k0_pay22 v) T (k0_pay23 a w b) (Scalar.ofBits .f32 0x00000000#32) st
    = step k v a w b T st := rfl
theorem same6 : k0_pay34 (k0_pay29 k) (k0_pay30 v) T (k0_pay32 a w b) (k0_pay33 a w b) (Scalar.ofBits .f32 0x3F800000#32) st
    = step k v a w b T st := rfl
theorem same5 : k0_pay28 (k0_pay25 k) (k0_pay26 v) (k0_pay27 a w b T) st = step k v a w b T st := rfl
theorem same7 : k0_pay41 (k0_pay36 v) st (k0_pay39 (k0_pay35 k) (k0_pay37 a) w b T) (k0_pay40 (k0_pay37 a) w b T)
    = step k v a w b T st := rfl
theorem same8 : k0_pay46 (k0_pay42 k) (k0_pay43 v) T (k0_pay44 a w b) (k0_pay45 a w b) st = step k v a w b T st := rfl
end Same

/-- One chunk at one entry of the state. -/
theorem step_apply (k : Vec Ideal S1x64x128 .bf16) (v : Vec Ideal S1x64x256 .bf16) (a : Vec Ideal S1x64x128 .bf16)
    (w : Vec Ideal S1x128x128 .bf16) (b : Vec Ideal S1x1x128 .f32) (T : Vec Ideal S904x64 .bf16)
    (st : Vec Ideal S256x128 .f32) (i : Fin 256) (j : Fin 128) :
    step k v a w b T st (ix2 i j)
      = st (ix2 i j) * Ideal.exp (min (dec (fun x => T (ix2 896 x)) (fun x => k0_pay6 a w b (ix2 x j))) 0)
        + ∑ x : Fin 64, v (ix3 0 x i) * (k (ix3 0 x j)
            * Ideal.exp (min (dec (fun y => T (ix2 ⟨64 + x.val, by omega⟩ y)) (fun y => k0_pay6 a w b (ix2 y j))) 0)) := by
  unfold dec
  pointwise [step, k0_pay9, k0_pay4, k0_pay5, k0_pay7, k0_pay8]
  have h1 : ¬ 256 + j.val < 128 := by omega
  have h2 : ¬ 256 + j.val - 128 < 128 := by omega
  have e : ∀ h, (⟨256 + j.val - 128 - 128, h⟩ : Fin 128) = j := fun h => Fin.ext (by show 256 + j.val - 128 - 128 = j.val; omega)
  simp only [h1, h2, dif_neg, not_false_eq_true, e]

end Cert.GlcIdeal.Pay

end
-- ==== Proof.GlcTable.lean ====
/-
  The rows of the kernel's two tables of ones and zeros that its states use.
-/
module

public import proofs.«01_k».proof.GlcIdeal
public import Idealize.ShloMosaic.Lib.Pointwise
public import Idealize.ShloMosaic.Lib.IdealHost

@[expose] public section

set_option maxRecDepth 16384

noncomputable section

namespace Cert.GlcIdeal.Table

open Cert.GlcIdeal Idealize.ShloMosaic

theorem ones0 : ∀ x : Fin 64, lit0 ⟨64 * 896 + x.val, by have := x.isLt; omega⟩ = 0x3F80#16 := by decide +kernel

theorem ones1 : ∀ x : Fin 64, lit1 ⟨64 * 896 + x.val, by have := x.isLt; omega⟩ = 0x3F80#16 := by decide +kernel

theorem rows0 : ∀ i x : Fin 64, lit0 ⟨64 * (64 + i.val) + x.val, by have := x.isLt; have := i.isLt; omega⟩
    = if i < x then 0x3F80#16 else 0x0000#16 := by decide +kernel

theorem rows1 : ∀ i x : Fin 64, lit1 ⟨64 * (64 + i.val) + x.val, by have := x.isLt; have := i.isLt; omega⟩
    = if x < i then 0x3F80#16 else 0x0000#16 := by decide +kernel

end Cert.GlcIdeal.Table

end
-- ==== Proof.GlcTableAt.lean ====
/-
  The kernel's two tables of ones and zeros, read at an index over the extended reals.
-/
module

public import proofs.«01_k».proof.Proof.GlcTable
public import Idealize.ShloMosaic.Lib.Pointwise
public import Idealize.ShloMosaic.Lib.IdealHost

@[expose] public section

set_option maxRecDepth 16384

noncomputable section

namespace Cert.GlcIdeal.Table

open Cert.GlcIdeal Idealize.ShloMosaic

theorem one_bits : Ideal.ofBits .bf16 0x3F80#16 = 1 := by
  rw [show (1 : EReal) = ((1 : ℝ) : EReal) by norm_cast]
  simp [Ideal.ofBits, Ideal.ieee, -EReal.coe_mul]; norm_num

theorem zero_bits : Ideal.ofBits .bf16 0x0000#16 = 0 := by simp [Ideal.ofBits, Ideal.ieee]

/-- The position of an entry of a table. -/
theorem place (r : Fin 904) (x : Fin 64) (n : Fin 57856) (h : n.val = 64 * r.val + x.val) :
    (S904x64.rowMajor (ix2 r x) : Fin S904x64.numel) = (n : Fin 57856) := by
  apply Fin.ext
  refine (Shape.rowMajor_val_two _).trans ?_
  show r.val * 64 + x.val = n.val
  omega

/-- The forward table. -/
def fwd : FVec Ideal S904x64 .bf16 := fun i => FloatOps.ofBits (F := Ideal) .bf16 (lit0 (S904x64.rowMajor i))

/-- The backward table. -/
def bwd : FVec Ideal S904x64 .bf16 := fun i => FloatOps.ofBits (F := Ideal) .bf16 (lit1 (S904x64.rowMajor i))

theorem fwd_ones (x : Fin 64) : (fwd (ix2 896 x) : EReal) = 1 := by
  exact (congrArg (fun b => Ideal.ofBits .bf16 b) ((congrArg lit0 (place 896 x _ rfl)).trans (ones0 x))).trans Cert.GlcIdeal.Table.one_bits

theorem bwd_ones (x : Fin 64) : (bwd (ix2 896 x) : EReal) = 1 := by
  exact (congrArg (fun b => Ideal.ofBits .bf16 b) ((congrArg lit1 (place 896 x _ rfl)).trans (ones1 x))).trans Cert.GlcIdeal.Table.one_bits

theorem fwd_row (i x : Fin 64) : (fwd (ix2 ⟨64 + i.val, by omega⟩ x) : EReal) = if i < x then 1 else 0 := by
  refine (congrArg (fun b => Ideal.ofBits .bf16 b) ((congrArg lit0 (place ⟨64 + i.val, by omega⟩ x _ rfl)).trans (rows0 i x))).trans ?_
  split_ifs
  · exact Cert.GlcIdeal.Table.one_bits
  · exact Cert.GlcIdeal.Table.zero_bits

theorem bwd_row (i x : Fin 64) : (bwd (ix2 ⟨64 + i.val, by omega⟩ x) : EReal) = if x < i then 1 else 0 := by
  refine (congrArg (fun b => Ideal.ofBits .bf16 b) ((congrArg lit1 (place ⟨64 + i.val, by omega⟩ x _ rfl)).trans (rows1 i x))).trans ?_
  split_ifs
  · exact Cert.GlcIdeal.Table.one_bits
  · exact Cert.GlcIdeal.Table.zero_bits

end Cert.GlcIdeal.Table

end
-- ==== Proof.GlcBlocks.lean ====
/-
  The blocks a grid point of the context's recurrence reads, as entries of the program's arguments, and the result arrays.
-/
module

public import proofs.«01_k».proof.Proof.Gen.GlcIdeal.Value
public import proofs.«01_k».proof.Proof.GlcPay
public import proofs.«01_k».proof.Proof.GlcTableAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GlcIdeal.Blocks

open Cert.GlcSum Cert.GlcIdeal Cert.GlcIdeal.Gen Cert.GlcIdeal.Pay Idealize.ShloMosaic Idealize.ShloMosaic.TcCoe Idealize.SL.Sem

variable (m : (ℓ : Loc nD τ sig) → Buf (Elt Ideal) ℓ)

/-- Where each window's block stands: point `t` is sequence `t / 4` and head `t % 4`. -/
theorem idx : ∀ t : Fin grid0.N,
    win0_0.index t = ![t.val / 4, 0, t.val % 4] ∧ win0_1.index t = ![t.val / 4, 0, 2 + t.val % 4] ∧ win0_2.index t = ![t.val / 4, 0, 12]
    ∧ win0_3.index t = ![t.val / 4, 0, t.val % 4] ∧ win0_4.index t = ![t.val / 4, 0, 2 + t.val % 4] ∧ win0_5.index t = ![t.val / 4, 0, 12]
    ∧ win0_6.index t = ![t.val % 4, 0, 0] ∧ win0_7.index t = ![t.val % 4, 0, 0]
    ∧ win0_8.index t = ![t.val % 4, 0, 0] ∧ win0_9.index t = ![t.val % 4, 0, 0]
    ∧ win0_10.index t = ![0, 0] ∧ win0_11.index t = ![0, 0]
    ∧ win0_14.index t = ![t.val / 4, t.val % 4, 0, 0] ∧ win0_15.index t = ![t.val / 4, t.val % 4, 0, 0]
    ∧ win0_16.index t = ![t.val / 4, t.val % 4, 0, 0] ∧ win0_17.index t = ![t.val / 4, t.val % 4, 0, 0] := by decide +kernel

/-- The sequence of point `n`. -/
def seq (n : ℕ) (h : n < cfg0.N) : Fin 16 := ⟨n / 4, by have := lt_of_lt_of_eq h N_0; omega⟩

/-- Its head. -/
def head (n : ℕ) : Fin 4 := ⟨n % 4, Nat.mod_lt _ (by omega)⟩

/-- The host's zero is zero. -/
theorem zero_eq : (FloatOps.sitofp FTy.f32 0#32 : Ideal .f32) = (0 : EReal) := by
  show ((((0#32).toInt : ℤ) : ℝ) : EReal) = 0
  simp

theorem ecst (c : Dev nD) : V m c main_cst = Table.fwd := by
  unfold V
  simp only [hostOps0, hostOps0_1, hostOps0_2, hostOps0_3, hostOps0_4, List.flatten_cons, List.flatten_nil, List.append_nil, List.cons_append, List.nil_append]
  after_results_simp
  try dsimp only [Matrix.cons_val]
  try after_results_simp
  rfl

theorem ecst0 (c : Dev nD) : V m c main_cst_0 = Table.bwd := by
  unfold V
  simp only [hostOps0, hostOps0_1, hostOps0_2, hostOps0_3, hostOps0_4, List.flatten_cons, List.flatten_nil, List.append_nil, List.cons_append, List.nil_append]
  after_results_simp
  try dsimp only [Matrix.cons_val]
  try after_results_simp
  rfl

theorem e6 (c : Dev nD) (d : Fin 4) (j k : Fin 128) :
    V m c main_v6 (ix3 d j k) = if h : j.val < 16 then m ((c : Thread nD τ).loc main_arg1) (ix4 0 0 ⟨j.val, h⟩ ⟨d.val * 128 + k.val, by omega⟩) else (0 : EReal) := by
  unfold V
  simp only [hostOps0, hostOps0_1, hostOps0_2, hostOps0_3, hostOps0_4, List.flatten_cons, List.flatten_nil, List.append_nil, List.cons_append, List.nil_append]
  entry_read
  pointwise
  show pad S4x128x128 ![0, 0, 0] ![0, 112, 0] ![0, 0, 0]
    (fun i : S4x16x128.Idx => m ((c : Thread nD τ).loc main_arg1) (ix4 0 0 (i 1) ⟨(i 0).val * 128 + (i 2).val, by have h0 : (i 0).val < 4 := (i 0).isLt; have h2 : (i 2).val < 128 := (i 2).isLt; omega⟩))
    (fun _ : S_.Idx => (FloatOps.sitofp FTy.f32 0#32 : Ideal .f32)) pads_S4x16x128_S4x128x128_000_01120_000 h_S_ (ix3 d j k) = _
  simp only [zero_eq]
  pointwise

theorem e10 (c : Dev nD) (d : Fin 4) (j k : Fin 128) :
    V m c main_v10 (ix3 d j k) = if h : 16 ≤ j.val ∧ j.val - 16 < 16 then m ((c : Thread nD τ).loc main_arg1) (ix4 0 1 ⟨j.val - 16, h.2⟩ ⟨d.val * 128 + k.val, by omega⟩) else (0 : EReal) := by
  unfold V
  simp only [hostOps0, hostOps0_1, hostOps0_2, hostOps0_3, hostOps0_4, List.flatten_cons, List.flatten_nil, List.append_nil, List.cons_append, List.nil_append]
  entry_read
  pointwise
  show pad S4x128x128 ![0, 16, 0] ![0, 96, 0] ![0, 0, 0]
    (fun i : S4x16x128.Idx => m ((c : Thread nD τ).loc main_arg1) (ix4 0 1 (i 1) ⟨(i 0).val * 128 + (i 2).val, by have h0 : (i 0).val < 4 := (i 0).isLt; have h2 : (i 2).val < 128 := (i 2).isLt; omega⟩))
    (fun _ : S_.Idx => (FloatOps.sitofp FTy.f32 0#32 : Ideal .f32)) pads_S4x16x128_S4x128x128_000_16960_000 h_S_ (ix3 d j k) = _
  simp only [zero_eq]
  pointwise

theorem e15 (c : Dev nD) (d : Fin 4) (k : Fin 128) :
    V m c main_v15 (ix3 d 0 k) = m ((c : Thread nD τ).loc main_arg2) (ix3 0 0 ⟨d.val * 128 + k.val, by omega⟩) := by
  unfold V
  simp only [hostOps0, hostOps0_1, hostOps0_2, hostOps0_3, hostOps0_4, List.flatten_cons, List.flatten_nil, List.append_nil, List.cons_append, List.nil_append]
  entry_read
  pointwise

theorem e17 (c : Dev nD) (d : Fin 4) (k : Fin 128) :
    V m c main_v17 (ix3 d 0 k) = m ((c : Thread nD τ).loc main_arg2) (ix3 0 1 ⟨d.val * 128 + k.val, by omega⟩) := by
  unfold V
  simp only [hostOps0, hostOps0_1, hostOps0_2, hostOps0_3, hostOps0_4, List.flatten_cons, List.flatten_nil, List.append_nil, List.cons_append, List.nil_append]
  entry_read
  pointwise

theorem e13 (c : Dev nD) (b : Fin 16) (d : Fin 4) (i : Fin 256) (k : Fin 128) : V m c main_v13 (ix4 b d i k) = (0 : EReal) := by
  unfold V
  simp only [hostOps0, hostOps0_1, hostOps0_2, hostOps0_3, hostOps0_4, List.flatten_cons, List.flatten_nil, List.append_nil, List.cons_append, List.nil_append]
  entry_read
  pointwise

theorem b0 (c : Dev nD) (t : Fin cfg0.N) (l : Fin 256) (k : Fin 128) :
    iblk m c 0 t (ix3 0 l k) = m ((c : Thread nD τ).loc main_arg0) (ix3 (seq t.val t.isLt) l ⟨(head t.val).val * 128 + k.val, by omega⟩) := by
  unfold seq head
  blk_ext! [iblk, V, idx t]

theorem b2 (c : Dev nD) (t : Fin cfg0.N) (l : Fin 256) (k : Fin 128) :
    iblk m c 2 t (ix3 0 l k) = m ((c : Thread nD τ).loc main_arg0) (ix3 (seq t.val t.isLt) l ⟨1536 + k.val, by omega⟩) := by
  unfold seq
  blk_ext! [iblk, V, idx t]

theorem b3 (c : Dev nD) (t : Fin cfg0.N) (l : Fin 256) (k : Fin 128) :
    iblk m c 3 t (ix3 0 l k) = m ((c : Thread nD τ).loc main_arg0) (ix3 (seq t.val t.isLt) l ⟨(head t.val).val * 128 + k.val, by omega⟩) := by
  unfold seq head
  blk_ext! [iblk, V, idx t]

theorem b5 (c : Dev nD) (t : Fin cfg0.N) (l : Fin 256) (k : Fin 128) :
    iblk m c 5 t (ix3 0 l k) = m ((c : Thread nD τ).loc main_arg0) (ix3 (seq t.val t.isLt) l ⟨1536 + k.val, by omega⟩) := by
  unfold seq
  blk_ext! [iblk, V, idx t]

theorem b10 (c : Dev nD) (t : Fin cfg0.N) (r : Fin 904) (x : Fin 64) : iblk m c 10 t (ix2 r x) = Table.fwd (ix2 r x) := by
  refine Eq.trans ?_ (congrFun (ecst m c) _)
  show V m c main_cst _ = V m c main_cst _
  blk_ext [idx t]

theorem b11 (c : Dev nD) (t : Fin cfg0.N) (r : Fin 904) (x : Fin 64) : iblk m c 11 t (ix2 r x) = Table.bwd (ix2 r x) := by
  refine Eq.trans ?_ (congrFun (ecst0 m c) _)
  show V m c main_cst_0 _ = V m c main_cst_0 _
  blk_ext [idx t]

theorem b6 (c : Dev nD) (t : Fin cfg0.N) (j k : Fin 128) : iblk m c 6 t (ix3 0 j k) = V m c main_v6 (ix3 (head t.val) j k) := by
  unfold head
  show V m c main_v6 _ = V m c main_v6 _
  blk_ext [idx t]

theorem b7 (c : Dev nD) (t : Fin cfg0.N) (j k : Fin 128) : iblk m c 7 t (ix3 0 j k) = V m c main_v10 (ix3 (head t.val) j k) := by
  unfold head
  show V m c main_v10 _ = V m c main_v10 _
  blk_ext [idx t]

theorem b8 (c : Dev nD) (t : Fin cfg0.N) (k : Fin 128) : iblk m c 8 t (ix3 0 0 k) = V m c main_v15 (ix3 (head t.val) 0 k) := by
  unfold head
  show V m c main_v15 _ = V m c main_v15 _
  blk_ext [idx t]

theorem b9 (c : Dev nD) (t : Fin cfg0.N) (k : Fin 128) : iblk m c 9 t (ix3 0 0 k) = V m c main_v17 (ix3 (head t.val) 0 k) := by
  unfold head
  show V m c main_v17 _ = V m c main_v17 _
  blk_ext [idx t]

theorem b14 (c : Dev nD) (t : Fin cfg0.N) (i : Fin 256) (k : Fin 128) : iblk m c 14 t (ix4 0 0 i k) = (0 : EReal) := by
  refine Eq.trans ?_ (e13 m c (seq t.val t.isLt) (head t.val) i k)
  unfold seq head
  show V m c main_v13 _ = V m c main_v13 _
  blk_ext [idx t]

theorem b15 (c : Dev nD) (t : Fin cfg0.N) (i : Fin 256) (k : Fin 128) : iblk m c 15 t (ix4 0 0 i k) = (0 : EReal) := by
  refine Eq.trans ?_ (e13 m c (seq t.val t.isLt) (head t.val) i k)
  unfold seq head
  show V m c main_v13 _ = V m c main_v13 _
  blk_ext [idx t]

end Cert.GlcIdeal.Blocks

end
-- ==== Proof.GlcOut.lean ====
/-
  What a grid point of the context's recurrence leaves in its two output blocks, chunk after chunk.
-/
module

public import proofs.«01_k».proof.Proof.GlcBlocks

@[expose] public section

set_option maxRecDepth 16384

noncomputable section

namespace Cert.GlcIdeal.Out

open Cert.GlcSum Cert.GlcIdeal Cert.GlcIdeal.Gen Cert.GlcIdeal.Pay Cert.GlcIdeal.Blocks Idealize.ShloMosaic Idealize.ShloMosaic.TcCoe Idealize.SL.Sem

variable (m : (ℓ : Loc nD τ sig) → Buf (Elt Ideal) ℓ)

/-- The forward output: four chunks from first to last. -/
theorem out0_eq (c : Dev nD) (t : Fin cfg0.N) : (outsAt0 m c t).1 = k0_pay47 (
    step (View.ld (iblk m c 0 t) (Rect.unit ![0, 192, 0] ![1, 64, 128] inb_S1x256x128_S1x64x128_0_192_0)) (View.ld (X0_1 m c t) (Rect.unit ![0, 192, 0] ![1, 64, 256] inb_S1x256x256_S1x64x256_0_192_0)) (View.ld (iblk m c 2 t) (Rect.unit ![0, 192, 0] ![1, 64, 128] inb_S1x256x128_S1x64x128_0_192_0))
    (iblk m c 6 t) (iblk m c 8 t) (iblk m c 10 t) (step (View.ld (iblk m c 0 t) (Rect.unit ![0, 128, 0] ![1, 64, 128] inb_S1x256x128_S1x64x128_0_128_0)) (View.ld (X0_1 m c t) (Rect.unit ![0, 128, 0] ![1, 64, 256] inb_S1x256x256_S1x64x256_0_128_0)) (View.ld (iblk m c 2 t) (Rect.unit ![0, 128, 0] ![1, 64, 128] inb_S1x256x128_S1x64x128_0_128_0))
    (iblk m c 6 t) (iblk m c 8 t) (iblk m c 10 t) (step (View.ld (iblk m c 0 t) (Rect.unit ![0, 64, 0] ![1, 64, 128] inb_S1x256x128_S1x64x128_0_64_0)) (View.ld (X0_1 m c t) (Rect.unit ![0, 64, 0] ![1, 64, 256] inb_S1x256x256_S1x64x256_0_64_0)) (View.ld (iblk m c 2 t) (Rect.unit ![0, 64, 0] ![1, 64, 128] inb_S1x256x128_S1x64x128_0_64_0))
    (iblk m c 6 t) (iblk m c 8 t) (iblk m c 10 t) (step (View.ld (iblk m c 0 t) (Rect.unit ![0, 0, 0] ![1, 64, 128] inb_S1x256x128_S1x64x128_0_0_0)) (View.ld (X0_1 m c t) (Rect.unit ![0, 0, 0] ![1, 64, 256] inb_S1x256x256_S1x64x256_0_0_0)) (View.ld (iblk m c 2 t) (Rect.unit ![0, 0, 0] ![1, 64, 128] inb_S1x256x128_S1x64x128_0_0_0))
    (iblk m c 6 t) (iblk m c 8 t) (iblk m c 10 t) (k0_pay2 (iblk m c 14 t)))))) := by
  unfold outsAt0
  frame_out
  rfl

/-- The backward output: four chunks from last to first. -/
theorem out1_eq (c : Dev nD) (t : Fin cfg0.N) : (outsAt0 m c t).2 = k0_pay1 (
    step (View.ld (iblk m c 3 t) (Rect.unit ![0, 0, 0] ![1, 64, 128] inb_S1x256x128_S1x64x128_0_0_0)) (View.ld (X0_4 m c t) (Rect.unit ![0, 0, 0] ![1, 64, 256] inb_S1x256x256_S1x64x256_0_0_0)) (View.ld (iblk m c 5 t) (Rect.unit ![0, 0, 0] ![1, 64, 128] inb_S1x256x128_S1x64x128_0_0_0))
    (iblk m c 7 t) (iblk m c 9 t) (iblk m c 11 t) (step (View.ld (iblk m c 3 t) (Rect.unit ![0, 64, 0] ![1, 64, 128] inb_S1x256x128_S1x64x128_0_64_0)) (View.ld (X0_4 m c t) (Rect.unit ![0, 64, 0] ![1, 64, 256] inb_S1x256x256_S1x64x256_0_64_0)) (View.ld (iblk m c 5 t) (Rect.unit ![0, 64, 0] ![1, 64, 128] inb_S1x256x128_S1x64x128_0_64_0))
    (iblk m c 7 t) (iblk m c 9 t) (iblk m c 11 t) (step (View.ld (iblk m c 3 t) (Rect.unit ![0, 128, 0] ![1, 64, 128] inb_S1x256x128_S1x64x128_0_128_0)) (View.ld (X0_4 m c t) (Rect.unit ![0, 128, 0] ![1, 64, 256] inb_S1x256x256_S1x64x256_0_128_0)) (View.ld (iblk m c 5 t) (Rect.unit ![0, 128, 0] ![1, 64, 128] inb_S1x256x128_S1x64x128_0_128_0))
    (iblk m c 7 t) (iblk m c 9 t) (iblk m c 11 t) (step (View.ld (iblk m c 3 t) (Rect.unit ![0, 192, 0] ![1, 64, 128] inb_S1x256x128_S1x64x128_0_192_0)) (View.ld (X0_4 m c t) (Rect.unit ![0, 192, 0] ![1, 64, 256] inb_S1x256x256_S1x64x256_0_192_0)) (View.ld (iblk m c 5 t) (Rect.unit ![0, 192, 0] ![1, 64, 128] inb_S1x256x128_S1x64x128_0_192_0))
    (iblk m c 7 t) (iblk m c 9 t) (iblk m c 11 t) (k0_pay3 (iblk m c 15 t)))))) := by
  unfold outsAt0
  frame_out
  rfl

/-- A slice of 64 positions of the keys or of the inputs of the decays. -/
theorem ld128 (X : Vec Ideal S1x256x128 .bf16) (n : Fin 4) (o : ℕ) (ho : o = 64 * n.val) (h) (x : Fin 64) (j : Fin 128) :
    View.ld X (Rect.unit ![0, o, 0] ![1, 64, 128] h) (ix3 0 x j) = X (ix3 0 (pos n x) j) := by
  subst ho
  show X _ = X _
  refine congrArg X ?_
  funext a
  apply Fin.ext
  match a with
  | ⟨0, _⟩ => rfl
  | ⟨1, _⟩ => show 64 * n.val + 1 * x.val = 64 * n.val + x.val; omega
  | ⟨2, _⟩ => show 0 + 1 * j.val = j.val; omega

/-- … of the values. -/
theorem ld256 (X : Vec Ideal S1x256x256 .bf16) (n : Fin 4) (o : ℕ) (ho : o = 64 * n.val) (h) (x : Fin 64) (j : Fin 256) :
    View.ld X (Rect.unit ![0, o, 0] ![1, 64, 256] h) (ix3 0 x j) = X (ix3 0 (pos n x) j) := by
  subst ho
  show X _ = X _
  refine congrArg X ?_
  funext a
  apply Fin.ext
  match a with
  | ⟨0, _⟩ => rfl
  | ⟨1, _⟩ => show 64 * n.val + 1 * x.val = 64 * n.val + x.val; omega
  | ⟨2, _⟩ => show 0 + 1 * j.val = j.val; omega

section Chunk
variable (K A : Vec Ideal S1x256x128 .bf16) (W : Vec Ideal S1x256x256 .bf16) (w : Vec Ideal S1x128x128 .bf16)
    (b : Vec Ideal S1x1x128 .f32) (T : Vec Ideal S904x64 .bf16) (S : Vec Ideal S256x128 .f32)
    (γ : Fin 256 → Fin 128 → ℝ) (hγ : ∀ l j, γ l j ≤ 0)
    (hg : ∀ (l : Fin 256) (j : Fin 128), gate (pre (fun r => A (ix3 0 l r)) (fun r => w (ix3 0 r j)) (b (ix3 0 0 j))) = ((γ l j : ℝ) : EReal))
    (h1 : ∀ x : Fin 64, (T (ix2 896 x) : EReal) = 1)
include hγ hg h1

/-- A chunk of the forward direction. -/
theorem chunk_fwd (h2 : ∀ i x : Fin 64, (T (ix2 ⟨64 + i.val, by omega⟩ x) : EReal) = if i < x then 1 else 0)
    (n : Fin 4) (o : ℕ) (ho : o = 64 * n.val) (hk) (hv) (i : Fin 256) (j : Fin 128) :
    (step (View.ld K (Rect.unit ![0, o, 0] ![1, 64, 128] hk)) (View.ld W (Rect.unit ![0, o, 0] ![1, 64, 256] hv))
      (View.ld A (Rect.unit ![0, o, 0] ![1, 64, 128] hk)) w b T S (ix2 i j) : EReal)
    = next (fun x => γ (pos n x) j) (fun x => K (ix3 0 (pos n x) j)) (fun x => W (ix3 0 (pos n x) i)) (S (ix2 i j)) := by
  rw [step_apply]
  unfold next
  have e : (fun x : Fin 64 => (k0_pay6 (View.ld A (Rect.unit ![0, o, 0] ![1, 64, 128] hk)) w b (ix2 x j) : EReal))
      = fun x => ((γ (pos n x) j : ℝ) : EReal) := by
    funext x
    rw [pay6_apply, ← hg]
    simp only [ld128 A n o ho hk]
  have t1 : (fun x : Fin 64 => (T (ix2 896 x) : EReal)) = fun x => if (fun _ : Fin 64 => True) x then 1 else 0 := by
    funext x; rw [h1]; simp
  have t2 : ∀ x : Fin 64, (fun y : Fin 64 => (T (ix2 ⟨64 + x.val, by omega⟩ y) : EReal)) = fun y => if (fun y => x < y) y then 1 else 0 := fun x => by
    funext y; rw [h2]
  refine congrArg₂ (fun a b : EReal => a + b) (congrArg (fun a : EReal => S (ix2 i j) * a) ?_) (Finset.sum_congr rfl fun x _ => ?_)
  · rw [e, t1]
    exact exp_dec (fun _ => True) _ fun x => hγ _ _
  · rw [ld256 W n o ho, ld128 K n o ho, e, t2 x, exp_dec (fun y => x < y) _ fun x => hγ _ _]

/-- A chunk of the backward direction. -/
theorem chunk_bwd (h2 : ∀ i x : Fin 64, (T (ix2 ⟨64 + i.val, by omega⟩ x) : EReal) = if x < i then 1 else 0)
    (n n' : Fin 4) (hn : n'.val = 3 - n.val) (o : ℕ) (ho : o = 64 * n.val) (hk) (hv) (i : Fin 256) (j : Fin 128) :
    (step (View.ld K (Rect.unit ![0, o, 0] ![1, 64, 128] hk)) (View.ld W (Rect.unit ![0, o, 0] ![1, 64, 256] hv))
      (View.ld A (Rect.unit ![0, o, 0] ![1, 64, 128] hk)) w b T S (ix2 i j) : EReal)
    = next (fun x => γ (pos n' x).rev j) (fun x => K (ix3 0 (pos n' x).rev j)) (fun x => W (ix3 0 (pos n' x).rev i)) (S (ix2 i j)) := by
  have r : ∀ x : Fin 64, (pos n' x).rev = pos n x.rev := fun x => by
    apply Fin.ext
    rw [Fin.val_rev]
    show 256 - (64 * n'.val + x.val + 1) = 64 * n.val + x.rev.val
    rw [Fin.val_rev]
    omega
  simp only [r]
  rw [← next_rev (fun x => γ (pos n x) j) (fun x => K (ix3 0 (pos n x) j)) (fun x => W (ix3 0 (pos n x) i)), step_apply]
  have e : (fun x : Fin 64 => (k0_pay6 (View.ld A (Rect.unit ![0, o, 0] ![1, 64, 128] hk)) w b (ix2 x j) : EReal))
      = fun x => ((γ (pos n x) j : ℝ) : EReal) := by
    funext x
    rw [pay6_apply, ← hg]
    simp only [ld128 A n o ho hk]
  have t1 : (fun x : Fin 64 => (T (ix2 896 x) : EReal)) = fun x => if (fun _ : Fin 64 => True) x then 1 else 0 := by
    funext x; rw [h1]; simp
  have t2 : ∀ x : Fin 64, (fun y : Fin 64 => (T (ix2 ⟨64 + x.val, by omega⟩ y) : EReal)) = fun y => if (fun y => y < x) y then 1 else 0 := fun x => by
    funext y; rw [h2]
  refine congrArg₂ (fun a b : EReal => a + b) (congrArg (fun a : EReal => S (ix2 i j) * a) ?_) (Finset.sum_congr rfl fun x _ => ?_)
  · rw [e, t1]
    exact exp_dec (fun _ => True) _ fun x => hγ _ _
  · rw [ld256 W n o ho, ld128 K n o ho, e, t2 x, exp_dec (fun y => y < x) _ fun x => hγ _ _]

/-- The four chunks of the forward direction, from a state of zero. -/
theorem chain_fwd (h2 : ∀ i x : Fin 64, (T (ix2 ⟨64 + i.val, by omega⟩ x) : EReal) = if i < x then 1 else 0)
    (i : Fin 256) (j : Fin 128) (h0 : (S (ix2 i j) : EReal) = 0) (k0) (v0) (k64) (v64) (k128) (v128) (k192) (v192) :
    ((step (View.ld K (Rect.unit ![0, 192, 0] ![1, 64, 128] k192)) (View.ld W (Rect.unit ![0, 192, 0] ![1, 64, 256] v192))
      (View.ld A (Rect.unit ![0, 192, 0] ![1, 64, 128] k192)) w b T (step (View.ld K (Rect.unit ![0, 128, 0] ![1, 64, 128] k128)) (View.ld W (Rect.unit ![0, 128, 0] ![1, 64, 256] v128))
      (View.ld A (Rect.unit ![0, 128, 0] ![1, 64, 128] k128)) w b T (step (View.ld K (Rect.unit ![0, 64, 0] ![1, 64, 128] k64)) (View.ld W (Rect.unit ![0, 64, 0] ![1, 64, 256] v64))
      (View.ld A (Rect.unit ![0, 64, 0] ![1, 64, 128] k64)) w b T (step (View.ld K (Rect.unit ![0, 0, 0] ![1, 64, 128] k0)) (View.ld W (Rect.unit ![0, 0, 0] ![1, 64, 256] v0))
      (View.ld A (Rect.unit ![0, 0, 0] ![1, 64, 128] k0)) w b T S)))) (ix2 i j) : EReal)
    = final (fun l => γ l j) (fun l => K (ix3 0 l j)) (fun l => W (ix3 0 l i)) := by
  rw [chunk_fwd K A W w b T _ γ hγ hg h1 h2 3 192 rfl, chunk_fwd K A W w b T _ γ hγ hg h1 h2 2 128 rfl,
    chunk_fwd K A W w b T _ γ hγ hg h1 h2 1 64 rfl, chunk_fwd K A W w b T _ γ hγ hg h1 h2 0 0 rfl, h0]
  rfl

/-- The four chunks of the backward direction. -/
theorem chain_bwd (h2 : ∀ i x : Fin 64, (T (ix2 ⟨64 + i.val, by omega⟩ x) : EReal) = if x < i then 1 else 0)
    (i : Fin 256) (j : Fin 128) (h0 : (S (ix2 i j) : EReal) = 0) (k0) (v0) (k64) (v64) (k128) (v128) (k192) (v192) :
    ((step (View.ld K (Rect.unit ![0, 0, 0] ![1, 64, 128] k0)) (View.ld W (Rect.unit ![0, 0, 0] ![1, 64, 256] v0))
      (View.ld A (Rect.unit ![0, 0, 0] ![1, 64, 128] k0)) w b T (step (View.ld K (Rect.unit ![0, 64, 0] ![1, 64, 128] k64)) (View.ld W (Rect.unit ![0, 64, 0] ![1, 64, 256] v64))
      (View.ld A (Rect.unit ![0, 64, 0] ![1, 64, 128] k64)) w b T (step (View.ld K (Rect.unit ![0, 128, 0] ![1, 64, 128] k128)) (View.ld W (Rect.unit ![0, 128, 0] ![1, 64, 256] v128))
      (View.ld A (Rect.unit ![0, 128, 0] ![1, 64, 128] k128)) w b T (step (View.ld K (Rect.unit ![0, 192, 0] ![1, 64, 128] k192)) (View.ld W (Rect.unit ![0, 192, 0] ![1, 64, 256] v192))
      (View.ld A (Rect.unit ![0, 192, 0] ![1, 64, 128] k192)) w b T S)))) (ix2 i j) : EReal)
    = final (fun l => γ l.rev j) (fun l => K (ix3 0 l.rev j)) (fun l => W (ix3 0 l.rev i)) := by
  rw [chunk_bwd K A W w b T _ γ hγ hg h1 h2 0 3 rfl 0 rfl, chunk_bwd K A W w b T _ γ hγ hg h1 h2 1 2 rfl 64 rfl,
    chunk_bwd K A W w b T _ γ hγ hg h1 h2 2 1 rfl 128 rfl, chunk_bwd K A W w b T _ γ hγ hg h1 h2 3 0 rfl 192 rfl, h0]
  rfl

end Chunk

end Cert.GlcIdeal.Out

end
-- ==== Proof.GlcRefValue.lean ====
/-
  The reference of the context's recurrence, read at an index over the extended reals.
-/
module

public import proofs.«01_k».proof.Proof.Gen.GlcRefIdeal.Read
public import proofs.«01_k».proof.Proof.GlcSum
public import Idealize.ShloMosaic.Lib.Pointwise

@[expose] public section

set_option maxRecDepth 16384

noncomputable section

namespace Cert.GlcRefIdeal.At

open Cert.GlcRefIdeal Cert.GlcRefIdeal.Gen Cert.GlcRefIdeal.Read Idealize.ShloMosaic Idealize.ShloMosaic.TcCoe Idealize.SL.Sem
open Cert.GlcSum

variable (x0 : (⟨S16x256x1664, .bf16⟩ : BufTy).Contents (Elt Ideal)) (x1 : (⟨S1x2x16x512, .f32⟩ : BufTy).Contents (Elt Ideal))
  (x2 : (⟨S1x2x512, .f32⟩ : BufTy).Contents (Elt Ideal))

/-- The logit of a gate. -/
def logit (e : Fin 2) (b : Fin 16) (l : Fin 256) (j : Fin 512) : EReal :=
  (∑ r : Fin 16, x0 (ix3 b l ⟨1536 + (e.val * 16 + r.val), by omega⟩) * x1 (ix4 0 e r j)) + x2 (ix3 0 e j)

/-- Column `k` of head `d`. -/
def hcol (d : Fin 4) (k : Fin 128) : Fin 512 := ⟨d.val * 128 + k.val, by omega⟩

/-- The keys' column. -/
def kcol (d : Fin 4) (k : Fin 128) : Fin 1664 := ⟨d.val * 128 + k.val, by omega⟩

/-- The values' column. -/
def vcol (d : Fin 4) (i : Fin 256) : Fin 1664 := ⟨512 + (d.val * 256 + i.val), by omega⟩

theorem v10_apply (e : Fin 2) (b : Fin 16) (l : Fin 256) (j : Fin 512) :
    val_main_v10 (F := Ideal) x0 x1 x2 (ix4 e b l j) = logit x0 x1 x2 e b l j := by
  unfold logit
  pointwise [val_main_v10, val_main_v9, val_main_v8, val_main_v7, val_main_v6, val_main_v5, val_main_v4, val_main_v3, val_main_v0]

/-- The number sixteen. -/
theorem sixteen : Ideal.ofBits .f32 0x41800000#32 = ((16 : ℝ) : EReal) := by
  simp [Ideal.ofBits, Ideal.ieee, -EReal.coe_mul]
  norm_num

theorem v13_apply (e : Fin 2) (b : Fin 16) (l : Fin 256) (j : Fin 512) :
    val_main_v13 (F := Ideal) x0 x1 x2 (ix4 e b l j) = gateRef (logit x0 x1 x2 e b l j) := by
  rw [← v10_apply]
  unfold gateRef
  unfold val_main_v13 val_main_v11 val_main_call0_v1 val_main_call0_call0_v11 val_main_call0_call0_v10 val_main_call0_call0_v9
    val_main_call0_call0_v8 val_main_call0_call0_v7 val_main_call0_call0_v6 val_main_call0_call0_v4 val_main_call0_call0_v3
    val_main_call0_call0_v1 val_main_call0_v0
  generalize val_main_v10 (F := Ideal) x0 x1 x2 = A
  pointwise [val_main_call0_call0_v0, val_main_call0_call0_v2, val_main_call0_call0_v5, val_main_call0_call0_cst, val_main_v12, val_main_cst]
  rw [if_neg (fun h => h rfl), sixteen]
  rfl

theorem v15_apply (b : Fin 16) (d : Fin 4) (l : Fin 256) (k : Fin 128) :
    val_main_v15 (F := Ideal) x0 (ix4 b d l k) = x0 (ix3 b l (kcol d k)) := by
  unfold kcol
  pointwise [val_main_v15, val_main_v14, val_main_v1, val_main_v0]

theorem v17_apply (b : Fin 16) (d : Fin 4) (l : Fin 256) (i : Fin 256) :
    val_main_v17 (F := Ideal) x0 (ix4 b d l i) = x0 (ix3 b l (vcol d i)) := by
  unfold vcol
  pointwise [val_main_v17, val_main_v16, val_main_v2, val_main_v0]

theorem v21_apply (b : Fin 16) (d : Fin 4) (l : Fin 256) (k : Fin 128) :
    val_main_v21 (F := Ideal) x0 x1 x2 (ix4 b d l k) = gateRef (logit x0 x1 x2 0 b l (hcol d k)) := by
  rw [← v13_apply]
  unfold hcol
  unfold val_main_v21 val_main_v20 val_main_v19 val_main_v18
  generalize val_main_v13 (F := Ideal) x0 x1 x2 = A
  pointwise []

theorem v25_apply (b : Fin 16) (d : Fin 4) (l : Fin 256) (k : Fin 128) :
    val_main_v25 (F := Ideal) x0 x1 x2 (ix4 b d l k) = gateRef (logit x0 x1 x2 1 b l (hcol d k)) := by
  rw [← v13_apply]
  unfold hcol
  unfold val_main_v25 val_main_v24 val_main_v23 val_main_v22
  generalize val_main_v13 (F := Ideal) x0 x1 x2 = A
  pointwise []

/-- One chunk, from its keys, its values and the running sums of its gates. -/
def chunkOf (K : FVec Ideal S16x4x64x128 .f32) (V : FVec Ideal S16x4x64x256 .f32) (B : FVec Ideal S16x4x64x128 .f32)
    (s : FVec Ideal S16x4x128x256 .f32) : FVec Ideal S16x4x128x256 .f32 :=
  have L : FVec Ideal S16x4x1x128 .f32 := extractStridedSlice S16x4x1x128 ![0, 0, 63, 0] B slices_S16x4x64x128_S16x4x1x128_0_0_63_0
  have E : FVec Ideal S16x4x128 .f32 := Host.exp (shapeCast S16x4x128 L shapeCasts_S16x4x1x128_S16x4x128)
  have E1 : FVec Ideal S16x4x128x1 .f32 := broadcastInDim S16x4x128x1 ![0, 1, 2] bcast_S16x4x128_S16x4x128x1_0_1_2 E
  have E2 : FVec Ideal S16x4x128x256 .f32 := broadcastInDim S16x4x128x256 ![0, 1, 2, 3] bcast_S16x4x128x1_S16x4x128x256_0_1_2_3 E1
  have D : FVec Ideal S16x4x64x128 .f32 :=
    subf (broadcastInDim S16x4x64x128 ![0, 1, 2, 3] bcast_S16x4x1x128_S16x4x64x128_0_1_2_3 L : FVec Ideal S16x4x64x128 .f32) B
  have M : FVec Ideal S16x4x64x128 .f32 := mulf K (Host.exp D)
  addf (mulf s E2) (Host.dotGeneral dot_S16x4x64x128_S16x4x64x256_S16x4x128x256_2_2_3_3_01_01 none M V)

theorem chunkOf_apply (K : FVec Ideal S16x4x64x128 .f32) (V : FVec Ideal S16x4x64x256 .f32) (B : FVec Ideal S16x4x64x128 .f32)
    (s : FVec Ideal S16x4x128x256 .f32) (b : Fin 16) (d : Fin 4) (k : Fin 128) (i : Fin 256) :
    (chunkOf K V B s (ix4 b d k i) : EReal)
      = s (ix4 b d k i) * Ideal.exp (B (ix4 b d 63 k))
        + ∑ x : Fin 64, (K (ix4 b d x k) * Ideal.exp (B (ix4 b d 63 k) - B (ix4 b d x k))) * V (ix4 b d x i) := by
  pointwise [chunkOf]

/-- One chunk, from its keys, its values and its gates. -/
def chunk (K : FVec Ideal S16x4x64x128 .f32) (V : FVec Ideal S16x4x64x256 .f32) (G : FVec Ideal S16x4x64x128 .f32)
    (z : FVec Ideal S_ .f32) (s : FVec Ideal S16x4x128x256 .f32) : FVec Ideal S16x4x128x256 .f32 :=
  have B := Host.reduceWindowAdd ![1, 1, 64, 1] ![1, 1, 1, 1] ![0, 0, 63, 0] ![0, 0, 0, 0] G z
    reduceWindows_S16x4x64x128_S16x4x64x128_w1s1p0_0_w1s1p0_0_w64s1p63_0_w1s1p0_0 h_S_
  chunkOf K V B s

/-- One chunk at one entry of the state, when its gates are real numbers. -/
theorem chunk_apply (K : FVec Ideal S16x4x64x128 .f32) (V : FVec Ideal S16x4x64x256 .f32) (G : FVec Ideal S16x4x64x128 .f32)
    (z : FVec Ideal S_ .f32) (hz : ∀ i, z i = (0 : EReal)) (s : FVec Ideal S16x4x128x256 .f32)
    (b : Fin 16) (d : Fin 4) (k : Fin 128) (i : Fin 256) (γ : Fin 64 → ℝ) (hγ : ∀ x, (G (ix4 b d x k) : EReal) = ((γ x : ℝ) : EReal)) :
    (chunk K V G z s (ix4 b d k i) : EReal)
      = next γ (fun x => K (ix4 b d x k)) (fun x => V (ix4 b d x i)) (s (ix4 b d k i)) := by
  have hB : ∀ x : Fin 64, (Host.reduceWindowAdd ![1, 1, 64, 1] ![1, 1, 1, 1] ![0, 0, 63, 0] ![0, 0, 0, 0] G z
      reduceWindows_S16x4x64x128_S16x4x64x128_w1s1p0_0_w1s1p0_0_w64s1p63_0_w1s1p0_0 h_S_ (ix4 b d x k) : EReal)
      = ∑ y : Fin 64, if y ≤ x then ((γ y : ℝ) : EReal) else 0 := fun x => by
    rw [cumsum G z _ _ hz b d x k]
    exact Finset.sum_congr rfl fun y _ => by rw [hγ y]
  refine (chunkOf_apply _ _ _ _ b d k i).trans ?_
  rw [← next_ref, hB 63]
  refine congrArg (_ + ·) (Finset.sum_congr rfl fun x _ => ?_)
  rw [hB x]

section Same
theorem same27 : val_main_v42 (F := Ideal) x0 x1 x2
    = chunk (val_main_v27 (F := Ideal) x0) (val_main_v28 (F := Ideal) x0) (val_main_v29 (F := Ideal) x0 x1 x2)
        (val_main_call1_call0_v0 (F := Ideal)) (val_main_v26 (F := Ideal)) := rfl
theorem z27 (i : S_.Idx) : (val_main_call1_call0_v0 (F := Ideal) i : EReal) = 0 := by
  pointwise [val_main_call1_call0_v0, val_main_call1_call0_cst]
theorem same43 : val_main_v58 (F := Ideal) x0 x1 x2
    = chunk (val_main_v43 (F := Ideal) x0) (val_main_v44 (F := Ideal) x0) (val_main_v45 (F := Ideal) x0 x1 x2)
        (val_main_call2_call0_v0 (F := Ideal)) (val_main_v42 (F := Ideal) x0 x1 x2) := rfl
theorem z43 (i : S_.Idx) : (val_main_call2_call0_v0 (F := Ideal) i : EReal) = 0 := by
  pointwise [val_main_call2_call0_v0, val_main_call2_call0_cst]
theorem same59 : val_main_v74 (F := Ideal) x0 x1 x2
    = chunk (val_main_v59 (F := Ideal) x0) (val_main_v60 (F := Ideal) x0) (val_main_v61 (F := Ideal) x0 x1 x2)
        (val_main_call3_call0_v0 (F := Ideal)) (val_main_v58 (F := Ideal) x0 x1 x2) := rfl
theorem z59 (i : S_.Idx) : (val_main_call3_call0_v0 (F := Ideal) i : EReal) = 0 := by
  pointwise [val_main_call3_call0_v0, val_main_call3_call0_cst]
theorem same75 : val_main_v90 (F := Ideal) x0 x1 x2
    = chunk (val_main_v75 (F := Ideal) x0) (val_main_v76 (F := Ideal) x0) (val_main_v77 (F := Ideal) x0 x1 x2)
        (val_main_call4_call0_v0 (F := Ideal)) (val_main_v74 (F := Ideal) x0 x1 x2) := rfl
theorem z75 (i : S_.Idx) : (val_main_call4_call0_v0 (F := Ideal) i : EReal) = 0 := by
  pointwise [val_main_call4_call0_v0, val_main_call4_call0_cst]
theorem same95 : val_main_v110 (F := Ideal) x0 x1 x2
    = chunk (val_main_v95 (F := Ideal) x0) (val_main_v96 (F := Ideal) x0) (val_main_v97 (F := Ideal) x0 x1 x2)
        (val_main_call8_call0_v0 (F := Ideal)) (val_main_v94 (F := Ideal)) := rfl
theorem z95 (i : S_.Idx) : (val_main_call8_call0_v0 (F := Ideal) i : EReal) = 0 := by
  pointwise [val_main_call8_call0_v0, val_main_call8_call0_cst]
theorem same111 : val_main_v126 (F := Ideal) x0 x1 x2
    = chunk (val_main_v111 (F := Ideal) x0) (val_main_v112 (F := Ideal) x0) (val_main_v113 (F := Ideal) x0 x1 x2)
        (val_main_call9_call0_v0 (F := Ideal)) (val_main_v110 (F := Ideal) x0 x1 x2) := rfl
theorem z111 (i : S_.Idx) : (val_main_call9_call0_v0 (F := Ideal) i : EReal) = 0 := by
  pointwise [val_main_call9_call0_v0, val_main_call9_call0_cst]
theorem same127 : val_main_v142 (F := Ideal) x0 x1 x2
    = chunk (val_main_v127 (F := Ideal) x0) (val_main_v128 (F := Ideal) x0) (val_main_v129 (F := Ideal) x0 x1 x2)
        (val_main_call10_call0_v0 (F := Ideal)) (val_main_v126 (F := Ideal) x0 x1 x2) := rfl
theorem z127 (i : S_.Idx) : (val_main_call10_call0_v0 (F := Ideal) i : EReal) = 0 := by
  pointwise [val_main_call10_call0_v0, val_main_call10_call0_cst]
theorem same143 : val_main_v158 (F := Ideal) x0 x1 x2
    = chunk (val_main_v143 (F := Ideal) x0) (val_main_v144 (F := Ideal) x0) (val_main_v145 (F := Ideal) x0 x1 x2)
        (val_main_call11_call0_v0 (F := Ideal)) (val_main_v142 (F := Ideal) x0 x1 x2) := rfl
theorem z143 (i : S_.Idx) : (val_main_call11_call0_v0 (F := Ideal) i : EReal) = 0 := by
  pointwise [val_main_call11_call0_v0, val_main_call11_call0_cst]
end Same

theorem k27 (b : Fin 16) (d : Fin 4) (x : Fin 64) (k : Fin 128) :
    (val_main_v27 (F := Ideal) x0 (ix4 b d x k) : EReal) = val_main_v15 (F := Ideal) x0 (ix4 b d (pos 0 x) k) := by
  unfold val_main_v27
  generalize val_main_v15 (F := Ideal) x0 = A
  pointwise [pos]
theorem w27 (b : Fin 16) (d : Fin 4) (x : Fin 64) (i : Fin 256) :
    (val_main_v28 (F := Ideal) x0 (ix4 b d x i) : EReal) = val_main_v17 (F := Ideal) x0 (ix4 b d (pos 0 x) i) := by
  unfold val_main_v28
  generalize val_main_v17 (F := Ideal) x0 = A
  pointwise [pos]
theorem h27 (b : Fin 16) (d : Fin 4) (x : Fin 64) (k : Fin 128) :
    (val_main_v29 (F := Ideal) x0 x1 x2 (ix4 b d x k) : EReal)
      = val_main_v21 (F := Ideal) x0 x1 x2 (ix4 b d (pos 0 x) k) := by
  unfold val_main_v29
  generalize val_main_v21 (F := Ideal) x0 x1 x2 = A
  pointwise [pos]
theorem k43 (b : Fin 16) (d : Fin 4) (x : Fin 64) (k : Fin 128) :
    (val_main_v43 (F := Ideal) x0 (ix4 b d x k) : EReal) = val_main_v15 (F := Ideal) x0 (ix4 b d (pos 1 x) k) := by
  unfold val_main_v43
  generalize val_main_v15 (F := Ideal) x0 = A
  pointwise [pos]
theorem w43 (b : Fin 16) (d : Fin 4) (x : Fin 64) (i : Fin 256) :
    (val_main_v44 (F := Ideal) x0 (ix4 b d x i) : EReal) = val_main_v17 (F := Ideal) x0 (ix4 b d (pos 1 x) i) := by
  unfold val_main_v44
  generalize val_main_v17 (F := Ideal) x0 = A
  pointwise [pos]
theorem h43 (b : Fin 16) (d : Fin 4) (x : Fin 64) (k : Fin 128) :
    (val_main_v45 (F := Ideal) x0 x1 x2 (ix4 b d x k) : EReal)
      = val_main_v21 (F := Ideal) x0 x1 x2 (ix4 b d (pos 1 x) k) := by
  unfold val_main_v45
  generalize val_main_v21 (F := Ideal) x0 x1 x2 = A
  pointwise [pos]
theorem k59 (b : Fin 16) (d : Fin 4) (x : Fin 64) (k : Fin 128) :
    (val_main_v59 (F := Ideal) x0 (ix4 b d x k) : EReal) = val_main_v15 (F := Ideal) x0 (ix4 b d (pos 2 x) k) := by
  unfold val_main_v59
  generalize val_main_v15 (F := Ideal) x0 = A
  pointwise [pos]
theorem w59 (b : Fin 16) (d : Fin 4) (x : Fin 64) (i : Fin 256) :
    (val_main_v60 (F := Ideal) x0 (ix4 b d x i) : EReal) = val_main_v17 (F := Ideal) x0 (ix4 b d (pos 2 x) i) := by
  unfold val_main_v60
  generalize val_main_v17 (F := Ideal) x0 = A
  pointwise [pos]
theorem h59 (b : Fin 16) (d : Fin 4) (x : Fin 64) (k : Fin 128) :
    (val_main_v61 (F := Ideal) x0 x1 x2 (ix4 b d x k) : EReal)
      = val_main_v21 (F := Ideal) x0 x1 x2 (ix4 b d (pos 2 x) k) := by
  unfold val_main_v61
  generalize val_main_v21 (F := Ideal) x0 x1 x2 = A
  pointwise [pos]
theorem k75 (b : Fin 16) (d : Fin 4) (x : Fin 64) (k : Fin 128) :
    (val_main_v75 (F := Ideal) x0 (ix4 b d x k) : EReal) = val_main_v15 (F := Ideal) x0 (ix4 b d (pos 3 x) k) := by
  unfold val_main_v75
  generalize val_main_v15 (F := Ideal) x0 = A
  pointwise [pos]
theorem w75 (b : Fin 16) (d : Fin 4) (x : Fin 64) (i : Fin 256) :
    (val_main_v76 (F := Ideal) x0 (ix4 b d x i) : EReal) = val_main_v17 (F := Ideal) x0 (ix4 b d (pos 3 x) i) := by
  unfold val_main_v76
  generalize val_main_v17 (F := Ideal) x0 = A
  pointwise [pos]
theorem h75 (b : Fin 16) (d : Fin 4) (x : Fin 64) (k : Fin 128) :
    (val_main_v77 (F := Ideal) x0 x1 x2 (ix4 b d x k) : EReal)
      = val_main_v21 (F := Ideal) x0 x1 x2 (ix4 b d (pos 3 x) k) := by
  unfold val_main_v77
  generalize val_main_v21 (F := Ideal) x0 x1 x2 = A
  pointwise [pos]
theorem k95 (b : Fin 16) (d : Fin 4) (x : Fin 64) (k : Fin 128) :
    (val_main_v95 (F := Ideal) x0 (ix4 b d x k) : EReal) = val_main_v15 (F := Ideal) x0 (ix4 b d ((pos 0 x).rev) k) := by
  unfold val_main_v95 val_main_v91
  generalize val_main_v15 (F := Ideal) x0 = A
  pointwise [pos]
  rfl
theorem w95 (b : Fin 16) (d : Fin 4) (x : Fin 64) (i : Fin 256) :
    (val_main_v96 (F := Ideal) x0 (ix4 b d x i) : EReal) = val_main_v17 (F := Ideal) x0 (ix4 b d ((pos 0 x).rev) i) := by
  unfold val_main_v96 val_main_v92
  generalize val_main_v17 (F := Ideal) x0 = A
  pointwise [pos]
  rfl
theorem h95 (b : Fin 16) (d : Fin 4) (x : Fin 64) (k : Fin 128) :
    (val_main_v97 (F := Ideal) x0 x1 x2 (ix4 b d x k) : EReal)
      = val_main_v25 (F := Ideal) x0 x1 x2 (ix4 b d ((pos 0 x).rev) k) := by
  unfold val_main_v97 val_main_v93
  generalize val_main_v25 (F := Ideal) x0 x1 x2 = A
  pointwise [pos]
  rfl
theorem k111 (b : Fin 16) (d : Fin 4) (x : Fin 64) (k : Fin 128) :
    (val_main_v111 (F := Ideal) x0 (ix4 b d x k) : EReal) = val_main_v15 (F := Ideal) x0 (ix4 b d ((pos 1 x).rev) k) := by
  unfold val_main_v111 val_main_v91
  generalize val_main_v15 (F := Ideal) x0 = A
  pointwise [pos]
  rfl
theorem w111 (b : Fin 16) (d : Fin 4) (x : Fin 64) (i : Fin 256) :
    (val_main_v112 (F := Ideal) x0 (ix4 b d x i) : EReal) = val_main_v17 (F := Ideal) x0 (ix4 b d ((pos 1 x).rev) i) := by
  unfold val_main_v112 val_main_v92
  generalize val_main_v17 (F := Ideal) x0 = A
  pointwise [pos]
  rfl
theorem h111 (b : Fin 16) (d : Fin 4) (x : Fin 64) (k : Fin 128) :
    (val_main_v113 (F := Ideal) x0 x1 x2 (ix4 b d x k) : EReal)
      = val_main_v25 (F := Ideal) x0 x1 x2 (ix4 b d ((pos 1 x).rev) k) := by
  unfold val_main_v113 val_main_v93
  generalize val_main_v25 (F := Ideal) x0 x1 x2 = A
  pointwise [pos]
  rfl
theorem k127 (b : Fin 16) (d : Fin 4) (x : Fin 64) (k : Fin 128) :
    (val_main_v127 (F := Ideal) x0 (ix4 b d x k) : EReal) = val_main_v15 (F := Ideal) x0 (ix4 b d ((pos 2 x).rev) k) := by
  unfold val_main_v127 val_main_v91
  generalize val_main_v15 (F := Ideal) x0 = A
  pointwise [pos]
  rfl
theorem w127 (b : Fin 16) (d : Fin 4) (x : Fin 64) (i : Fin 256) :
    (val_main_v128 (F := Ideal) x0 (ix4 b d x i) : EReal) = val_main_v17 (F := Ideal) x0 (ix4 b d ((pos 2 x).rev) i) := by
  unfold val_main_v128 val_main_v92
  generalize val_main_v17 (F := Ideal) x0 = A
  pointwise [pos]
  rfl
theorem h127 (b : Fin 16) (d : Fin 4) (x : Fin 64) (k : Fin 128) :
    (val_main_v129 (F := Ideal) x0 x1 x2 (ix4 b d x k) : EReal)
      = val_main_v25 (F := Ideal) x0 x1 x2 (ix4 b d ((pos 2 x).rev) k) := by
  unfold val_main_v129 val_main_v93
  generalize val_main_v25 (F := Ideal) x0 x1 x2 = A
  pointwise [pos]
  rfl
theorem k143 (b : Fin 16) (d : Fin 4) (x : Fin 64) (k : Fin 128) :
    (val_main_v143 (F := Ideal) x0 (ix4 b d x k) : EReal) = val_main_v15 (F := Ideal) x0 (ix4 b d ((pos 3 x).rev) k) := by
  unfold val_main_v143 val_main_v91
  generalize val_main_v15 (F := Ideal) x0 = A
  pointwise [pos]
  rfl
theorem w143 (b : Fin 16) (d : Fin 4) (x : Fin 64) (i : Fin 256) :
    (val_main_v144 (F := Ideal) x0 (ix4 b d x i) : EReal) = val_main_v17 (F := Ideal) x0 (ix4 b d ((pos 3 x).rev) i) := by
  unfold val_main_v144 val_main_v92
  generalize val_main_v17 (F := Ideal) x0 = A
  pointwise [pos]
  rfl
theorem h143 (b : Fin 16) (d : Fin 4) (x : Fin 64) (k : Fin 128) :
    (val_main_v145 (F := Ideal) x0 x1 x2 (ix4 b d x k) : EReal)
      = val_main_v25 (F := Ideal) x0 x1 x2 (ix4 b d ((pos 3 x).rev) k) := by
  unfold val_main_v145 val_main_v93
  generalize val_main_v25 (F := Ideal) x0 x1 x2 = A
  pointwise [pos]
  rfl

variable (hx : ∀ e b l j, logit x0 x1 x2 e b l j ≠ ⊥)
include hx

/-- The forward gates, as real numbers. -/
theorem g0 (b : Fin 16) (d : Fin 4) (l : Fin 256) (k : Fin 128) :
    (val_main_v21 (F := Ideal) x0 x1 x2 (ix4 b d l k) : EReal) = ((gam (logit x0 x1 x2 0 b l (hcol d k)) : ℝ) : EReal) :=
  (v21_apply x0 x1 x2 b d l k).trans (gateRef_eq _ (hx _ _ _ _))

/-- The backward gates, as real numbers. -/
theorem g1 (b : Fin 16) (d : Fin 4) (l : Fin 256) (k : Fin 128) :
    (val_main_v25 (F := Ideal) x0 x1 x2 (ix4 b d l k) : EReal) = ((gam (logit x0 x1 x2 1 b l (hcol d k)) : ℝ) : EReal) :=
  (v25_apply x0 x1 x2 b d l k).trans (gateRef_eq _ (hx _ _ _ _))

theorem s27 (b : Fin 16) (d : Fin 4) (k : Fin 128) (i : Fin 256) :
    (val_main_v42 (F := Ideal) x0 x1 x2 (ix4 b d k i) : EReal)
      = next (fun x => gam (logit x0 x1 x2 0 b (pos 0 x) (hcol d k))) (fun x => x0 (ix3 b (pos 0 x) (kcol d k)))
          (fun x => x0 (ix3 b (pos 0 x) (vcol d i))) (val_main_v26 (F := Ideal) (ix4 b d k i)) := by
  rw [same27]
  refine (chunk_apply _ _ _ _ z27 _ b d k i _ fun x => (h27 x0 x1 x2 b d x k).trans (g0 x0 x1 x2 hx b d _ k)).trans ?_
  have e1 : (fun x => (val_main_v27 (F := Ideal) x0 (ix4 b d x k) : EReal)) = fun x => x0 (ix3 b (pos 0 x) (kcol d k)) :=
    funext fun x => (k27 x0 b d x k).trans (v15_apply x0 b d _ k)
  have e2 : (fun x => (val_main_v28 (F := Ideal) x0 (ix4 b d x i) : EReal)) = fun x => x0 (ix3 b (pos 0 x) (vcol d i)) :=
    funext fun x => (w27 x0 b d x i).trans (v17_apply x0 b d _ i)
  rw [e1, e2]
theorem s43 (b : Fin 16) (d : Fin 4) (k : Fin 128) (i : Fin 256) :
    (val_main_v58 (F := Ideal) x0 x1 x2 (ix4 b d k i) : EReal)
      = next (fun x => gam (logit x0 x1 x2 0 b (pos 1 x) (hcol d k))) (fun x => x0 (ix3 b (pos 1 x) (kcol d k)))
          (fun x => x0 (ix3 b (pos 1 x) (vcol d i))) (val_main_v42 (F := Ideal) x0 x1 x2 (ix4 b d k i)) := by
  rw [same43]
  refine (chunk_apply _ _ _ _ z43 _ b d k i _ fun x => (h43 x0 x1 x2 b d x k).trans (g0 x0 x1 x2 hx b d _ k)).trans ?_
  have e1 : (fun x => (val_main_v43 (F := Ideal) x0 (ix4 b d x k) : EReal)) = fun x => x0 (ix3 b (pos 1 x) (kcol d k)) :=
    funext fun x => (k43 x0 b d x k).trans (v15_apply x0 b d _ k)
  have e2 : (fun x => (val_main_v44 (F := Ideal) x0 (ix4 b d x i) : EReal)) = fun x => x0 (ix3 b (pos 1 x) (vcol d i)) :=
    funext fun x => (w43 x0 b d x i).trans (v17_apply x0 b d _ i)
  rw [e1, e2]
theorem s59 (b : Fin 16) (d : Fin 4) (k : Fin 128) (i : Fin 256) :
    (val_main_v74 (F := Ideal) x0 x1 x2 (ix4 b d k i) : EReal)
      = next (fun x => gam (logit x0 x1 x2 0 b (pos 2 x) (hcol d k))) (fun x => x0 (ix3 b (pos 2 x) (kcol d k)))
          (fun x => x0 (ix3 b (pos 2 x) (vcol d i))) (val_main_v58 (F := Ideal) x0 x1 x2 (ix4 b d k i)) := by
  rw [same59]
  refine (chunk_apply _ _ _ _ z59 _ b d k i _ fun x => (h59 x0 x1 x2 b d x k).trans (g0 x0 x1 x2 hx b d _ k)).trans ?_
  have e1 : (fun x => (val_main_v59 (F := Ideal) x0 (ix4 b d x k) : EReal)) = fun x => x0 (ix3 b (pos 2 x) (kcol d k)) :=
    funext fun x => (k59 x0 b d x k).trans (v15_apply x0 b d _ k)
  have e2 : (fun x => (val_main_v60 (F := Ideal) x0 (ix4 b d x i) : EReal)) = fun x => x0 (ix3 b (pos 2 x) (vcol d i)) :=
    funext fun x => (w59 x0 b d x i).trans (v17_apply x0 b d _ i)
  rw [e1, e2]
theorem s75 (b : Fin 16) (d : Fin 4) (k : Fin 128) (i : Fin 256) :
    (val_main_v90 (F := Ideal) x0 x1 x2 (ix4 b d k i) : EReal)
      = next (fun x => gam (logit x0 x1 x2 0 b (pos 3 x) (hcol d k))) (fun x => x0 (ix3 b (pos 3 x) (kcol d k)))
          (fun x => x0 (ix3 b (pos 3 x) (vcol d i))) (val_main_v74 (F := Ideal) x0 x1 x2 (ix4 b d k i)) := by
  rw [same75]
  refine (chunk_apply _ _ _ _ z75 _ b d k i _ fun x => (h75 x0 x1 x2 b d x k).trans (g0 x0 x1 x2 hx b d _ k)).trans ?_
  have e1 : (fun x => (val_main_v75 (F := Ideal) x0 (ix4 b d x k) : EReal)) = fun x => x0 (ix3 b (pos 3 x) (kcol d k)) :=
    funext fun x => (k75 x0 b d x k).trans (v15_apply x0 b d _ k)
  have e2 : (fun x => (val_main_v76 (F := Ideal) x0 (ix4 b d x i) : EReal)) = fun x => x0 (ix3 b (pos 3 x) (vcol d i)) :=
    funext fun x => (w75 x0 b d x i).trans (v17_apply x0 b d _ i)
  rw [e1, e2]
theorem s95 (b : Fin 16) (d : Fin 4) (k : Fin 128) (i : Fin 256) :
    (val_main_v110 (F := Ideal) x0 x1 x2 (ix4 b d k i) : EReal)
      = next (fun x => gam (logit x0 x1 x2 1 b ((pos 0 x).rev) (hcol d k))) (fun x => x0 (ix3 b ((pos 0 x).rev) (kcol d k)))
          (fun x => x0 (ix3 b ((pos 0 x).rev) (vcol d i))) (val_main_v94 (F := Ideal) (ix4 b d k i)) := by
  rw [same95]
  refine (chunk_apply _ _ _ _ z95 _ b d k i _ fun x => (h95 x0 x1 x2 b d x k).trans (g1 x0 x1 x2 hx b d _ k)).trans ?_
  have e1 : (fun x => (val_main_v95 (F := Ideal) x0 (ix4 b d x k) : EReal)) = fun x => x0 (ix3 b ((pos 0 x).rev) (kcol d k)) :=
    funext fun x => (k95 x0 b d x k).trans (v15_apply x0 b d _ k)
  have e2 : (fun x => (val_main_v96 (F := Ideal) x0 (ix4 b d x i) : EReal)) = fun x => x0 (ix3 b ((pos 0 x).rev) (vcol d i)) :=
    funext fun x => (w95 x0 b d x i).trans (v17_apply x0 b d _ i)
  rw [e1, e2]
theorem s111 (b : Fin 16) (d : Fin 4) (k : Fin 128) (i : Fin 256) :
    (val_main_v126 (F := Ideal) x0 x1 x2 (ix4 b d k i) : EReal)
      = next (fun x => gam (logit x0 x1 x2 1 b ((pos 1 x).rev) (hcol d k))) (fun x => x0 (ix3 b ((pos 1 x).rev) (kcol d k)))
          (fun x => x0 (ix3 b ((pos 1 x).rev) (vcol d i))) (val_main_v110 (F := Ideal) x0 x1 x2 (ix4 b d k i)) := by
  rw [same111]
  refine (chunk_apply _ _ _ _ z111 _ b d k i _ fun x => (h111 x0 x1 x2 b d x k).trans (g1 x0 x1 x2 hx b d _ k)).trans ?_
  have e1 : (fun x => (val_main_v111 (F := Ideal) x0 (ix4 b d x k) : EReal)) = fun x => x0 (ix3 b ((pos 1 x).rev) (kcol d k)) :=
    funext fun x => (k111 x0 b d x k).trans (v15_apply x0 b d _ k)
  have e2 : (fun x => (val_main_v112 (F := Ideal) x0 (ix4 b d x i) : EReal)) = fun x => x0 (ix3 b ((pos 1 x).rev) (vcol d i)) :=
    funext fun x => (w111 x0 b d x i).trans (v17_apply x0 b d _ i)
  rw [e1, e2]
theorem s127 (b : Fin 16) (d : Fin 4) (k : Fin 128) (i : Fin 256) :
    (val_main_v142 (F := Ideal) x0 x1 x2 (ix4 b d k i) : EReal)
      = next (fun x => gam (logit x0 x1 x2 1 b ((pos 2 x).rev) (hcol d k))) (fun x => x0 (ix3 b ((pos 2 x).rev) (kcol d k)))
          (fun x => x0 (ix3 b ((pos 2 x).rev) (vcol d i))) (val_main_v126 (F := Ideal) x0 x1 x2 (ix4 b d k i)) := by
  rw [same127]
  refine (chunk_apply _ _ _ _ z127 _ b d k i _ fun x => (h127 x0 x1 x2 b d x k).trans (g1 x0 x1 x2 hx b d _ k)).trans ?_
  have e1 : (fun x => (val_main_v127 (F := Ideal) x0 (ix4 b d x k) : EReal)) = fun x => x0 (ix3 b ((pos 2 x).rev) (kcol d k)) :=
    funext fun x => (k127 x0 b d x k).trans (v15_apply x0 b d _ k)
  have e2 : (fun x => (val_main_v128 (F := Ideal) x0 (ix4 b d x i) : EReal)) = fun x => x0 (ix3 b ((pos 2 x).rev) (vcol d i)) :=
    funext fun x => (w127 x0 b d x i).trans (v17_apply x0 b d _ i)
  rw [e1, e2]
theorem s143 (b : Fin 16) (d : Fin 4) (k : Fin 128) (i : Fin 256) :
    (val_main_v158 (F := Ideal) x0 x1 x2 (ix4 b d k i) : EReal)
      = next (fun x => gam (logit x0 x1 x2 1 b ((pos 3 x).rev) (hcol d k))) (fun x => x0 (ix3 b ((pos 3 x).rev) (kcol d k)))
          (fun x => x0 (ix3 b ((pos 3 x).rev) (vcol d i))) (val_main_v142 (F := Ideal) x0 x1 x2 (ix4 b d k i)) := by
  rw [same143]
  refine (chunk_apply _ _ _ _ z143 _ b d k i _ fun x => (h143 x0 x1 x2 b d x k).trans (g1 x0 x1 x2 hx b d _ k)).trans ?_
  have e1 : (fun x => (val_main_v143 (F := Ideal) x0 (ix4 b d x k) : EReal)) = fun x => x0 (ix3 b ((pos 3 x).rev) (kcol d k)) :=
    funext fun x => (k143 x0 b d x k).trans (v15_apply x0 b d _ k)
  have e2 : (fun x => (val_main_v144 (F := Ideal) x0 (ix4 b d x i) : EReal)) = fun x => x0 (ix3 b ((pos 3 x).rev) (vcol d i)) :=
    funext fun x => (w143 x0 b d x i).trans (v17_apply x0 b d _ i)
  rw [e1, e2]

/-- The forward state at the end. -/
theorem value0_apply (b : Fin 16) (d : Fin 4) (i : Fin 256) (k : Fin 128) :
    (val_main_v159 (F := Ideal) x0 x1 x2 (ix4 b d i k) : EReal)
      = final (fun l => gam (logit x0 x1 x2 0 b l (hcol d k))) (fun l => x0 (ix3 b l (kcol d k)))
          (fun l => x0 (ix3 b l (vcol d i))) := by
  have e : (val_main_v159 (F := Ideal) x0 x1 x2 (ix4 b d i k) : EReal) = val_main_v90 (F := Ideal) x0 x1 x2 (ix4 b d k i) := by
    unfold val_main_v159
    generalize val_main_v90 (F := Ideal) x0 x1 x2 = A
    pointwise []
  have z : (val_main_v26 (F := Ideal) (ix4 b d k i) : EReal) = 0 := by
    pointwise [val_main_v26, val_main_cst_0]
  rw [e, s75 x0 x1 x2 hx, s59 x0 x1 x2 hx, s43 x0 x1 x2 hx, s27 x0 x1 x2 hx, z]
  rfl

/-- The backward state at the end. -/
theorem value1_apply (b : Fin 16) (d : Fin 4) (i : Fin 256) (k : Fin 128) :
    (val_main_v160 (F := Ideal) x0 x1 x2 (ix4 b d i k) : EReal)
      = final (fun l => gam (logit x0 x1 x2 1 b l.rev (hcol d k))) (fun l => x0 (ix3 b l.rev (kcol d k)))
          (fun l => x0 (ix3 b l.rev (vcol d i))) := by
  have e : (val_main_v160 (F := Ideal) x0 x1 x2 (ix4 b d i k) : EReal) = val_main_v158 (F := Ideal) x0 x1 x2 (ix4 b d k i) := by
    unfold val_main_v160
    generalize val_main_v158 (F := Ideal) x0 x1 x2 = A
    pointwise []
  have z : (val_main_v94 (F := Ideal) (ix4 b d k i) : EReal) = 0 := by
    pointwise [val_main_v94, val_main_cst_1]
  rw [e, s143 x0 x1 x2 hx, s127 x0 x1 x2 hx, s111 x0 x1 x2 hx, s95 x0 x1 x2 hx, z]
  rfl

end Cert.GlcRefIdeal.At

end
-- ==== Proof.GlcFinal.lean ====
/-
  The two final states of the context's recurrence as the program leaves them, entry by entry.
-/
module

public import proofs.«01_k».proof.Proof.GlcOut
public import proofs.«01_k».proof.Proof.GlcRefValue

@[expose] public section

set_option maxRecDepth 16384

noncomputable section

namespace Cert.GlcIdeal.Final

open Cert.GlcSum Cert.GlcIdeal Cert.GlcIdeal.Gen Cert.GlcIdeal.Pay Cert.GlcIdeal.Blocks Cert.GlcIdeal.Out Idealize.ShloMosaic Idealize.ShloMosaic.TcCoe Idealize.SL.Sem
open Cert.GlcRefIdeal.At (logit hcol kcol vcol)

variable (m : (ℓ : Loc nD τ sig) → Buf (Elt Ideal) ℓ)

/-- A product with a table that is zero past its first 16 rows. -/
theorem sum_low (f : Fin 128 → EReal) (g : Fin 16 → EReal) :
    (∑ r : Fin 128, f r * (if h : r.val < 16 then g ⟨r.val, h⟩ else 0)) = ∑ r : Fin 16, f ⟨r.val, by omega⟩ * g r := by
  have e := Fin.sum_univ_add (a := 16) (b := 112) (fun r : Fin (16 + 112) => f r * (if h : r.val < 16 then g ⟨r.val, h⟩ else 0))
  refine e.trans ?_
  have z : ∀ i : Fin 112, ¬ ((Fin.natAdd 16 i : Fin (16 + 112)).val < 16) := fun i => by rw [Fin.val_natAdd]; omega
  refine (congrArg₂ (fun a b : EReal => a + b) rfl (Finset.sum_eq_zero fun i _ => by rw [dif_neg (z i), mul_zero])).trans ?_
  rw [add_zero]
  refine Finset.sum_congr rfl fun i _ => ?_
  rw [dif_pos (show (Fin.castAdd 112 i).val < 16 from i.isLt)]
  rfl

/-- A product with a table that is zero outside its rows 16 to 31. -/
theorem sum_high (f : Fin 128 → EReal) (g : Fin 16 → EReal) :
    (∑ r : Fin 128, f r * (if h : 16 ≤ r.val ∧ r.val - 16 < 16 then g ⟨r.val - 16, h.2⟩ else 0)) = ∑ r : Fin 16, f ⟨16 + r.val, by omega⟩ * g r := by
  have e := Fin.sum_univ_add (a := 16) (b := 112) (fun r : Fin (16 + 112) => f r * (if h : 16 ≤ r.val ∧ r.val - 16 < 16 then g ⟨r.val - 16, h.2⟩ else 0))
  refine e.trans ?_
  have z : ∀ i : Fin 16, ¬ (16 ≤ (Fin.castAdd 112 i : Fin (16 + 112)).val ∧ (Fin.castAdd 112 i : Fin (16 + 112)).val - 16 < 16) := fun i => by
    rw [Fin.val_castAdd]; omega
  rw [Finset.sum_congr rfl (fun i _ => by rw [dif_neg (z i), mul_zero]), Finset.sum_const_zero, zero_add]
  have e2 := Fin.sum_univ_add (a := 16) (b := 96) (fun i : Fin (16 + 96) => f (Fin.natAdd 16 i : Fin (16 + 112))
    * (if h : 16 ≤ (Fin.natAdd 16 i : Fin (16 + 112)).val ∧ (Fin.natAdd 16 i : Fin (16 + 112)).val - 16 < 16
        then g ⟨(Fin.natAdd 16 i : Fin (16 + 112)).val - 16, h.2⟩ else 0))
  refine e2.trans ?_
  have z2 : ∀ i : Fin 96, ¬ (16 ≤ (Fin.natAdd 16 (Fin.natAdd 16 i : Fin (16 + 96)) : Fin (16 + 112)).val
      ∧ (Fin.natAdd 16 (Fin.natAdd 16 i : Fin (16 + 96)) : Fin (16 + 112)).val - 16 < 16) := fun i => by
    rw [Fin.val_natAdd, Fin.val_natAdd]; omega
  refine (congrArg₂ (fun a b : EReal => a + b) rfl (Finset.sum_eq_zero fun i _ => by rw [dif_neg (z2 i), mul_zero])).trans ?_
  rw [add_zero]
  refine Finset.sum_congr rfl fun i _ => ?_
  have h1 : 16 ≤ (Fin.natAdd 16 (Fin.castAdd 96 i) : Fin (16 + 112)).val ∧ (Fin.natAdd 16 (Fin.castAdd 96 i) : Fin (16 + 112)).val - 16 < 16 := by
    rw [Fin.val_natAdd, Fin.val_castAdd]; omega
  rw [dif_pos h1]
  refine congrArg₂ (fun a b : EReal => a * b) rfl (congrArg g (Fin.ext ?_))
  show 16 + i.val - 16 = i.val
  omega

theorem bX1 (c : Dev nD) (t : Fin cfg0.N) (l : Fin 256) (i : Fin 256) :
    X0_1 m c t (ix3 0 l i) = m ((c : Thread nD τ).loc main_arg0) (ix3 (seq t.val t.isLt) l (vcol (head t.val) i)) := by
  unfold X0_1 Pipeline.Window.fill
  rw [dif_pos (moved0_1 t _)]
  unfold seq head vcol
  blk_ext! [iblk, V, idx t]

theorem bX4 (c : Dev nD) (t : Fin cfg0.N) (l : Fin 256) (i : Fin 256) :
    X0_4 m c t (ix3 0 l i) = m ((c : Thread nD τ).loc main_arg0) (ix3 (seq t.val t.isLt) l (vcol (head t.val) i)) := by
  unfold X0_4 Pipeline.Window.fill
  rw [dif_pos (moved0_4 t _)]
  unfold seq head vcol
  blk_ext! [iblk, V, idx t]

/-- The logit of a decay, of the program's arguments. -/
def lg (c : Dev nD) (e : Fin 2) (b : Fin 16) (l : Fin 256) (j : Fin 512) : EReal :=
  logit (m ((c : Thread nD τ).loc main_arg0)) (m ((c : Thread nD τ).loc main_arg1)) (m ((c : Thread nD τ).loc main_arg2)) e b l j

theorem pre_fwd (c : Dev nD) (t : Fin cfg0.N) (l : Fin 256) (j : Fin 128) :
    pre (fun r => iblk m c 2 t (ix3 0 l r)) (fun r => iblk m c 6 t (ix3 0 r j)) (iblk m c 8 t (ix3 0 0 j))
      = lg m c 0 (seq t.val t.isLt) l (hcol (head t.val) j) := by
  have a := funext fun r => b2 m c t l r
  have w := funext fun r => (b6 m c t r j).trans (e6 m c (head t.val) r j)
  rw [a, w, b8 m c t j, e15]
  unfold pre
  rw [sum_low (fun r => m ((c : Thread nD τ).loc main_arg0) (ix3 (seq t.val t.isLt) l ⟨1536 + r.val, by omega⟩))
    (fun r => m ((c : Thread nD τ).loc main_arg1) (ix4 0 0 r ⟨(head t.val).val * 128 + j.val, by omega⟩))]
  unfold lg logit hcol
  refine congrArg₂ (fun a b : EReal => a + b) (Finset.sum_congr rfl fun r _ => congrArg₂ (fun a b : EReal => a * b) ?_ rfl) rfl
  refine congrArg (fun i => m ((c : Thread nD τ).loc main_arg0) (ix3 (seq t.val t.isLt) l i)) (Fin.ext ?_)
  show 1536 + r.val = 1536 + (0 * 16 + r.val)
  omega

theorem pre_bwd (c : Dev nD) (t : Fin cfg0.N) (l : Fin 256) (j : Fin 128) :
    pre (fun r => iblk m c 5 t (ix3 0 l r)) (fun r => iblk m c 7 t (ix3 0 r j)) (iblk m c 9 t (ix3 0 0 j))
      = lg m c 1 (seq t.val t.isLt) l (hcol (head t.val) j) := by
  have a := funext fun r => b5 m c t l r
  have w := funext fun r => (b7 m c t r j).trans (e10 m c (head t.val) r j)
  rw [a, w, b9 m c t j, e17]
  unfold pre
  rw [sum_high (fun r => m ((c : Thread nD τ).loc main_arg0) (ix3 (seq t.val t.isLt) l ⟨1536 + r.val, by omega⟩))
    (fun r => m ((c : Thread nD τ).loc main_arg1) (ix4 0 1 r ⟨(head t.val).val * 128 + j.val, by omega⟩))]
  unfold lg logit hcol
  refine congrArg₂ (fun a b : EReal => a + b) (Finset.sum_congr rfl fun r _ => congrArg₂ (fun a b : EReal => a * b) ?_ rfl) rfl
  refine congrArg (fun i => m ((c : Thread nD τ).loc main_arg0) (ix3 (seq t.val t.isLt) l i)) (Fin.ext ?_)
  show 1536 + (16 + r.val) = 1536 + (1 * 16 + r.val)
  omega

/-- The forward state of sequence `b` and head `d` at the end. -/
def endF (c : Dev nD) (b : Fin 16) (d : Fin 4) (i : Fin 256) (k : Fin 128) : EReal :=
  final (fun l => gam (lg m c 0 b l (hcol d k))) (fun l => m ((c : Thread nD τ).loc main_arg0) (ix3 b l (kcol d k)))
    (fun l => m ((c : Thread nD τ).loc main_arg0) (ix3 b l (vcol d i)))

/-- The backward state. -/
def endB (c : Dev nD) (b : Fin 16) (d : Fin 4) (i : Fin 256) (k : Fin 128) : EReal :=
  final (fun l => gam (lg m c 1 b l.rev (hcol d k))) (fun l => m ((c : Thread nD τ).loc main_arg0) (ix3 b l.rev (kcol d k)))
    (fun l => m ((c : Thread nD τ).loc main_arg0) (ix3 b l.rev (vcol d i)))

section Out
variable (c : Dev nD) (hx : ∀ e b l j, lg m c e b l j ≠ ⊥) (t : Fin cfg0.N)
include hx

theorem out0_at (i : Fin 256) (k : Fin 128) :
    (outsAt0 m c t).1 (ix4 0 0 i k) = endF m c (seq t.val t.isLt) (head t.val) i k := by
  rw [out0_eq]
  have hγ : ∀ (l : Fin 256) (j : Fin 128), gam (lg m c 0 (seq t.val t.isLt) l (hcol (head t.val) j)) ≤ 0 := fun l j => gam_nonpos _
  have hg : ∀ (l : Fin 256) (j : Fin 128), gate (pre (fun r => iblk m c 2 t (ix3 0 l r)) (fun r => iblk m c 6 t (ix3 0 r j)) (iblk m c 8 t (ix3 0 0 j)))
      = ((gam (lg m c 0 (seq t.val t.isLt) l (hcol (head t.val) j)) : ℝ) : EReal) := fun l j => by
    rw [pre_fwd, gate_eq _ (hx _ _ _ _)]
  have p3 : (k0_pay2 (iblk m c 14 t) (ix2 i k) : EReal) = 0 := by
    refine Eq.trans ?_ (b14 m c t i k)
    pointwise [k0_pay2]
  have pay : ∀ S : FVec Ideal S256x128 .f32, k0_pay47 S (ix4 0 0 i k) = S (ix2 i k) := fun S => by pointwise [k0_pay47]
  refine (pay _).trans ((chain_fwd (iblk m c 0 t) (iblk m c 2 t) (X0_1 m c t) (iblk m c 6 t) (iblk m c 8 t) (iblk m c 10 t) _
    (fun l j => gam (lg m c 0 (seq t.val t.isLt) l (hcol (head t.val) j))) hγ hg
    (fun x => (b10 m c t 896 x).trans (Table.fwd_ones x)) (fun i x => (b10 m c t _ x).trans (Table.fwd_row i x)) i k p3 _ _ _ _ _ _ _ _).trans ?_)
  unfold endF kcol
  simp only [b0, bX1]

theorem out1_at (i : Fin 256) (k : Fin 128) :
    (outsAt0 m c t).2 (ix4 0 0 i k) = endB m c (seq t.val t.isLt) (head t.val) i k := by
  rw [out1_eq]
  have hγ : ∀ (l : Fin 256) (j : Fin 128), gam (lg m c 1 (seq t.val t.isLt) l (hcol (head t.val) j)) ≤ 0 := fun l j => gam_nonpos _
  have hg : ∀ (l : Fin 256) (j : Fin 128), gate (pre (fun r => iblk m c 5 t (ix3 0 l r)) (fun r => iblk m c 7 t (ix3 0 r j)) (iblk m c 9 t (ix3 0 0 j)))
      = ((gam (lg m c 1 (seq t.val t.isLt) l (hcol (head t.val) j)) : ℝ) : EReal) := fun l j => by
    rw [pre_bwd, gate_eq _ (hx _ _ _ _)]
  have p3 : (k0_pay3 (iblk m c 15 t) (ix2 i k) : EReal) = 0 := by
    refine Eq.trans ?_ (b15 m c t i k)
    pointwise [k0_pay3]
  have pay : ∀ S : FVec Ideal S256x128 .f32, k0_pay1 S (ix4 0 0 i k) = S (ix2 i k) := fun S => by pointwise [k0_pay1]
  refine (pay _).trans ((chain_bwd (iblk m c 3 t) (iblk m c 5 t) (X0_4 m c t) (iblk m c 7 t) (iblk m c 9 t) (iblk m c 11 t) _
    (fun l j => gam (lg m c 1 (seq t.val t.isLt) l (hcol (head t.val) j))) hγ hg
    (fun x => (b11 m c t 896 x).trans (Table.bwd_ones x)) (fun i x => (b11 m c t _ x).trans (Table.bwd_row i x)) i k p3 _ _ _ _ _ _ _ _).trans ?_)
  unfold endB kcol
  simp only [b3, bX4]

end Out

/-- The forward states' array, entry by entry. -/
theorem final16 (c : Dev nD) (hx : ∀ e b l j, lg m c e b l j ≠ ⊥) (G : Buf (Elt Ideal) ((c : Thread nD τ).loc main_v18_0))
    (hG : ∀ (b : Fin 16) (d : Fin 4) (i : Fin 256) (k : Fin 128), G (ix4 b d i k) = endF m c b d i k) :
    (dats m 0 c).arrAt 16 cfg0.N = G := by
  refine (dats m 0 c).arrAt_eq_of_covers 16 G (by decide +kernel) fun t hf y => ?_
  have h0 : (y 0).val < 1 := (y 0).isLt
  have h1 : (y 1).val < 1 := (y 1).isLt
  have h2 : (y 2).val < 256 := (y 2).isLt
  have h3 : (y 3).val < 128 := (y 3).isLt
  obtain ⟨o0, o1, o2, o3, o4, o5, o6, o7, o8, o9, o10, o11, o14, o15, o16, o17⟩ := idx t
  have ey : ((cfg0.win 16).blk t).view.emb y = (ix4 (seq t.val t.isLt) (head t.val) ⟨(y 2).val, h2⟩ ⟨(y 3).val, h3⟩ : S16x4x256x128.Idx) := by
    funext a
    apply Fin.ext
    match a with
    | ⟨0, _⟩ =>
      show win0_16.index t (0 : Fin 4) * 1 + 1 * (y 0).val = t.val / 4
      rw [o16]; simp
    | ⟨1, _⟩ =>
      show win0_16.index t (1 : Fin 4) * 1 + 1 * (y 1).val = t.val % 4
      rw [o16]; simp
    | ⟨2, _⟩ =>
      show win0_16.index t (2 : Fin 4) * 256 + 1 * (y 2).val = (y 2).val
      rw [o16]; simp
    | ⟨3, _⟩ =>
      show win0_16.index t (3 : Fin 4) * 128 + 1 * (y 3).val = (y 3).val
      rw [o16]; simp
  have ex : (cfg0.win 16).xinj (grid0.coords t) y = (ix4 (0 : Fin 1) (0 : Fin 1) ⟨(y 2).val, h2⟩ ⟨(y 3).val, h3⟩ : S1x1x256x128.Idx) := by
    funext a
    apply Fin.ext
    match a with
    | ⟨0, _⟩ => exact (Nat.lt_one_iff.mp h0)
    | ⟨1, _⟩ => exact (Nat.lt_one_iff.mp h1)
    | ⟨2, _⟩ => rfl
    | ⟨3, _⟩ => rfl
  refine Eq.trans ?_ ((hG _ _ _ _).symm.trans (congrArg G ey.symm))
  show (dats m 0 c).after 16 t ((cfg0.win 16).xinj (grid0.coords t) y) = _
  rw [after0_16, ex]
  exact out0_at m c hx t _ _

/-- The backward states' array, entry by entry. -/
theorem final17 (c : Dev nD) (hx : ∀ e b l j, lg m c e b l j ≠ ⊥) (G : Buf (Elt Ideal) ((c : Thread nD τ).loc main_v18_1))
    (hG : ∀ (b : Fin 16) (d : Fin 4) (i : Fin 256) (k : Fin 128), G (ix4 b d i k) = endB m c b d i k) :
    (dats m 0 c).arrAt 17 cfg0.N = G := by
  refine (dats m 0 c).arrAt_eq_of_covers 17 G (by decide +kernel) fun t hf y => ?_
  have h0 : (y 0).val < 1 := (y 0).isLt
  have h1 : (y 1).val < 1 := (y 1).isLt
  have h2 : (y 2).val < 256 := (y 2).isLt
  have h3 : (y 3).val < 128 := (y 3).isLt
  obtain ⟨o0, o1, o2, o3, o4, o5, o6, o7, o8, o9, o10, o11, o14, o15, o16, o17⟩ := idx t
  have ey : ((cfg0.win 17).blk t).view.emb y = (ix4 (seq t.val t.isLt) (head t.val) ⟨(y 2).val, h2⟩ ⟨(y 3).val, h3⟩ : S16x4x256x128.Idx) := by
    funext a
    apply Fin.ext
    match a with
    | ⟨0, _⟩ =>
      show win0_17.index t (0 : Fin 4) * 1 + 1 * (y 0).val = t.val / 4
      rw [o17]; simp
    | ⟨1, _⟩ =>
      show win0_17.index t (1 : Fin 4) * 1 + 1 * (y 1).val = t.val % 4
      rw [o17]; simp
    | ⟨2, _⟩ =>
      show win0_17.index t (2 : Fin 4) * 256 + 1 * (y 2).val = (y 2).val
      rw [o17]; simp
    | ⟨3, _⟩ =>
      show win0_17.index t (3 : Fin 4) * 128 + 1 * (y 3).val = (y 3).val
      rw [o17]; simp
  have ex : (cfg0.win 17).xinj (grid0.coords t) y = (ix4 (0 : Fin 1) (0 : Fin 1) ⟨(y 2).val, h2⟩ ⟨(y 3).val, h3⟩ : S1x1x256x128.Idx) := by
    funext a
    apply Fin.ext
    match a with
    | ⟨0, _⟩ => exact (Nat.lt_one_iff.mp h0)
    | ⟨1, _⟩ => exact (Nat.lt_one_iff.mp h1)
    | ⟨2, _⟩ => rfl
    | ⟨3, _⟩ => rfl
  refine Eq.trans ?_ ((hG _ _ _ _).symm.trans (congrArg G ey.symm))
  show (dats m 0 c).after 17 t ((cfg0.win 17).xinj (grid0.coords t) y) = _
  rw [after0_17, ex]
  exact out1_at m c hx t _ _

end Cert.GlcIdeal.Final

end
-- ==== Proof.GlcClaims.lean ====
/-
  The claims about the context's recurrence: its run, the reference's, and that they end with the same two states.
-/
module

public import proofs.«01_k».proof.Defs
public import proofs.«01_k».proof.Proof.GlcFinal
public import proofs.«01_k».proof.Proof.Gen.Glc.Frame
public import proofs.«01_k».proof.Proof.Gen.Glc
public import proofs.«01_k».proof.Proof.Gen.GlcIdeal
public import proofs.«01_k».proof.Proof.Gen.GlcRefIdeal
public import Idealize.ShloMosaic.Lib.Claim
public import Idealize.ShloMosaic.Lib.Pointwise
public import Idealize.ShloMosaic.Adequacy
public import Idealize.ShloMosaic.Lib.Quiescent

@[expose] public section

set_option maxRecDepth 16384

noncomputable section

/-- The side conditions of the precondition's own operations. -/
theorem Cert.Pre_decays_above.facts : Cert.Pre_decays_above.Facts where
  bitsLt_bf16_f32 := by decide
  slices_S16x256x1664_S16x256x32_0_0_1536 := by decide
  shapeCasts_S16x256x32_S16x256x2x16 := by decide
  shapeCasts_S1x2x16x512_S2x16x512 := by decide
  shapeCasts_S1x2x512_S2x512 := by decide
  bcast_S2x512_S2x1x1x512_0_3 := by decide
  bcast_S2x1x1x512_S2x16x256x512_0_1_2_3 := by decide
  bcast_S_S2x16x256x512 := by decide
  dot_S16x256x2x16_S2x16x512_S2x16x256x512_3_1_01_2_2_0_wf := by decide

namespace Cert.GlcClaims

open Idealize.ShloMosaic Idealize.SL.Sem

theorem frameP : quiescent_Glc (hGlc := Cert.Glc.Gen.facts) := fun m g _ => Cert.Glc.Gen.frame m g

theorem framePI : quiescent_GlcIdeal (hGlcIdeal := Cert.GlcIdeal.Gen.facts) := fun m g _ => Cert.GlcIdeal.Gen.frame m g

theorem framePI_pre : quiescent_GlcIdeal_pre_decays_above (hGlcIdeal := Cert.GlcIdeal.Gen.facts)
    (hPre_decays_above := Cert.Pre_decays_above.facts) := fun m g _ => Cert.GlcIdeal.Gen.frame m g

theorem frameRI : quiescent_GlcRefIdeal (hGlcRefIdeal := Cert.GlcRefIdeal.Gen.facts) := fun m g _ =>
  (θ_run Cert.GlcRefIdeal.defs _ _).mono (fun r h => ⟨fun c => (h c).2.2, Idealize.ShloMosaic.sem_eq_zero_of_no_sems (by decide) r.2⟩)
    (Cert.GlcRefIdeal.Value.run (F := Ideal) m g)

theorem frameRI_pre : quiescent_GlcRefIdeal_pre_decays_above (hGlcRefIdeal := Cert.GlcRefIdeal.Gen.facts)
    (hPre_decays_above := Cert.Pre_decays_above.facts) := fun m g _ => frameRI m g trivial

/-- The bits of minus infinity. -/
theorem neg_inf : Ideal.ofBits FTy.f32 0xFF800000#32 = ⊥ := by simp [Ideal.ofBits, Ideal.ieee]

/-- The precondition says of every decay's logit that it is not minus infinity. -/
theorem above_of_pre [Cert.Pre_decays_above.Facts] (x0 : FVec Ideal Cert.GlcIdeal.S16x256x1664 .bf16)
    (x1 : FVec Ideal Cert.GlcIdeal.S1x2x16x512 .f32) (x2 : FVec Ideal Cert.GlcIdeal.S1x2x512 .f32)
    (h : Cert.Pre_decays_above.fn (F := Ideal) x0 x1 x2 = fun _ => 1#1) (e : Fin 2) (b : Fin 16) (l : Fin 256) (j : Fin 512) :
    Cert.GlcRefIdeal.At.logit x0 x1 x2 e b l j ≠ ⊥ := by
  have h1 := congrFun h (ix4 e b l j)
  pointwise [Cert.Pre_decays_above.fn] at h1
  intro hh
  have hd : ¬ Ideal.ofBits FTy.f32 0xFF800000#32 < (Cert.GlcRefIdeal.At.logit x0 x1 x2 e b l j : EReal) := by
    rw [neg_inf, hh]
    exact lt_irrefl _
  unfold Cert.GlcRefIdeal.At.logit at hd
  rw [decide_eq_false hd] at h1
  exact absurd h1 (by decide)

/-- From memories that agree on the arguments and with no decay's logit at minus infinity, the kernel and the reference end
    with the same two states. -/
theorem algebraic : algebraic_GlcIdeal_GlcRefIdeal_pre_decays_above (hGlcIdeal := Cert.GlcIdeal.Gen.facts)
    (hGlcRefIdeal := Cert.GlcRefIdeal.Gen.facts) (hPre_decays_above := Cert.Pre_decays_above.facts) := by
  intro m g m' g' hpre hag
  refine ⟨fun c => (Cert.GlcIdeal.Gen.dats m 0 c).arrAt 16 Cert.GlcIdeal.cfg0.N, fun c => (Cert.GlcIdeal.Gen.dats m 0 c).arrAt 17 Cert.GlcIdeal.cfg0.N,
    Cert.GlcIdeal.Value.run_blocks m g,
    (θ_run Cert.GlcRefIdeal.defs _ _).mono (fun r h c => ⟨(h c).1.trans ?_, (h c).2.1.trans ?_, (h c).2.2⟩)
      (Cert.GlcRefIdeal.Value.run (F := Ideal) m' g')⟩
  · obtain ⟨h0, h1, h2⟩ := hag c
    haveI := Cert.Pre_decays_above.facts
    have ha : ∀ e b l j, Cert.GlcIdeal.Final.lg m c e b l j ≠ ⊥ := above_of_pre _ _ _ (hpre c)
    refine (Cert.GlcRefIdeal.Read.val_main_v159_eq (fun ℓ => m' (c, ℓ))).trans ?_
    refine (Cert.GlcIdeal.Final.final16 m c ha _ fun b d i k => ?_).symm
    refine (congrFun (congr (congr (congrArg (Cert.GlcRefIdeal.Read.val_main_v159 (F := Ideal)) h0) h1) h2) (ix4 b d i k)).trans ?_
    exact Cert.GlcRefIdeal.At.value0_apply _ _ _ ha b d i k
  · obtain ⟨h0, h1, h2⟩ := hag c
    haveI := Cert.Pre_decays_above.facts
    have ha : ∀ e b l j, Cert.GlcIdeal.Final.lg m c e b l j ≠ ⊥ := above_of_pre _ _ _ (hpre c)
    refine (Cert.GlcRefIdeal.Read.val_main_v160_eq (fun ℓ => m' (c, ℓ))).trans ?_
    refine (Cert.GlcIdeal.Final.final17 m c ha _ fun b d i k => ?_).symm
    refine (congrFun (congr (congr (congrArg (Cert.GlcRefIdeal.Read.val_main_v160 (F := Ideal)) h0) h1) h2) (ix4 b d i k)).trans ?_
    exact Cert.GlcRefIdeal.At.value1_apply _ _ _ ha b d i k

end Cert.GlcClaims

end
-- ==== Proof.lean ====
/-
  The claims about the six programs of this certificate — the experts' feed-forward, the routing, the input projection, the
  merge of the two mixers, the modulation vectors and the projection of the context — put together.
-/
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Sel
public import proofs.«01_k».proof.Proof.Gen.Sel.Skeleton
public import proofs.«01_k».proof.Proof.Gen.Sel.Launch
public import proofs.«01_k».proof.Proof.Gen.Sel.Points
public import proofs.«01_k».proof.Proof.Gen.Sel.Frame
public import proofs.«01_k».proof.Proof.Gen.SelIdeal
public import proofs.«01_k».proof.Proof.Gen.SelIdeal.Skeleton
public import proofs.«01_k».proof.Proof.Gen.SelIdeal.Launch
public import proofs.«01_k».proof.Proof.Gen.SelIdeal.Points
public import proofs.«01_k».proof.Proof.Gen.SelIdeal.Frame
public import proofs.«01_k».proof.Proof.Gen.SelRefIdeal
public import proofs.«01_k».proof.Proof.Gen.MoeIdeal.Value
public import proofs.«01_k».proof.Proof.Gen.SelIdeal.Value
public import proofs.«01_k».proof.Proof.Gen.MoeRefIdeal.Run
public import proofs.«01_k».proof.Proof.Gen.MoeRefIdeal.Read
public import proofs.«01_k».proof.Proof.Gen.SelRefIdeal.Run
public import proofs.«01_k».proof.Proof.Gen.SelRefIdeal.Read
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.InpIdeal.Value
public import proofs.«01_k».proof.Proof.Gen.InpRefIdeal.Read
public import proofs.«01_k».proof.Proof.Gen.MixIdeal.Value
public import proofs.«01_k».proof.Proof.Gen.MixRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModIdeal.Value
public import proofs.«01_k».proof.Proof.Gen.ModRefIdeal.Run
public import proofs.«01_k».proof.Proof.Gen.ModRefIdeal.Read
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxIdeal.Value
public import proofs.«01_k».proof.Proof.Gen.CtxRefIdeal.Run
public import proofs.«01_k».proof.Proof.Gen.CtxRefIdeal.Read
public import proofs.«01_k».proof.Proof.Gen.Glc
public import proofs.«01_k».proof.Proof.Gen.Glc.Skeleton
public import proofs.«01_k».proof.Proof.Gen.Glc.Launch
public import proofs.«01_k».proof.Proof.Gen.Glc.Points
public import proofs.«01_k».proof.Proof.Gen.Glc.Frame
public import proofs.«01_k».proof.Proof.Gen.GlcIdeal
public import proofs.«01_k».proof.Proof.Gen.GlcIdeal.Skeleton
public import proofs.«01_k».proof.Proof.Gen.GlcIdeal.Launch
public import proofs.«01_k».proof.Proof.Gen.GlcIdeal.Points
public import proofs.«01_k».proof.Proof.Gen.GlcIdeal.Frame
public import proofs.«01_k».proof.Proof.Gen.GlcRefIdeal
public import proofs.«01_k».proof.Proof.Gen.GlcIdeal.Value
public import proofs.«01_k».proof.Proof.Gen.GlcRefIdeal.Run
public import proofs.«01_k».proof.Proof.Gen.GlcRefIdeal.Read
public import proofs.«01_k».proof.Proof.MoeClaims
public import proofs.«01_k».proof.Proof.SelClaims
public import proofs.«01_k».proof.Proof.InpClaims
public import proofs.«01_k».proof.Proof.MixClaims
public import proofs.«01_k».proof.Proof.ModClaims
public import proofs.«01_k».proof.Proof.CtxClaims
public import proofs.«01_k».proof.Proof.GlcClaims
public import Idealize.ShloMosaic.Lib.Quiescent
public import Idealize.ShloMosaic.Adequacy
public import Idealize.ShloMosaic.Init

@[expose] public section

noncomputable section

namespace Cert.Proof

open Idealize.ShloMosaic Idealize.SL.Sem Cert.Moe

theorem claim : Cert.Claim := ⟨Cert.Moe.Gen.facts, Cert.MoeIdeal.Gen.facts, Cert.MoeRefIdeal.Gen.facts, Cert.Sel.Gen.facts, Cert.SelIdeal.Gen.facts, Cert.SelRefIdeal.Gen.facts,
  Cert.Inp.Gen.facts, Cert.InpIdeal.Gen.facts, Cert.InpRefIdeal.Gen.facts, Cert.Mix.Gen.facts, Cert.MixIdeal.Gen.facts, Cert.MixRefIdeal.Gen.facts,
  Cert.Mod.Gen.facts, Cert.ModIdeal.Gen.facts, Cert.ModRefIdeal.Gen.facts, Cert.Ctx.Gen.facts, Cert.CtxIdeal.Gen.facts, Cert.CtxRefIdeal.Gen.facts,
  Cert.Glc.Gen.facts, Cert.GlcIdeal.Gen.facts, Cert.GlcRefIdeal.Gen.facts, Cert.Pre_comb_finite.facts, Cert.Pre_logits_above.facts, Cert.Pre_decays_above.facts,
  Cert.MoeClaims.frameP, Cert.MoeClaims.framePI, Cert.MoeClaims.framePI_pre, Cert.MoeClaims.frameRI, Cert.MoeClaims.frameRI_pre,
  Cert.SelClaims.frameP, Cert.SelClaims.framePI, Cert.SelClaims.framePI_pre, Cert.SelClaims.frameRI, Cert.SelClaims.frameRI_pre,
  Cert.InpClaims.frameP, Cert.InpClaims.framePI, Cert.InpClaims.frameRI,
  Cert.MixClaims.frameP, Cert.MixClaims.framePI, Cert.MixClaims.frameRI,
  Cert.ModClaims.frameP, Cert.ModClaims.framePI, Cert.ModClaims.frameRI,
  Cert.CtxClaims.frameP, Cert.CtxClaims.framePI, Cert.CtxClaims.frameRI,
  Cert.GlcClaims.frameP, Cert.GlcClaims.framePI, Cert.GlcClaims.framePI_pre, Cert.GlcClaims.frameRI, Cert.GlcClaims.frameRI_pre,
  trivial, Cert.MoeClaims.algebraic, trivial, Cert.SelClaims.algebraic, trivial, Cert.InpClaims.algebraic, trivial, Cert.MixClaims.algebraic,
  trivial, Cert.ModClaims.algebraic, trivial, Cert.CtxClaims.algebraic, trivial, Cert.GlcClaims.algebraic⟩

end Cert.Proof

end
